-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_y [hPre_finite_y : Cert.Pre_finite_y.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_y.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_y [hPre_finite_y : Cert.Pre_finite_y.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_y.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_uq [hPre_finite_uq : Cert.Pre_finite_uq.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_uq.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite_uq.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_uq [hPre_finite_uq : Cert.Pre_finite_uq.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_uq.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite_uq.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_finite_y [hKernel6Ideal : Cert.Kernel6Ideal.Facts] [hPre_finite_y : Cert.Pre_finite_y.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_y m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_finite_y [hReference6Ideal : Cert.Reference6Ideal.Facts] [hPre_finite_y : Cert.Pre_finite_y.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_y m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_uq [hKernel8Ideal : Cert.Kernel8Ideal.Facts] [hPre_finite_uq : Cert.Pre_finite_uq.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_uq m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_uq [hReference8Ideal : Cert.Reference8Ideal.Facts] [hPre_finite_uq : Cert.Pre_finite_uq.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_uq m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)) (v5 : (c : Dev Cert.KernelIdeal.nD) → Buf (Elt Ideal) ((c.tc : Thread Cert.KernelIdeal.nD Cert.KernelIdeal.τ).loc Cert.KernelIdeal.main_v11_5)) (v6 : (c : Dev Cert.KernelIdeal.nD) → Buf (Elt Ideal) ((c.tc : Thread Cert.KernelIdeal.nD Cert.KernelIdeal.τ).loc Cert.KernelIdeal.main_v11_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_v11_5) = v5 c
          ∧ r.2.mem ((c.tc : Thread Cert.KernelIdeal.nD Cert.KernelIdeal.τ).loc Cert.KernelIdeal.main_v11_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_v23) = v4 c
          ∧ r.2.mem ((c.tc : Thread Cert.ReferenceIdeal.nD Cert.ReferenceIdeal.τ).loc Cert.ReferenceIdeal.main_v24) = v5 c
          ∧ r.2.mem ((c.tc : Thread Cert.ReferenceIdeal.nD Cert.ReferenceIdeal.τ).loc Cert.ReferenceIdeal.main_v25) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite_y [hKernel6Ideal : Cert.Kernel6Ideal.Facts] [hReference6Ideal : Cert.Reference6Ideal.Facts] [hPre_finite_y : Cert.Pre_finite_y.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_y m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v12)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_v35) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite_uq [hKernel8Ideal : Cert.Kernel8Ideal.Facts] [hReference8Ideal : Cert.Reference8Ideal.Facts] [hPre_finite_uq : Cert.Pre_finite_uq.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_uq m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v13)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v13) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_qk : Cert.Pre_finite_qk.Facts) (hPre_finite_y : Cert.Pre_finite_y.Facts) (hPre_finite_uq : Cert.Pre_finite_uq.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_y (hKernel6Ideal := hKernel6Ideal) (hPre_finite_y := hPre_finite_y)
    ∧ quiescent_Reference6Ideal (hReference6Ideal := hReference6Ideal)
    ∧ quiescent_Reference6Ideal_pre_finite_y (hReference6Ideal := hReference6Ideal) (hPre_finite_y := hPre_finite_y)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_uq (hKernel8Ideal := hKernel8Ideal) (hPre_finite_uq := hPre_finite_uq)
    ∧ quiescent_Reference8Ideal (hReference8Ideal := hReference8Ideal)
    ∧ quiescent_Reference8Ideal_pre_finite_uq (hReference8Ideal := hReference8Ideal) (hPre_finite_uq := hPre_finite_uq)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_y (hKernel6Ideal := hKernel6Ideal) (hReference6Ideal := hReference6Ideal) (hPre_finite_y := hPre_finite_y)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_uq (hKernel8Ideal := hKernel8Ideal) (hReference8Ideal := hReference8Ideal) (hPre_finite_uq := hPre_finite_uq)
-- ==== Pre_finite_qk.lean ====
abbrev S2x16x4096x192 : Shape := ⟨4, ![2, 16, 4096, 192]⟩
abbrev S2x16x4352x192 : Shape := ⟨4, ![2, 16, 4352, 192]⟩
abbrev S2x16x4352x128 : Shape := ⟨4, ![2, 16, 4352, 128]⟩
abbrev S2048x5632 : Shape := ⟨2, ![2048, 5632]⟩
abbrev S5632x2048 : Shape := ⟨2, ![5632, 2048]⟩
abbrev S1024x2048 : Shape := ⟨2, ![1024, 2048]⟩
abbrev S2048x2048 : Shape := ⟨2, ![2048, 2048]⟩
abbrev S_ : Shape := ⟨0, ![]⟩

class Facts : Prop where
  bcast_S_S2x16x4096x192 : S_.BroadcastsInDim S2x16x4096x192 (![] : Fin 0 → Fin S2x16x4096x192.rank)
  bcast_S_S2x16x4352x192 : S_.BroadcastsInDim S2x16x4352x192 (![] : Fin 0 → Fin S2x16x4352x192.rank)

variable [Facts]

def fn {F : FTy → Type} [FloatOps F] (main_arg0 : FVec F S2x16x4096x192 .f32) (main_arg1 : FVec F S2x16x4352x192 .f32) (main_arg2 : FVec F S2x16x4352x128 .f32) (main_arg3 : FVec F S2048x5632 .f32) (main_arg4 : FVec F S2048x5632 .f32) (main_arg5 : FVec F S5632x2048 .f32) (main_arg6 : FVec F S1024x2048 .f32) (main_arg7 : FVec F S2048x2048 .f32) (main_arg8 : FVec F S2048x2048 .f32) : IVec S2x16x4096x192 1 × IVec S2x16x4352x192 1 :=
  let main_v0 : FVec F S2x16x4096x192 .f32 := Host.absf main_arg0
  let main_cst : FVec F S_ .f32 := constant S_ .f32 0x7F800000#32
  let main_v1 : FVec F S2x16x4096x192 .f32 := broadcastInDim S2x16x4096x192 ![] bcast_S_S2x16x4096x192 main_cst
  let main_v2 : IVec S2x16x4096x192 1 := cmpf .olt main_v0 main_v1
  let main_v3 : FVec F S2x16x4352x192 .f32 := Host.absf main_arg1
  let main_cst_0 : FVec F S_ .f32 := constant S_ .f32 0x7F800000#32
  let main_v4 : FVec F S2x16x4352x192 .f32 := broadcastInDim S2x16x4352x192 ![] bcast_S_S2x16x4352x192 main_cst_0
  let main_v5 : IVec S2x16x4352x192 1 := cmpf .olt main_v3 main_v4
  (main_v2, main_v5)
-- ==== Pre_finite_uq.lean ====
abbrev S2x4352x5120 : Shape := ⟨3, ![2, 4352, 5120]⟩
abbrev S512 : Shape := ⟨1, ![512]⟩
abbrev S512x3072 : Shape := ⟨2, ![512, 3072]⟩
abbrev S4096x64 : Shape := ⟨2, ![4096, 64]⟩
abbrev S_ : Shape := ⟨0, ![]⟩

class Facts : Prop where
  bcast_S_S512 : S_.BroadcastsInDim S512 (![] : Fin 0 → Fin S512.rank)
  bcast_S_S512x3072 : S_.BroadcastsInDim S512x3072 (![] : Fin 0 → Fin S512x3072.rank)

variable [Facts]

def fn {F : FTy → Type} [FloatOps F] (main_arg0 : FVec F S2x4352x5120 .f32) (main_arg1 : FVec F S512 .f32) (main_arg2 : FVec F S512x3072 .f32) (main_arg3 : FVec F S4096x64 .f32) (main_arg4 : FVec F S4096x64 .f32) : IVec S512 1 × IVec S512x3072 1 :=
  let main_v0 : FVec F S512 .f32 := Host.absf main_arg1
  let main_cst : FVec F S_ .f32 := constant S_ .f32 0x7F800000#32
  let main_v1 : FVec F S512 .f32 := broadcastInDim S512 ![] bcast_S_S512 main_cst
  let main_v2 : IVec S512 1 := cmpf .olt main_v0 main_v1
  let main_v3 : FVec F S512x3072 .f32 := Host.absf main_arg2
  let main_cst_0 : FVec F S_ .f32 := constant S_ .f32 0x7F800000#32
  let main_v4 : FVec F S512x3072 .f32 := broadcastInDim S512x3072 ![] bcast_S_S512x3072 main_cst_0
  let main_v5 : IVec S512x3072 1 := cmpf .olt main_v3 main_v4
  (main_v2, main_v5)
-- ==== Pre_finite_y.lean ====
abbrev S2x2x4352x1024 : Shape := ⟨4, ![2, 2, 4352, 1024]⟩
abbrev S2x4352x1024 : Shape := ⟨3, ![2, 4352, 1024]⟩
abbrev S1024 : Shape := ⟨1, ![1024]⟩
abbrev S2x4096x2048 : Shape := ⟨3, ![2, 4096, 2048]⟩
abbrev S1024x2048 : Shape := ⟨2, ![1024, 2048]⟩
abbrev S2048x2048 : Shape := ⟨2, ![2048, 2048]⟩
abbrev S2x4096x4096 : Shape := ⟨3, ![2, 4096, 4096]⟩
abbrev S_ : Shape := ⟨0, ![]⟩

class Facts : Prop where
  bcast_S_S2x2x4352x1024 : S_.BroadcastsInDim S2x2x4352x1024 (![] : Fin 0 → Fin S2x2x4352x1024.rank)

variable [Facts]

def fn {F : FTy → Type} [FloatOps F] (main_arg0 : FVec F S2x2x4352x1024 .f32) (main_arg1 : FVec F S2x4352x1024 .bf16) (main_arg2 : FVec F S2x4352x1024 .bf16) (main_arg3 : FVec F S1024 .f32) (main_arg4 : FVec F S1024 .f32) (main_arg5 : FVec F S2x4096x2048 .bf16) (main_arg6 : FVec F S1024x2048 .bf16) (main_arg7 : FVec F S2048x2048 .bf16) (main_arg8 : FVec F S2x4096x4096 .bf16) : IVec S2x2x4352x1024 1 :=
  let main_v0 : FVec F S2x2x4352x1024 .f32 := Host.absf main_arg0
  let main_cst : FVec F S_ .f32 := constant S_ .f32 0x7F800000#32
  let main_v1 : FVec F S2x2x4352x1024 .f32 := broadcastInDim S2x2x4352x1024 ![] bcast_S_S2x2x4352x1024 main_cst
  let main_v2 : IVec S2x2x4352x1024 1 := cmpf .olt main_v0 main_v1
  main_v2
-- ==== Kernel.lean ====
abbrev S2x16x4096x192 : Shape := ⟨4, ![2, 16, 4096, 192]⟩
abbrev S2x16x4352x192 : Shape := ⟨4, ![2, 16, 4352, 192]⟩
abbrev S2x16x4352x128 : Shape := ⟨4, ![2, 16, 4352, 128]⟩
abbrev S2048x5632 : Shape := ⟨2, ![2048, 5632]⟩
abbrev S5632x2048 : Shape := ⟨2, ![5632, 2048]⟩
abbrev S1024x2048 : Shape := ⟨2, ![1024, 2048]⟩
abbrev S2048x2048 : Shape := ⟨2, ![2048, 2048]⟩
abbrev S_ : Shape := ⟨0, ![]⟩
abbrev S2x16x4352x256 : Shape := ⟨4, ![2, 16, 4352, 256]⟩
abbrev S2x4096x2048 : Shape := ⟨3, ![2, 4096, 2048]⟩
abbrev S1x1x1024x192 : Shape := ⟨4, ![1, 1, 1024, 192]⟩
abbrev S1x1x4352x192 : Shape := ⟨4, ![1, 1, 4352, 192]⟩
abbrev S1x1x4352x256 : Shape := ⟨4, ![1, 1, 4352, 256]⟩
abbrev S16x5632 : Shape := ⟨2, ![16, 5632]⟩
abbrev S64x2048 : Shape := ⟨2, ![64, 2048]⟩
abbrev S16x2048 : Shape := ⟨2, ![16, 2048]⟩
abbrev S1x1024x128 : Shape := ⟨3, ![1, 1024, 128]⟩
abbrev S1024x1024 : Shape := ⟨2, ![1024, 1024]⟩
abbrev S1024x256 : Shape := ⟨2, ![1024, 256]⟩
abbrev S1024x128 : Shape := ⟨2, ![1024, 128]⟩
abbrev S1024x192 : Shape := ⟨2, ![1024, 192]⟩
abbrev S1024 : Shape := ⟨1, ![1024]⟩
abbrev S1024x1 : Shape := ⟨2, ![1024, 1]⟩
abbrev S1x1x1024x256 : Shape := ⟨4, ![1, 1, 1024, 256]⟩
abbrev S1x1x256x192 : Shape := ⟨4, ![1, 1, 256, 192]⟩
abbrev S256x192 : Shape := ⟨2, ![256, 192]⟩
abbrev S1x1x256x256 : Shape := ⟨4, ![1, 1, 256, 256]⟩
abbrev S256x256 : Shape := ⟨2, ![256, 256]⟩

abbrev nBuf : Space → Nat
  | .hbm => 31
  | .vmem => 39
  | .smem => 0
  | _ => 0

abbrev bufTy : (tb : Table) → Fin (tcTables nBuf tb) → BufTy
  | .hbm, ⟨0, _⟩ => ⟨S2x16x4096x192, .f32⟩
  | .hbm, ⟨1, _⟩ => ⟨S2x16x4352x192, .f32⟩
  | .hbm, ⟨2, _⟩ => ⟨S2x16x4352x128, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2x16x4096x192, .f32⟩
  | .hbm, ⟨17, _⟩ => ⟨S2x16x4096x192, .f32⟩
  | .hbm, ⟨18, _⟩ => ⟨S2x16x4096x192, .bf16⟩
  | .hbm, ⟨19, _⟩ => ⟨S2x16x4352x192, .bf16⟩
  | .hbm, ⟨20, _⟩ => ⟨S_, .f32⟩
  | .hbm, ⟨21, _⟩ => ⟨S2x16x4352x128, .f32⟩
  | .hbm, ⟨22, _⟩ => ⟨S2x16x4352x256, .f32⟩
  | .hbm, ⟨23, _⟩ => ⟨S2x16x4352x256, .bf16⟩
  | .hbm, ⟨24, _⟩ => ⟨S2x4096x2048, .bf16⟩
  | .hbm, ⟨25, _⟩ => ⟨S2048x5632, .bf16⟩
  | .hbm, ⟨26, _⟩ => ⟨S2048x5632, .bf16⟩
  | .hbm, ⟨27, _⟩ => ⟨S5632x2048, .bf16⟩
  | .hbm, ⟨28, _⟩ => ⟨S1024x2048, .bf16⟩
  | .hbm, ⟨29, _⟩ => ⟨S2048x2048, .bf16⟩
  | .hbm, ⟨30, _⟩ => ⟨S2048x2048, .bf16⟩
  | .local _ .vmem, ⟨0, _⟩ => ⟨S1x1x1024x192, .bf16⟩
  | .local _ .vmem, ⟨1, _⟩ => ⟨S1x1x1024x192, .bf16⟩
  | .local _ .vmem, ⟨2, _⟩ => ⟨S1x1x4352x192, .bf16⟩
  | .local _ .vmem, ⟨3, _⟩ => ⟨S1x1x4352x192, .bf16⟩
  | .local _ .vmem, ⟨4, _⟩ => ⟨S1x1x4352x256, .bf16⟩
  | .local _ .vmem, ⟨5, _⟩ => ⟨S1x1x4352x256, .bf16⟩
  | .local _ .vmem, ⟨6, _⟩ => ⟨S16x5632, .f32⟩
  | .local _ .vmem, ⟨7, _⟩ => ⟨S16x5632, .f32⟩
  | .local _ .vmem, ⟨8, _⟩ => ⟨S16x5632, .f32⟩
  | .local _ .vmem, ⟨9, _⟩ => ⟨S16x5632, .f32⟩
  | .local _ .vmem, ⟨10, _⟩ => ⟨S64x2048, .f32⟩
  | .local _ .vmem, ⟨11, _⟩ => ⟨S64x2048, .f32⟩
  | .local _ .vmem, ⟨12, _⟩ => ⟨S16x2048, .f32⟩
  | .local _ .vmem, ⟨13, _⟩ => ⟨S16x2048, .f32⟩
  | .local _ .vmem, ⟨14, _⟩ => ⟨S16x2048, .f32⟩
  | .local _ .vmem, ⟨15, _⟩ => ⟨S16x2048, .f32⟩
  | .local _ .vmem, ⟨16, _⟩ => ⟨S16x2048, .f32⟩
  | .local _ .vmem, ⟨17, _⟩ => ⟨S16x2048, .f32⟩
  | .local _ .vmem, ⟨18, _⟩ => ⟨S1x1024x128, .bf16⟩
  | .local _ .vmem, ⟨19, _⟩ => ⟨S1x1024x128, .bf16⟩
  | .local _ .vmem, ⟨20, _⟩ => ⟨S16x5632, .bf16⟩
  | .local _ .vmem, ⟨21, _⟩ => ⟨S16x5632, .bf16⟩
  | .local _ .vmem, ⟨22, _⟩ => ⟨S16x5632, .bf16⟩
  | .local _ .vmem, ⟨23, _⟩ => ⟨S16x5632, .bf16⟩
  | .local _ .vmem, ⟨24, _⟩ => ⟨S64x2048, .bf16⟩
  | .local _ .vmem, ⟨25, _⟩ => ⟨S64x2048, .bf16⟩
  | .local _ .vmem, ⟨26, _⟩ => ⟨S16x2048, .bf16⟩
  | .local _ .vmem, ⟨27, _⟩ => ⟨S16x2048, .bf16⟩
  | .local _ .vmem, ⟨28, _⟩ => ⟨S16x2048, .bf16⟩
  | .local _ .vmem, ⟨29, _⟩ => ⟨S16x2048, .bf16⟩
  | .local _ .vmem, ⟨30, _⟩ => ⟨S16x2048, .bf16⟩
  | .local _ .vmem, ⟨31, _⟩ => ⟨S16x2048, .bf16⟩
  | .local _ .vmem, ⟨32, _⟩ => ⟨S1024x1024, .f32⟩
  | .local _ .vmem, ⟨33, _⟩ => ⟨S1024x1024, .f32⟩
  | .local _ .vmem, ⟨34, _⟩ => ⟨S1024x1024, .bf16⟩
  | .local _ .vmem, ⟨35, _⟩ => ⟨S1024x1024, .bf16⟩
  | .local _ .vmem, ⟨36, _⟩ => ⟨S1024x256, .f32⟩
  | .local _ .vmem, ⟨37, _⟩ => ⟨S1024x128, .f32⟩
  | .local _ .vmem, ⟨38, _⟩ => ⟨S1024x128, .f32⟩
  | _, _ => ⟨S2x16x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev main_v11_4 : Ref sig .tc := ⟨.hbm, 28, rfl⟩
abbrev main_v11_5 : Ref sig .tc := ⟨.hbm, 29, rfl⟩
abbrev main_v11_6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c128_i32 : BitVec 32 := 128#32
  let v4 : BitVec 32 := Scalar.muli v3 c128_i32
  let c128_i32_0 : BitVec 32 := 128#32
  let v5 : BitVec 32 := Scalar.divsi v4 c128_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c0_i32_5 : BitVec 32 := 0#32
  let c0_i32_6 : BitVec 32 := 0#32
  ![v21.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c128_i32 : BitVec 32 := 128#32
  let v4 : BitVec 32 := Scalar.muli v3 c128_i32
  let c128_i32_0 : BitVec 32 := 128#32
  let v5 : BitVec 32 := Scalar.divsi v4 c128_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c0_i32_5 : BitVec 32 := 0#32
  let c0_i32_6 : BitVec 32 := 0#32
  ![v21.toNat, c0_i32_5.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c88_i32 : BitVec 32 := 88#32
  let v4 : BitVec 32 := Scalar.muli v3 c88_i32
  let c128_i32 : BitVec 32 := 128#32
  let v5 : BitVec 32 := Scalar.divsi v4 c128_i32
  let c0_i32 : BitVec 32 := 0#32
  let v6 : BitVec 1 := Scalar.cmpi .sgt v4 c0_i32
  let v7 : BitVec 32 := Scalar.extui v6
  let c0_i32_0 : BitVec 32 := 0#32
  let v8 : BitVec 1 := Scalar.cmpi .slt v4 c0_i32_0
  let v9 : BitVec 32 := Scalar.extui v8
  let v10 : BitVec 32 := Scalar.subi v7 v9
  let c0_i32_1 : BitVec 32 := 0#32
  let v11 : BitVec 1 := Scalar.cmpi .sgt c128_i32 c0_i32_1
  let v12 : BitVec 32 := Scalar.extui v11
  let c0_i32_2 : BitVec 32 := 0#32
  let v13 : BitVec 1 := Scalar.cmpi .slt c128_i32 c0_i32_2
  let v14 : BitVec 32 := Scalar.extui v13
  let v15 : BitVec 32 := Scalar.subi v12 v14
  let v16 : BitVec 1 := Scalar.cmpi .ne v10 v15
  let v17 : BitVec 32 := Scalar.remsi v4 c128_i32
  let c0_i32_3 : BitVec 32 := 0#32
  let v18 : BitVec 1 := Scalar.cmpi .ne v17 c0_i32_3
  let v19 : BitVec 1 := Scalar.andi v16 v18
  let c1_i32 : BitVec 32 := 1#32
  let v20 : BitVec 32 := Scalar.subi v5 c1_i32
  let v21 : BitVec 32 := Scalar.select v19 v20 v5
  let c0_i32_4 : BitVec 32 := 0#32
  let c0_i32_5 : BitVec 32 := 0#32
  ![v21.toNat, c0_i32_4.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c64_i32 : BitVec 32 := 64#32
  let v4 : BitVec 32 := Scalar.muli v3 c64_i32
  let c128_i32 : BitVec 32 := 128#32
  let v5 : BitVec 32 := Scalar.divsi v4 c128_i32
  let c0_i32 : BitVec 32 := 0#32
  let v6 : BitVec 1 := Scalar.cmpi .sgt v4 c0_i32
  let v7 : BitVec 32 := Scalar.extui v6
  let c0_i32_0 : BitVec 32 := 0#32
  let v8 : BitVec 1 := Scalar.cmpi .slt v4 c0_i32_0
  let v9 : BitVec 32 := Scalar.extui v8
  let v10 : BitVec 32 := Scalar.subi v7 v9
  let c0_i32_1 : BitVec 32 := 0#32
  let v11 : BitVec 1 := Scalar.cmpi .sgt c128_i32 c0_i32_1
  let v12 : BitVec 32 := Scalar.extui v11
  let c0_i32_2 : BitVec 32 := 0#32
  let v13 : BitVec 1 := Scalar.cmpi .slt c128_i32 c0_i32_2
  let v14 : BitVec 32 := Scalar.extui v13
  let v15 : BitVec 32 := Scalar.subi v12 v14
  let v16 : BitVec 1 := Scalar.cmpi .ne v10 v15
  let v17 : BitVec 32 := Scalar.remsi v4 c128_i32
  let c0_i32_3 : BitVec 32 := 0#32
  let v18 : BitVec 1 := Scalar.cmpi .ne v17 c0_i32_3
  let v19 : BitVec 1 := Scalar.andi v16 v18
  let c1_i32 : BitVec 32 := 1#32
  let v20 : BitVec 32 := Scalar.subi v5 c1_i32
  let v21 : BitVec 32 := Scalar.select v19 v20 v5
  let c0_i32_4 : BitVec 32 := 0#32
  let c0_i32_5 : BitVec 32 := 0#32
  ![v21.toNat, c0_i32_4.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c128_i32 : BitVec 32 := 128#32
  let v4 : BitVec 32 := Scalar.muli v3 c128_i32
  let c128_i32_0 : BitVec 32 := 128#32
  let v5 : BitVec 32 := Scalar.divsi v4 c128_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c0_i32_5 : BitVec 32 := 0#32
  let c0_i32_6 : BitVec 32 := 0#32
  ![v21.toNat, c0_i32_5.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c128_i32 : BitVec 32 := 128#32
  let v4 : BitVec 32 := Scalar.muli v3 c128_i32
  let c128_i32_0 : BitVec 32 := 128#32
  let v5 : BitVec 32 := Scalar.divsi v4 c128_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c0_i32_5 : BitVec 32 := 0#32
  let c0_i32_6 : BitVec 32 := 0#32
  ![v21.toNat, c0_i32_5.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c128_i32 : BitVec 32 := 128#32
  let v4 : BitVec 32 := Scalar.muli v3 c128_i32
  let c128_i32_0 : BitVec 32 := 128#32
  let v5 : BitVec 32 := Scalar.divsi v4 c128_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c0_i32_5 : BitVec 32 := 0#32
  let c0_i32_6 : BitVec 32 := 0#32
  ![v21.toNat, c0_i32_5.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c128_i32 : BitVec 32 := 128#32
  let v4 : BitVec 32 := Scalar.muli v3 c128_i32
  let c128_i32_0 : BitVec 32 := 128#32
  let v5 : BitVec 32 := Scalar.divsi v4 c128_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c0_i32_5 : BitVec 32 := 0#32
  let c0_i32_6 : BitVec 32 := 0#32
  ![v21.toNat, c0_i32_5.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c88_i32 : BitVec 32 := 88#32
  let v4 : BitVec 32 := Scalar.muli v3 c88_i32
  let c128_i32 : BitVec 32 := 128#32
  let v5 : BitVec 32 := Scalar.divsi v4 c128_i32
  let c0_i32 : BitVec 32 := 0#32
  let v6 : BitVec 1 := Scalar.cmpi .sgt v4 c0_i32
  let v7 : BitVec 32 := Scalar.extui v6
  let c0_i32_0 : BitVec 32 := 0#32
  let v8 : BitVec 1 := Scalar.cmpi .slt v4 c0_i32_0
  let v9 : BitVec 32 := Scalar.extui v8
  let v10 : BitVec 32 := Scalar.subi v7 v9
  let c0_i32_1 : BitVec 32 := 0#32
  let v11 : BitVec 1 := Scalar.cmpi .sgt c128_i32 c0_i32_1
  let v12 : BitVec 32 := Scalar.extui v11
  let c0_i32_2 : BitVec 32 := 0#32
  let v13 : BitVec 1 := Scalar.cmpi .slt c128_i32 c0_i32_2
  let v14 : BitVec 32 := Scalar.extui v13
  let v15 : BitVec 32 := Scalar.subi v12 v14
  let v16 : BitVec 1 := Scalar.cmpi .ne v10 v15
  let v17 : BitVec 32 := Scalar.remsi v4 c128_i32
  let c0_i32_3 : BitVec 32 := 0#32
  let v18 : BitVec 1 := Scalar.cmpi .ne v17 c0_i32_3
  let v19 : BitVec 1 := Scalar.andi v16 v18
  let c1_i32 : BitVec 32 := 1#32
  let v20 : BitVec 32 := Scalar.subi v5 c1_i32
  let v21 : BitVec 32 := Scalar.select v19 v20 v5
  let c0_i32_4 : BitVec 32 := 0#32
  let c0_i32_5 : BitVec 32 := 0#32
  ![v21.toNat, c0_i32_4.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c64_i32 : BitVec 32 := 64#32
  let v4 : BitVec 32 := Scalar.muli v3 c64_i32
  let c128_i32 : BitVec 32 := 128#32
  let v5 : BitVec 32 := Scalar.divsi v4 c128_i32
  let c0_i32 : BitVec 32 := 0#32
  let v6 : BitVec 1 := Scalar.cmpi .sgt v4 c0_i32
  let v7 : BitVec 32 := Scalar.extui v6
  let c0_i32_0 : BitVec 32 := 0#32
  let v8 : BitVec 1 := Scalar.cmpi .slt v4 c0_i32_0
  let v9 : BitVec 32 := Scalar.extui v8
  let v10 : BitVec 32 := Scalar.subi v7 v9
  let c0_i32_1 : BitVec 32 := 0#32
  let v11 : BitVec 1 := Scalar.cmpi .sgt c128_i32 c0_i32_1
  let v12 : BitVec 32 := Scalar.extui v11
  let c0_i32_2 : BitVec 32 := 0#32
  let v13 : BitVec 1 := Scalar.cmpi .slt c128_i32 c0_i32_2
  let v14 : BitVec 32 := Scalar.extui v13
  let v15 : BitVec 32 := Scalar.subi v12 v14
  let v16 : BitVec 1 := Scalar.cmpi .ne v10 v15
  let v17 : BitVec 32 := Scalar.remsi v4 c128_i32
  let c0_i32_3 : BitVec 32 := 0#32
  let v18 : BitVec 1 := Scalar.cmpi .ne v17 c0_i32_3
  let v19 : BitVec 1 := Scalar.andi v16 v18
  let c1_i32 : BitVec 32 := 1#32
  let v20 : BitVec 32 := Scalar.subi v5 c1_i32
  let v21 : BitVec 32 := Scalar.select v19 v20 v5
  let c0_i32_4 : BitVec 32 := 0#32
  let c0_i32_5 : BitVec 32 := 0#32
  ![v21.toNat, c0_i32_4.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c128_i32 : BitVec 32 := 128#32
  let v4 : BitVec 32 := Scalar.muli v3 c128_i32
  let c128_i32_0 : BitVec 32 := 128#32
  let v5 : BitVec 32 := Scalar.divsi v4 c128_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c0_i32_5 : BitVec 32 := 0#32
  let c0_i32_6 : BitVec 32 := 0#32
  ![v21.toNat, c0_i32_5.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c128_i32 : BitVec 32 := 128#32
  let v4 : BitVec 32 := Scalar.muli v3 c128_i32
  let c128_i32_0 : BitVec 32 := 128#32
  let v5 : BitVec 32 := Scalar.divsi v4 c128_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c0_i32_5 : BitVec 32 := 0#32
  let c0_i32_6 : BitVec 32 := 0#32
  ![v21.toNat, c0_i32_5.toNat]

abbrev stage0_0 : Fin 2 → Memref sig .tc .vmem S1x1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4352x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S16x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S16x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S16x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S16x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S16x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S16x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]
-- ==== ReferenceIdeal.lean ====
abbrev S2x16x4096x192 : Shape := ⟨4, ![2, 16, 4096, 192]⟩
abbrev S2x16x4352x192 : Shape := ⟨4, ![2, 16, 4352, 192]⟩
abbrev S2x16x4352x128 : Shape := ⟨4, ![2, 16, 4352, 128]⟩
abbrev S2048x5632 : Shape := ⟨2, ![2048, 5632]⟩
abbrev S5632x2048 : Shape := ⟨2, ![5632, 2048]⟩
abbrev S1024x2048 : Shape := ⟨2, ![1024, 2048]⟩
abbrev S2048x2048 : Shape := ⟨2, ![2048, 2048]⟩
abbrev S2x16x4096x4352 : Shape := ⟨4, ![2, 16, 4096, 4352]⟩
abbrev S_ : Shape := ⟨0, ![]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩
abbrev S2x4096x16x128 : Shape := ⟨4, ![2, 4096, 16, 128]⟩
abbrev S2x4096x2048 : Shape := ⟨3, ![2, 4096, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x16x4096x192, .f32⟩
  | .hbm, ⟨1, _⟩ => ⟨S2x16x4352x192, .f32⟩
  | .hbm, ⟨2, _⟩ => ⟨S2x16x4352x128, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2x16x4096x4352, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x16x4096x4352, .f32⟩
  | .hbm, ⟨15, _⟩ => ⟨S2x16x4096x4352, .f32⟩
  | .hbm, ⟨16, _⟩ => ⟨S_, .f32⟩
  | .hbm, ⟨17, _⟩ => ⟨S2x16x4096, .f32⟩
  | .hbm, ⟨18, _⟩ => ⟨S_, .f32⟩
  | .hbm, ⟨19, _⟩ => ⟨S2x16x4096, .f32⟩
  | .hbm, ⟨20, _⟩ => ⟨S2x16x4096, .f32⟩
  | .hbm, ⟨21, _⟩ => ⟨S2x16x4096x1, .f32⟩
  | .hbm, ⟨22, _⟩ => ⟨S2x16x4096x4352, .f32⟩
  | .hbm, ⟨23, _⟩ => ⟨S2x16x4096x4352, .f32⟩
  | .hbm, ⟨24, _⟩ => ⟨S2x16x4096x4352, .f32⟩
  | .hbm, ⟨25, _⟩ => ⟨S_, .f32⟩
  | .hbm, ⟨26, _⟩ => ⟨S2x16x4096, .f32⟩
  | .hbm, ⟨27, _⟩ => ⟨S2x16x4096x1, .f32⟩
  | .hbm, ⟨28, _⟩ => ⟨S2x16x4096x4352, .f32⟩
  | .hbm, ⟨29, _⟩ => ⟨S2x16x4096x4352, .f32⟩
  | .hbm, ⟨30, _⟩ => ⟨S2x16x128x4096, .f32⟩
  | .hbm, ⟨31, _⟩ => ⟨S2x4096x16x128, .f32⟩
  | .hbm, ⟨32, _⟩ => ⟨S2x4096x2048, .f32⟩
  | .hbm, ⟨33, _⟩ => ⟨S2x4096x2048, .bf16⟩
  | .hbm, ⟨34, _⟩ => ⟨S2048x5632, .bf16⟩
  | .hbm, ⟨35, _⟩ => ⟨S2048x5632, .bf16⟩
  | .hbm, ⟨36, _⟩ => ⟨S5632x2048, .bf16⟩
  | .hbm, ⟨37, _⟩ => ⟨S1024x2048, .bf16⟩
  | .hbm, ⟨38, _⟩ => ⟨S2048x2048, .bf16⟩
  | .hbm, ⟨39, _⟩ => ⟨S2048x2048, .bf16⟩
  | _, _ => ⟨S2x16x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel2.lean ====
abbrev S2x4096x2048 : Shape := ⟨3, ![2, 4096, 2048]⟩
abbrev S2048x5632 : Shape := ⟨2, ![2048, 5632]⟩
abbrev S5632x2048 : Shape := ⟨2, ![5632, 2048]⟩
abbrev S3x5632 : Shape := ⟨2, ![3, 5632]⟩
abbrev S5632 : Shape := ⟨1, ![5632]⟩
abbrev S2x2048 : Shape := ⟨2, ![2, 2048]⟩
abbrev S2048 : Shape := ⟨1, ![2048]⟩
abbrev S1x5632 : Shape := ⟨2, ![1, 5632]⟩
abbrev S2x1x2048 : Shape := ⟨3, ![2, 1, 2048]⟩
abbrev S1x2048 : Shape := ⟨2, ![1, 2048]⟩
abbrev S1x512x2048 : Shape := ⟨3, ![1, 512, 2048]⟩
abbrev S1x16x2048 : Shape := ⟨3, ![1, 16, 2048]⟩
abbrev S2048x512 : Shape := ⟨2, ![2048, 512]⟩
abbrev S512x2048 : Shape := ⟨2, ![512, 2048]⟩
abbrev S3x512 : Shape := ⟨2, ![3, 512]⟩
abbrev S1x512 : Shape := ⟨2, ![1, 512]⟩
abbrev S1x1x2048 : Shape := ⟨3, ![1, 1, 2048]⟩
abbrev S16x2048 : Shape := ⟨2, ![16, 2048]⟩
abbrev S544x2048 : Shape := ⟨2, ![544, 2048]⟩
abbrev S544x512 : Shape := ⟨2, ![544, 512]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 24
  | .smem => 0
  | _ => 0

abbrev bufTy : (tb : Table) → Fin (tcTables nBuf tb) → BufTy
  | .hbm, ⟨0, _⟩ => ⟨S2x4096x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S3x5632, .f32⟩
  | .hbm, ⟨5, _⟩ => ⟨S5632, .f32⟩
  | .hbm, ⟨6, _⟩ => ⟨S2x4096x2048, .f32⟩
  | .hbm, ⟨7, _⟩ => ⟨S2x2048, .f32⟩
  | .hbm, ⟨8, _⟩ => ⟨S2048, .f32⟩
  | .hbm, ⟨9, _⟩ => ⟨S1x5632, .f32⟩
  | .hbm, ⟨10, _⟩ => ⟨S2x1x2048, .f32⟩
  | .hbm, ⟨11, _⟩ => ⟨S1x2048, .f32⟩
  | .hbm, ⟨12, _⟩ => ⟨S2x4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x16x2048, .bf16⟩
  | .local _ .vmem, ⟨3, _⟩ => ⟨S1x16x2048, .bf16⟩
  | .local _ .vmem, ⟨4, _⟩ => ⟨S1x16x2048, .bf16⟩
  | .local _ .vmem, ⟨5, _⟩ => ⟨S1x16x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S3x512, .f32⟩
  | .local _ .vmem, ⟨13, _⟩ => ⟨S3x512, .f32⟩
  | .local _ .vmem, ⟨14, _⟩ => ⟨S1x512, .f32⟩
  | .local _ .vmem, ⟨15, _⟩ => ⟨S1x512, .f32⟩
  | .local _ .vmem, ⟨16, _⟩ => ⟨S1x512x2048, .f32⟩
  | .local _ .vmem, ⟨17, _⟩ => ⟨S1x512x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x2048, .f32⟩
  | .local _ .vmem, ⟨21, _⟩ => ⟨S1x512x2048, .f32⟩
  | .local _ .vmem, ⟨22, _⟩ => ⟨S1x512x2048, .f32⟩
  | .local _ .vmem, ⟨23, _⟩ => ⟨S512x2048, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![2, 8, 11], ![false, false, false]⟩

def k0_cond2 (i : grid0.Coords) : BitVec 1 :=
  let arg2 : BitVec 32 := BitVec.ofNat 32 (i 2).val
  let c10_i32 : BitVec 32 := 10#32
  let v74 : BitVec 1 := Scalar.cmpi .eq arg2 c10_i32
  let v75 : BitVec 32 := Scalar.extui v74
  let c0_i32_34 : BitVec 32 := 0#32
  let v76 : BitVec 1 := Scalar.cmpi .ne v75 c0_i32_34
  v76

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1x512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== Reference2Ideal.lean ====
abbrev S2x4096x2048 : Shape := ⟨3, ![2, 4096, 2048]⟩
abbrev S2048x5632 : Shape := ⟨2, ![2048, 5632]⟩
abbrev S5632x2048 : Shape := ⟨2, ![5632, 2048]⟩
abbrev S3x5632 : Shape := ⟨2, ![3, 5632]⟩
abbrev S5632 : Shape := ⟨1, ![5632]⟩
abbrev S2x2048 : Shape := ⟨2, ![2, 2048]⟩
abbrev S2048 : Shape := ⟨1, ![2048]⟩
abbrev S2x4096x5632 : Shape := ⟨3, ![2, 4096, 5632]⟩
abbrev S_ : Shape := ⟨0, ![]⟩
abbrev S2x4098x5632 : Shape := ⟨3, ![2, 4098, 5632]⟩
abbrev S1x5632 : Shape := ⟨2, ![1, 5632]⟩
abbrev S1x1x5632 : Shape := ⟨3, ![1, 1, 5632]⟩
abbrev S2x1x2048 : Shape := ⟨3, ![2, 1, 2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 80
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S3x5632, .f32⟩
  | .hbm, ⟨5, _⟩ => ⟨S5632, .f32⟩
  | .hbm, ⟨6, _⟩ => ⟨S2x4096x2048, .f32⟩
  | .hbm, ⟨7, _⟩ => ⟨S2x2048, .f32⟩
  | .hbm, ⟨8, _⟩ => ⟨S2048, .f32⟩
  | .hbm, ⟨9, _⟩ => ⟨S2x4096x2048, .f32⟩
  | .hbm, ⟨10, _⟩ => ⟨S2048x5632, .f32⟩
  | .hbm, ⟨11, _⟩ => ⟨S2048x5632, .f32⟩
  | .hbm, ⟨12, _⟩ => ⟨S5632x2048, .f32⟩
  | .hbm, ⟨13, _⟩ => ⟨S2x4096x5632, .f32⟩
  | .hbm, ⟨14, _⟩ => ⟨S_, .i32⟩
  | .hbm, ⟨15, _⟩ => ⟨S_, .f32⟩
  | .hbm, ⟨16, _⟩ => ⟨S2x4098x5632, .f32⟩
  | .hbm, ⟨17, _⟩ => ⟨S2x4096x5632, .f32⟩
  | .hbm, ⟨18, _⟩ => ⟨S1x5632, .f32⟩
  | .hbm, ⟨19, _⟩ => ⟨S5632, .f32⟩
  | .hbm, ⟨20, _⟩ => ⟨S1x1x5632, .f32⟩
  | .hbm, ⟨21, _⟩ => ⟨S2x4096x5632, .f32⟩
  | .hbm, ⟨22, _⟩ => ⟨S2x4096x5632, .f32⟩
  | .hbm, ⟨23, _⟩ => ⟨S1x1x5632, .f32⟩
  | .hbm, ⟨24, _⟩ => ⟨S2x4096x5632, .f32⟩
  | .hbm, ⟨25, _⟩ => ⟨S2x4096x5632, .f32⟩
  | .hbm, ⟨26, _⟩ => ⟨S2x4096x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S2x4096x5632, .f32⟩
  | .hbm, ⟨31, _⟩ => ⟨S2x4096x5632, .f32⟩
  | .hbm, ⟨32, _⟩ => ⟨S2x4096x5632, .f32⟩
  | .hbm, ⟨33, _⟩ => ⟨S2x4096x5632, .f32⟩
  | .hbm, ⟨34, _⟩ => ⟨S1x5632, .f32⟩
  | .hbm, ⟨35, _⟩ => ⟨S5632, .f32⟩
  | .hbm, ⟨36, _⟩ => ⟨S1x1x5632, .f32⟩
  | .hbm, ⟨37, _⟩ => ⟨S2x4096x5632, .f32⟩
  | .hbm, ⟨38, _⟩ => ⟨S2x4096x5632, .f32⟩
  | .hbm, ⟨39, _⟩ => ⟨S2x4096x5632, .f32⟩
  | .hbm, ⟨40, _⟩ => ⟨S2x4096x5632, .f32⟩
  | .hbm, ⟨41, _⟩ => ⟨S2x4096x5632, .f32⟩
  | .hbm, ⟨42, _⟩ => ⟨S_, .f32⟩
  | .hbm, ⟨43, _⟩ => ⟨S2x4096x5632, .f32⟩
  | .hbm, ⟨44, _⟩ => ⟨S2x4096x5632, .f32⟩
  | .hbm, ⟨45, _⟩ => ⟨S2x4096x5632, .f32⟩
  | .hbm, ⟨46, _⟩ => ⟨S_, .f32⟩
  | .hbm, ⟨47, _⟩ => ⟨S2x4096x5632, .f32⟩
  | .hbm, ⟨48, _⟩ => ⟨S2x4096x5632, .f32⟩
  | .hbm, ⟨49, _⟩ => ⟨S2x4096x5632, .f32⟩
  | .hbm, ⟨50, _⟩ => ⟨S_, .f32⟩
  | .hbm, ⟨51, _⟩ => ⟨S2x4096x5632, .f32⟩
  | .hbm, ⟨52, _⟩ => ⟨S2x4096x5632, .f32⟩
  | .hbm, ⟨53, _⟩ => ⟨S_, .f32⟩
  | .hbm, ⟨54, _⟩ => ⟨S2x4096x5632, .f32⟩
  | .hbm, ⟨55, _⟩ => ⟨S2x4096x5632, .f32⟩
  | .hbm, ⟨56, _⟩ => ⟨S2x4096x5632, .f32⟩
  | .hbm, ⟨57, _⟩ => ⟨S2x4096x5632, .f32⟩
  | .hbm, ⟨58, _⟩ => ⟨S2x4096x5632, .f32⟩
  | .hbm, ⟨59, _⟩ => ⟨S2x4096x2048, .f32⟩
  | .hbm, ⟨60, _⟩ => ⟨S2x1x2048, .f32⟩
  | .hbm, ⟨61, _⟩ => ⟨S2x4096x2048, .f32⟩
  | .hbm, ⟨62, _⟩ => ⟨S_, .f32⟩
  | .hbm, ⟨63, _⟩ => ⟨S2x4096, .f32⟩
  | .hbm, ⟨64, _⟩ => ⟨S2x4096x1, .f32⟩
  | .hbm, ⟨65, _⟩ => ⟨S_, .f32⟩
  | .hbm, ⟨66, _⟩ => ⟨S2x4096x1, .f32⟩
  | .hbm, ⟨67, _⟩ => ⟨S2x4096x1, .f32⟩
  | .hbm, ⟨68, _⟩ => ⟨S_, .f32⟩
  | .hbm, ⟨69, _⟩ => ⟨S2x4096x1, .f32⟩
  | .hbm, ⟨70, _⟩ => ⟨S2x4096x1, .f32⟩
  | .hbm, ⟨71, _⟩ => ⟨S2x4096x1, .f32⟩
  | .hbm, ⟨72, _⟩ => ⟨S2x4096x2048, .f32⟩
  | .hbm, ⟨73, _⟩ => ⟨S2x4096x2048, .f32⟩
  | .hbm, ⟨74, _⟩ => ⟨S1x1x2048, .f32⟩
  | .hbm, ⟨75, _⟩ => ⟨S2x4096x2048, .f32⟩
  | .hbm, ⟨76, _⟩ => ⟨S2x4096x2048, .f32⟩
  | .hbm, ⟨77, _⟩ => ⟨S2x4096x2048, .f32⟩
  | .hbm, ⟨78, _⟩ => ⟨S2x4096x2048, .f32⟩
  | .hbm, ⟨79, _⟩ => ⟨S2x4096x2048, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_0 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_1 : Ref sig .tc := ⟨.hbm, 50, rfl⟩
abbrev main_v37 : Ref sig .tc := ⟨.hbm, 51, rfl⟩
abbrev main_v38 : Ref sig .tc := ⟨.hbm, 52, rfl⟩
abbrev main_cst_2 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_3 : Ref sig .tc := ⟨.hbm, 62, rfl⟩
abbrev main_v47 : Ref sig .tc := ⟨.hbm, 63, rfl⟩
abbrev main_v48 : Ref sig .tc := ⟨.hbm, 64, rfl⟩
abbrev main_cst_4 : Ref sig .tc := ⟨.hbm, 65, rfl⟩
abbrev main_v49 : Ref sig .tc := ⟨.hbm, 66, rfl⟩
abbrev main_v50 : Ref sig .tc := ⟨.hbm, 67, rfl⟩
abbrev main_cst_5 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Kernel3.lean ====
abbrev S2x4352x2048 : Shape := ⟨3, ![2, 4352, 2048]⟩
abbrev S4096x2048 : Shape := ⟨2, ![4096, 2048]⟩
abbrev S4096 : Shape := ⟨1, ![4096]⟩
abbrev S1x4096 : Shape := ⟨2, ![1, 4096]⟩
abbrev S2x4096x4096 : Shape := ⟨3, ![2, 4096, 4096]⟩
abbrev S1x1024x2048 : Shape := ⟨3, ![1, 1024, 2048]⟩
abbrev S1024x2048 : Shape := ⟨2, ![1024, 2048]⟩
abbrev S1x1024 : Shape := ⟨2, ![1, 1024]⟩
abbrev S1x1024x1024 : Shape := ⟨3, ![1, 1024, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2x4352x2048, .bf16⟩
  | .hbm, ⟨1, _⟩ => ⟨S4096x2048, .bf16⟩
  | .hbm, ⟨2, _⟩ => ⟨S4096, .f32⟩
  | .hbm, ⟨3, _⟩ => ⟨S1x4096, .f32⟩
  | .hbm, ⟨4, _⟩ => ⟨S2x4096x4096, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1x1024x1024, .bf16⟩
  | .local _ .vmem, ⟨7, _⟩ => ⟨S1x1024x1024, .bf16⟩
  | _, _ => ⟨S2x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference3Ideal.lean ====
abbrev S2x4352x2048 : Shape := ⟨3, ![2, 4352, 2048]⟩
abbrev S4096x2048 : Shape := ⟨2, ![4096, 2048]⟩
abbrev S4096 : Shape := ⟨1, ![4096]⟩
abbrev S2x4096x2048 : Shape := ⟨3, ![2, 4096, 2048]⟩
abbrev S2048x4096 : Shape := ⟨2, ![2048, 4096]⟩
abbrev S2x4096x4096 : Shape := ⟨3, ![2, 4096, 4096]⟩
abbrev S1x1x4096 : Shape := ⟨3, ![1, 1, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2x4352x2048, .bf16⟩
  | .hbm, ⟨1, _⟩ => ⟨S4096x2048, .bf16⟩
  | .hbm, ⟨2, _⟩ => ⟨S4096, .f32⟩
  | .hbm, ⟨3, _⟩ => ⟨S2x4352x2048, .f32⟩
  | .hbm, ⟨4, _⟩ => ⟨S4096x2048, .f32⟩
  | .hbm, ⟨5, _⟩ => ⟨S2x4096x2048, .f32⟩
  | .hbm, ⟨6, _⟩ => ⟨S2048x4096, .f32⟩
  | .hbm, ⟨7, _⟩ => ⟨S2x4096x4096, .f32⟩
  | .hbm, ⟨8, _⟩ => ⟨S1x1x4096, .f32⟩
  | .hbm, ⟨9, _⟩ => ⟨S2x4096x4096, .f32⟩
  | .hbm, ⟨10, _⟩ => ⟨S2x4096x4096, .f32⟩
  | .hbm, ⟨11, _⟩ => ⟨S2x4096x4096, .f32⟩
  | .hbm, ⟨12, _⟩ => ⟨S2x4096x4096, .f32⟩
  | .hbm, ⟨13, _⟩ => ⟨S_, .f32⟩
  | .hbm, ⟨14, _⟩ => ⟨S2x4096x4096, .f32⟩
  | .hbm, ⟨15, _⟩ => ⟨S2x4096x4096, .f32⟩
  | .hbm, ⟨16, _⟩ => ⟨S_, .f32⟩
  | .hbm, ⟨17, _⟩ => ⟨S2x4096x4096, .f32⟩
  | .hbm, ⟨18, _⟩ => ⟨S2x4096x4096, .f32⟩
  | .hbm, ⟨19, _⟩ => ⟨S2x4096x4096, .bf16⟩
  | _, _ => ⟨S2x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel4.lean ====
abbrev S2x4096x2048 : Shape := ⟨3, ![2, 4096, 2048]⟩
abbrev S2048x2048 : Shape := ⟨2, ![2048, 2048]⟩
abbrev S2048 : Shape := ⟨1, ![2048]⟩
abbrev S2x2048 : Shape := ⟨2, ![2, 2048]⟩
abbrev S2x2x2048 : Shape := ⟨3, ![2, 2, 2048]⟩
abbrev S1x2048 : Shape := ⟨2, ![1, 2048]⟩
abbrev S2x1x2048 : Shape := ⟨3, ![2, 1, 2048]⟩
abbrev S1x512x2048 : Shape := ⟨3, ![1, 512, 2048]⟩
abbrev S1x1x2048 : Shape := ⟨3, ![1, 1, 2048]⟩
abbrev S1x2x2048 : Shape := ⟨3, ![1, 2, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 15
  | .smem => 0
  | _ => 0

abbrev bufTy : (tb : Table) → Fin (tcTables nBuf tb) → BufTy
  | .hbm, ⟨0, _⟩ => ⟨S2x4096x2048, .bf16⟩
  | .hbm, ⟨1, _⟩ => ⟨S2048x2048, .bf16⟩
  | .hbm, ⟨2, _⟩ => ⟨S2x4096x2048, .f32⟩
  | .hbm, ⟨3, _⟩ => ⟨S2048, .f32⟩
  | .hbm, ⟨4, _⟩ => ⟨S2x2048, .f32⟩
  | .hbm, ⟨5, _⟩ => ⟨S2048, .f32⟩
  | .hbm, ⟨6, _⟩ => ⟨S2x2x2048, .f32⟩
  | .hbm, ⟨7, _⟩ => ⟨S1x2048, .f32⟩
  | .hbm, ⟨8, _⟩ => ⟨S2x1x2048, .f32⟩
  | .hbm, ⟨9, _⟩ => ⟨S1x2048, .f32⟩
  | .hbm, ⟨10, _⟩ => ⟨S2x4096x2048, .f32⟩
  | .hbm, ⟨11, _⟩ => ⟨S2x4096x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x2x2048, .f32⟩
  | .local _ .vmem, ⟨10, _⟩ => ⟨S1x2x2048, .f32⟩
  | .local _ .vmem, ⟨11, _⟩ => ⟨S1x512x2048, .f32⟩
  | .local _ .vmem, ⟨12, _⟩ => ⟨S1x512x2048, .f32⟩
  | .local _ .vmem, ⟨13, _⟩ => ⟨S1x512x2048, .bf16⟩
  | .local _ .vmem, ⟨14, _⟩ => ⟨S1x512x2048, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S2x4096x2048 : Shape := ⟨3, ![2, 4096, 2048]⟩
abbrev S2048x2048 : Shape := ⟨2, ![2048, 2048]⟩
abbrev S2048 : Shape := ⟨1, ![2048]⟩
abbrev S2x2048 : Shape := ⟨2, ![2, 2048]⟩
abbrev S2x2x2048 : Shape := ⟨3, ![2, 2, 2048]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x2048, .bf16⟩
  | .hbm, ⟨2, _⟩ => ⟨S2x4096x2048, .f32⟩
  | .hbm, ⟨3, _⟩ => ⟨S2048, .f32⟩
  | .hbm, ⟨4, _⟩ => ⟨S2x2048, .f32⟩
  | .hbm, ⟨5, _⟩ => ⟨S2048, .f32⟩
  | .hbm, ⟨6, _⟩ => ⟨S2x2x2048, .f32⟩
  | .hbm, ⟨7, _⟩ => ⟨S2x1x2048, .f32⟩
  | .hbm, ⟨8, _⟩ => ⟨S2x2048, .f32⟩
  | .hbm, ⟨9, _⟩ => ⟨S2x1x2048, .f32⟩
  | .hbm, ⟨10, _⟩ => ⟨S2x1x2048, .f32⟩
  | .hbm, ⟨11, _⟩ => ⟨S2x2048, .f32⟩
  | .hbm, ⟨12, _⟩ => ⟨S2x1x2048, .f32⟩
  | .hbm, ⟨13, _⟩ => ⟨S2x1x2048, .f32⟩
  | .hbm, ⟨14, _⟩ => ⟨S2x4096x2048, .f32⟩
  | .hbm, ⟨15, _⟩ => ⟨S2048x2048, .f32⟩
  | .hbm, ⟨16, _⟩ => ⟨S2x4096x2048, .f32⟩
  | .hbm, ⟨17, _⟩ => ⟨S2x4096x2048, .f32⟩
  | .hbm, ⟨18, _⟩ => ⟨S_, .f32⟩
  | .hbm, ⟨19, _⟩ => ⟨S2x4096, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S2x4096x1, .f32⟩
  | .hbm, ⟨28, _⟩ => ⟨S2x4096x2048, .f32⟩
  | .hbm, ⟨29, _⟩ => ⟨S2x4096x2048, .f32⟩
  | .hbm, ⟨30, _⟩ => ⟨S1x1x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S_, .f32⟩
  | .hbm, ⟨38, _⟩ => ⟨S2x4096, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S2x4096x1, .f32⟩
  | .hbm, ⟨47, _⟩ => ⟨S2x4096x2048, .f32⟩
  | .hbm, ⟨48, _⟩ => ⟨S2x4096x2048, .f32⟩
  | .hbm, ⟨49, _⟩ => ⟨S1x1x2048, .f32⟩
  | .hbm, ⟨50, _⟩ => ⟨S2x4096x2048, .f32⟩
  | .hbm, ⟨51, _⟩ => ⟨S2x4096x2048, .f32⟩
  | .hbm, ⟨52, _⟩ => ⟨S_, .f32⟩
  | .hbm, ⟨53, _⟩ => ⟨S2x1x2048, .f32⟩
  | .hbm, ⟨54, _⟩ => ⟨S2x1x2048, .f32⟩
  | .hbm, ⟨55, _⟩ => ⟨S2x4096x2048, .f32⟩
  | .hbm, ⟨56, _⟩ => ⟨S2x4096x2048, .f32⟩
  | .hbm, ⟨57, _⟩ => ⟨S2x4096x2048, .f32⟩
  | .hbm, ⟨58, _⟩ => ⟨S2x4096x2048, .f32⟩
  | .hbm, ⟨59, _⟩ => ⟨S2x4096x2048, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel5.lean ====
abbrev S2x4352x2048 : Shape := ⟨3, ![2, 4352, 2048]⟩
abbrev S5120x2048 : Shape := ⟨2, ![5120, 2048]⟩
abbrev S8704x2048 : Shape := ⟨2, ![8704, 2048]⟩
abbrev S8704x5120 : Shape := ⟨2, ![8704, 5120]⟩
abbrev S2176x2048 : Shape := ⟨2, ![2176, 2048]⟩
abbrev S1024x2048 : Shape := ⟨2, ![1024, 2048]⟩
abbrev S2176x1024 : Shape := ⟨2, ![2176, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2x4352x2048, .bf16⟩
  | .hbm, ⟨1, _⟩ => ⟨S5120x2048, .bf16⟩
  | .hbm, ⟨2, _⟩ => ⟨S8704x2048, .bf16⟩
  | .hbm, ⟨3, _⟩ => ⟨S8704x5120, .f32⟩
  | .local _ .vmem, ⟨0, _⟩ => ⟨S2176x2048, .bf16⟩
  | .local _ .vmem, ⟨1, _⟩ => ⟨S2176x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2176x1024, .f32⟩
  | .local _ .vmem, ⟨5, _⟩ => ⟨S2176x1024, .f32⟩
  | _, _ => ⟨S2x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2x4352x2048 : Shape := ⟨3, ![2, 4352, 2048]⟩
abbrev S5120x2048 : Shape := ⟨2, ![5120, 2048]⟩
abbrev S2048x5120 : Shape := ⟨2, ![2048, 5120]⟩
abbrev S2x4352x5120 : Shape := ⟨3, ![2, 4352, 5120]⟩
abbrev S8704x5120 : Shape := ⟨2, ![8704, 5120]⟩

abbrev nBuf : Space → Nat
  | .hbm => 7
  | .vmem => 0
  | .smem => 0
  | _ => 0

abbrev bufTy : (tb : Table) → Fin (tcTables nBuf tb) → BufTy
  | .hbm, ⟨0, _⟩ => ⟨S2x4352x2048, .bf16⟩
  | .hbm, ⟨1, _⟩ => ⟨S5120x2048, .bf16⟩
  | .hbm, ⟨2, _⟩ => ⟨S2x4352x2048, .f32⟩
  | .hbm, ⟨3, _⟩ => ⟨S5120x2048, .f32⟩
  | .hbm, ⟨4, _⟩ => ⟨S2048x5120, .f32⟩
  | .hbm, ⟨5, _⟩ => ⟨S2x4352x5120, .f32⟩
  | .hbm, ⟨6, _⟩ => ⟨S8704x5120, .f32⟩
  | _, _ => ⟨S2x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S2x2x4352x1024 : Shape := ⟨4, ![2, 2, 4352, 1024]⟩
abbrev S2x4352x1024 : Shape := ⟨3, ![2, 4352, 1024]⟩
abbrev S1024 : Shape := ⟨1, ![1024]⟩
abbrev S2x4096x2048 : Shape := ⟨3, ![2, 4096, 2048]⟩
abbrev S1024x2048 : Shape := ⟨2, ![1024, 2048]⟩
abbrev S2048x2048 : Shape := ⟨2, ![2048, 2048]⟩
abbrev S2x4096x4096 : Shape := ⟨3, ![2, 4096, 4096]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x1024 : Shape := ⟨2, ![1, 1024]⟩
abbrev S1x1x512x1024 : Shape := ⟨4, ![1, 1, 512, 1024]⟩
abbrev S1x512x1024 : Shape := ⟨3, ![1, 512, 1024]⟩
abbrev S1x512x2048 : Shape := ⟨3, ![1, 512, 2048]⟩
abbrev S1x512x4096 : Shape := ⟨3, ![1, 512, 4096]⟩
abbrev S512x1024 : Shape := ⟨2, ![512, 1024]⟩
abbrev S512x128 : Shape := ⟨2, ![512, 128]⟩
abbrev S512x2048 : Shape := ⟨2, ![512, 2048]⟩
abbrev S1x512x512 : Shape := ⟨3, ![1, 512, 512]⟩
abbrev S512x512 : Shape := ⟨2, ![512, 512]⟩
abbrev S1024x512 : Shape := ⟨2, ![1024, 512]⟩
abbrev S2048x512 : Shape := ⟨2, ![2048, 512]⟩

abbrev nBuf : Space → Nat
  | .hbm => 40
  | .vmem => 19
  | .smem => 0
  | _ => 0

abbrev bufTy : (tb : Table) → Fin (tcTables nBuf tb) → BufTy
  | .hbm, ⟨0, _⟩ => ⟨S2x2x4352x1024, .f32⟩
  | .hbm, ⟨1, _⟩ => ⟨S2x4352x1024, .bf16⟩
  | .hbm, ⟨2, _⟩ => ⟨S2x4352x1024, .bf16⟩
  | .hbm, ⟨3, _⟩ => ⟨S1024, .f32⟩
  | .hbm, ⟨4, _⟩ => ⟨S1024, .f32⟩
  | .hbm, ⟨5, _⟩ => ⟨S2x4096x2048, .bf16⟩
  | .hbm, ⟨6, _⟩ => ⟨S1024x2048, .bf16⟩
  | .hbm, ⟨7, _⟩ => ⟨S2048x2048, .bf16⟩
  | .hbm, ⟨8, _⟩ => ⟨S2x4096x4096, .bf16⟩
  | .hbm, ⟨9, _⟩ => ⟨S128, .i32⟩
  | .hbm, ⟨10, _⟩ => ⟨S_, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S128, .i32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S128, .i1⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S128, .i32⟩
  | .hbm, ⟨28, _⟩ => ⟨S128x1, .i32⟩
  | .hbm, ⟨29, _⟩ => ⟨S1x128, .i32⟩
  | .hbm, ⟨30, _⟩ => ⟨S128x128, .i32⟩
  | .hbm, ⟨31, _⟩ => ⟨S128x128, .i32⟩
  | .hbm, ⟨32, _⟩ => ⟨S128x128, .i1⟩
  | .hbm, ⟨33, _⟩ => ⟨S128x128, .bf16⟩
  | .hbm, ⟨34, _⟩ => ⟨S_, .bf16⟩
  | .hbm, ⟨35, _⟩ => ⟨S128x128, .bf16⟩
  | .hbm, ⟨36, _⟩ => ⟨S128x128, .bf16⟩
  | .hbm, ⟨37, _⟩ => ⟨S1x1024, .f32⟩
  | .hbm, ⟨38, _⟩ => ⟨S1x1024, .f32⟩
  | .hbm, ⟨39, _⟩ => ⟨S2x4096x2048, .bf16⟩
  | .local _ .vmem, ⟨0, _⟩ => ⟨S1x1x512x1024, .f32⟩
  | .local _ .vmem, ⟨1, _⟩ => ⟨S1x1x512x1024, .f32⟩
  | .local _ .vmem, ⟨2, _⟩ => ⟨S1x1x512x1024, .f32⟩
  | .local _ .vmem, ⟨3, _⟩ => ⟨S1x1x512x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024, .f32⟩
  | .local _ .vmem, ⟨9, _⟩ => ⟨S1x1024, .f32⟩
  | .local _ .vmem, ⟨10, _⟩ => ⟨S128x128, .bf16⟩
  | .local _ .vmem, ⟨11, _⟩ => ⟨S1x512x2048, .bf16⟩
  | .local _ .vmem, ⟨12, _⟩ => ⟨S1x512x2048, .bf16⟩
  | .local _ .vmem, ⟨13, _⟩ => ⟨S1024x2048, .bf16⟩
  | .local _ .vmem, ⟨14, _⟩ => ⟨S2048x2048, .bf16⟩
  | .local _ .vmem, ⟨15, _⟩ => ⟨S1x512x4096, .bf16⟩
  | .local _ .vmem, ⟨16, _⟩ => ⟨S1x512x4096, .bf16⟩
  | .local _ .vmem, ⟨17, _⟩ => ⟨S1x512x2048, .bf16⟩
  | .local _ .vmem, ⟨18, _⟩ => ⟨S1x512x2048, .bf16⟩
  | _, _ => ⟨S2x2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference6Ideal.lean ====
abbrev S2x2x4352x1024 : Shape := ⟨4, ![2, 2, 4352, 1024]⟩
abbrev S2x4352x1024 : Shape := ⟨3, ![2, 4352, 1024]⟩
abbrev S1024 : Shape := ⟨1, ![1024]⟩
abbrev S2x4096x2048 : Shape := ⟨3, ![2, 4096, 2048]⟩
abbrev S1024x2048 : Shape := ⟨2, ![1024, 2048]⟩
abbrev S2048x2048 : Shape := ⟨2, ![2048, 2048]⟩
abbrev S2x4096x4096 : Shape := ⟨3, ![2, 4096, 4096]⟩
abbrev S2x1x4096x1024 : Shape := ⟨4, ![2, 1, 4096, 1024]⟩
abbrev S2x4096x1024 : Shape := ⟨3, ![2, 4096, 1024]⟩
abbrev S2x4096x16x64 : Shape := ⟨4, ![2, 4096, 16, 64]⟩
abbrev S_ : Shape := ⟨0, ![]⟩
abbrev S2x4096x16 : Shape := ⟨3, ![2, 4096, 16]⟩
abbrev S2x4096x16x1 : Shape := ⟨4, ![2, 4096, 16, 1]⟩
abbrev S1x1x1024 : Shape := ⟨3, ![1, 1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2x2x4352x1024, .f32⟩
  | .hbm, ⟨1, _⟩ => ⟨S2x4352x1024, .bf16⟩
  | .hbm, ⟨2, _⟩ => ⟨S2x4352x1024, .bf16⟩
  | .hbm, ⟨3, _⟩ => ⟨S1024, .f32⟩
  | .hbm, ⟨4, _⟩ => ⟨S1024, .f32⟩
  | .hbm, ⟨5, _⟩ => ⟨S2x4096x2048, .bf16⟩
  | .hbm, ⟨6, _⟩ => ⟨S1024x2048, .bf16⟩
  | .hbm, ⟨7, _⟩ => ⟨S2048x2048, .bf16⟩
  | .hbm, ⟨8, _⟩ => ⟨S2x4096x4096, .bf16⟩
  | .hbm, ⟨9, _⟩ => ⟨S2x4352x1024, .f32⟩
  | .hbm, ⟨10, _⟩ => ⟨S2x4352x1024, .f32⟩
  | .hbm, ⟨11, _⟩ => ⟨S2x4096x2048, .f32⟩
  | .hbm, ⟨12, _⟩ => ⟨S1024x2048, .f32⟩
  | .hbm, ⟨13, _⟩ => ⟨S2048x2048, .f32⟩
  | .hbm, ⟨14, _⟩ => ⟨S2x4096x4096, .f32⟩
  | .hbm, ⟨15, _⟩ => ⟨S2x1x4096x1024, .f32⟩
  | .hbm, ⟨16, _⟩ => ⟨S2x4096x1024, .f32⟩
  | .hbm, ⟨17, _⟩ => ⟨S2x1x4096x1024, .f32⟩
  | .hbm, ⟨18, _⟩ => ⟨S2x4096x1024, .f32⟩
  | .hbm, ⟨19, _⟩ => ⟨S2x4096x1024, .f32⟩
  | .hbm, ⟨20, _⟩ => ⟨S2x4096x16x64, .f32⟩
  | .hbm, ⟨21, _⟩ => ⟨S_, .f32⟩
  | .hbm, ⟨22, _⟩ => ⟨S2x4096x16, .f32⟩
  | .hbm, ⟨23, _⟩ => ⟨S2x4096x16x1, .f32⟩
  | .hbm, ⟨24, _⟩ => ⟨S_, .f32⟩
  | .hbm, ⟨25, _⟩ => ⟨S2x4096x16x1, .f32⟩
  | .hbm, ⟨26, _⟩ => ⟨S2x4096x16x1, .f32⟩
  | .hbm, ⟨27, _⟩ => ⟨S2x4096x16x64, .f32⟩
  | .hbm, ⟨28, _⟩ => ⟨S2x4096x16x64, .f32⟩
  | .hbm, ⟨29, _⟩ => ⟨S2x4096x16x64, .f32⟩
  | .hbm, ⟨30, _⟩ => ⟨S_, .f32⟩
  | .hbm, ⟨31, _⟩ => ⟨S2x4096x16, .f32⟩
  | .hbm, ⟨32, _⟩ => ⟨S2x4096x16x1, .f32⟩
  | .hbm, ⟨33, _⟩ => ⟨S_, .f32⟩
  | .hbm, ⟨34, _⟩ => ⟨S2x4096x16x1, .f32⟩
  | .hbm, ⟨35, _⟩ => ⟨S2x4096x16x1, .f32⟩
  | .hbm, ⟨36, _⟩ => ⟨S_, .f32⟩
  | .hbm, ⟨37, _⟩ => ⟨S2x4096x16x1, .f32⟩
  | .hbm, ⟨38, _⟩ => ⟨S2x4096x16x1, .f32⟩
  | .hbm, ⟨39, _⟩ => ⟨S2x4096x16x1, .f32⟩
  | .hbm, ⟨40, _⟩ => ⟨S2x4096x16x64, .f32⟩
  | .hbm, ⟨41, _⟩ => ⟨S2x4096x16x64, .f32⟩
  | .hbm, ⟨42, _⟩ => ⟨S2x4096x1024, .f32⟩
  | .hbm, ⟨43, _⟩ => ⟨S1x1x1024, .f32⟩
  | .hbm, ⟨44, _⟩ => ⟨S2x4096x1024, .f32⟩
  | .hbm, ⟨45, _⟩ => ⟨S2x4096x1024, .f32⟩
  | .hbm, ⟨46, _⟩ => ⟨S1x1x1024, .f32⟩
  | .hbm, ⟨47, _⟩ => ⟨S2x4096x1024, .f32⟩
  | .hbm, ⟨48, _⟩ => ⟨S2x4096x1024, .f32⟩
  | .hbm, ⟨49, _⟩ => ⟨S2x4096x1024, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S2x4096x2048, .f32⟩
  | .hbm, ⟨54, _⟩ => ⟨S2x4096x2048, .f32⟩
  | .hbm, ⟨55, _⟩ => ⟨S2x4096x2048, .f32⟩
  | .hbm, ⟨56, _⟩ => ⟨S2x4096x2048, .f32⟩
  | .hbm, ⟨57, _⟩ => ⟨S2x4096x2048, .f32⟩
  | .hbm, ⟨58, _⟩ => ⟨S2x4096x2048, .f32⟩
  | .hbm, ⟨59, _⟩ => ⟨S2x4096x2048, .f32⟩
  | .hbm, ⟨60, _⟩ => ⟨S2x4096x2048, .bf16⟩
  | _, _ => ⟨S2x2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel7.lean ====
abbrev S2x4352x5120 : Shape := ⟨3, ![2, 4352, 5120]⟩
abbrev S512 : Shape := ⟨1, ![512]⟩
abbrev S512x4096 : Shape := ⟨2, ![512, 4096]⟩
abbrev S4352x64 : Shape := ⟨2, ![4352, 64]⟩
abbrev S512x16x256 : Shape := ⟨3, ![512, 16, 256]⟩
abbrev S16x512x256 : Shape := ⟨3, ![16, 512, 256]⟩
abbrev S1x512 : Shape := ⟨2, ![1, 512]⟩
abbrev S2x16x4352x192 : Shape := ⟨4, ![2, 16, 4352, 192]⟩
abbrev S2x16x4352x256 : Shape := ⟨4, ![2, 16, 4352, 256]⟩
abbrev S1x256x512 : Shape := ⟨3, ![1, 256, 512]⟩
abbrev S1x256x128 : Shape := ⟨3, ![1, 256, 128]⟩
abbrev S256x64 : Shape := ⟨2, ![256, 64]⟩
abbrev S1x16x256x192 : Shape := ⟨4, ![1, 16, 256, 192]⟩
abbrev S1x16x256x256 : Shape := ⟨4, ![1, 16, 256, 256]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S1x512x256 : Shape := ⟨3, ![1, 512, 256]⟩
abbrev S512x256 : Shape := ⟨2, ![512, 256]⟩
abbrev S256x256 : Shape := ⟨2, ![256, 256]⟩
abbrev S256x192 : Shape := ⟨2, ![256, 192]⟩
abbrev S1x1x256x192 : Shape := ⟨4, ![1, 1, 256, 192]⟩
abbrev S1x1x256x256 : Shape := ⟨4, ![1, 1, 256, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x4352x5120, .f32⟩
  | .hbm, ⟨1, _⟩ => ⟨S512, .f32⟩
  | .hbm, ⟨2, _⟩ => ⟨S512x4096, .f32⟩
  | .hbm, ⟨3, _⟩ => ⟨S4352x64, .f32⟩
  | .hbm, ⟨4, _⟩ => ⟨S4352x64, .f32⟩
  | .hbm, ⟨5, _⟩ => ⟨S512x16x256, .f32⟩
  | .hbm, ⟨6, _⟩ => ⟨S16x512x256, .f32⟩
  | .hbm, ⟨7, _⟩ => ⟨S16x512x256, .bf16⟩
  | .hbm, ⟨8, _⟩ => ⟨S1x512, .f32⟩
  | .hbm, ⟨9, _⟩ => ⟨S2x16x4352x192, .bf16⟩
  | .hbm, ⟨10, _⟩ => ⟨S2x16x4352x256, .bf16⟩
  | .local _ .vmem, ⟨0, _⟩ => ⟨S1x256x512, .f32⟩
  | .local _ .vmem, ⟨1, _⟩ => ⟨S1x256x512, .f32⟩
  | .local _ .vmem, ⟨2, _⟩ => ⟨S1x256x128, .f32⟩
  | .local _ .vmem, ⟨3, _⟩ => ⟨S1x256x128, .f32⟩
  | .local _ .vmem, ⟨4, _⟩ => ⟨S1x512, .f32⟩
  | .local _ .vmem, ⟨5, _⟩ => ⟨S16x512x256, .bf16⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S1x16x256x192, .bf16⟩
  | .local _ .vmem, ⟨11, _⟩ => ⟨S1x16x256x192, .bf16⟩
  | .local _ .vmem, ⟨12, _⟩ => ⟨S1x16x256x256, .bf16⟩
  | .local _ .vmem, ⟨13, _⟩ => ⟨S1x16x256x256, .bf16⟩
  | _, _ => ⟨S2x4352x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_1 (i : grid0.Coords) : Fin 3 → Nat :=
  let arg0 : BitVec 32 := BitVec.ofNat 32 (i 0).val
  let arg1 : BitVec 32 := BitVec.ofNat 32 (i 1).val
  let c29_i32 : BitVec 32 := 29#32
  let c0_i32 : BitVec 32 := 0#32
  ![arg0.toNat, arg1.toNat, c29_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x16x256x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S2x4352x5120 : Shape := ⟨3, ![2, 4352, 5120]⟩
abbrev S512 : Shape := ⟨1, ![512]⟩
abbrev S512x4096 : Shape := ⟨2, ![512, 4096]⟩
abbrev S4352x64 : Shape := ⟨2, ![4352, 64]⟩
abbrev S2x4352x512 : Shape := ⟨3, ![2, 4352, 512]⟩
abbrev S_ : Shape := ⟨0, ![]⟩
abbrev S2x4352 : Shape := ⟨2, ![2, 4352]⟩
abbrev S2x4352x1 : Shape := ⟨3, ![2, 4352, 1]⟩
abbrev S1x1x512 : Shape := ⟨3, ![1, 1, 512]⟩
abbrev S2x4352x4096 : Shape := ⟨3, ![2, 4352, 4096]⟩
abbrev S2x4352x16x256 : Shape := ⟨4, ![2, 4352, 16, 256]⟩
abbrev S2x4352x64 : Shape := ⟨3, ![2, 4352, 64]⟩
abbrev S1x4352x64 : Shape := ⟨3, ![1, 4352, 64]⟩
abbrev S2x4352x16x128 : Shape := ⟨4, ![2, 4352, 16, 128]⟩
abbrev S2x4352x1x64 : Shape := ⟨4, ![2, 4352, 1, 64]⟩
abbrev S2x4352x16x64 : Shape := ⟨4, ![2, 4352, 16, 64]⟩
abbrev S2x4352x16x192 : Shape := ⟨4, ![2, 4352, 16, 192]⟩
abbrev S2x16x4352x192 : Shape := ⟨4, ![2, 16, 4352, 192]⟩
abbrev S2x16x4352x256 : Shape := ⟨4, ![2, 16, 4352, 256]⟩

abbrev nBuf : Space → Nat
  | .hbm => 45
  | .vmem => 0
  | .smem => 0
  | _ => 0

abbrev bufTy : (tb : Table) → Fin (tcTables nBuf tb) → BufTy
  | .hbm, ⟨0, _⟩ => ⟨S2x4352x5120, .f32⟩
  | .hbm, ⟨1, _⟩ => ⟨S512, .f32⟩
  | .hbm, ⟨2, _⟩ => ⟨S512x4096, .f32⟩
  | .hbm, ⟨3, _⟩ => ⟨S4352x64, .f32⟩
  | .hbm, ⟨4, _⟩ => ⟨S4352x64, .f32⟩
  | .hbm, ⟨5, _⟩ => ⟨S2x4352x512, .f32⟩
  | .hbm, ⟨6, _⟩ => ⟨S2x4352x512, .f32⟩
  | .hbm, ⟨7, _⟩ => ⟨S_, .f32⟩
  | .hbm, ⟨8, _⟩ => ⟨S2x4352, .f32⟩
  | .hbm, ⟨9, _⟩ => ⟨S2x4352x1, .f32⟩
  | .hbm, ⟨10, _⟩ => ⟨S_, .f32⟩
  | .hbm, ⟨11, _⟩ => ⟨S2x4352x1, .f32⟩
  | .hbm, ⟨12, _⟩ => ⟨S2x4352x1, .f32⟩
  | .hbm, ⟨13, _⟩ => ⟨S_, .f32⟩
  | .hbm, ⟨14, _⟩ => ⟨S2x4352x1, .f32⟩
  | .hbm, ⟨15, _⟩ => ⟨S2x4352x1, .f32⟩
  | .hbm, ⟨16, _⟩ => ⟨S2x4352x1, .f32⟩
  | .hbm, ⟨17, _⟩ => ⟨S2x4352x512, .f32⟩
  | .hbm, ⟨18, _⟩ => ⟨S2x4352x512, .f32⟩
  | .hbm, ⟨19, _⟩ => ⟨S1x1x512, .f32⟩
  | .hbm, ⟨20, _⟩ => ⟨S2x4352x512, .f32⟩
  | .hbm, ⟨21, _⟩ => ⟨S2x4352x512, .f32⟩
  | .hbm, ⟨22, _⟩ => ⟨S2x4352x4096, .f32⟩
  | .hbm, ⟨23, _⟩ => ⟨S2x4352x16x256, .f32⟩
  | .hbm, ⟨24, _⟩ => ⟨S2x4352x64, .f32⟩
  | .hbm, ⟨25, _⟩ => ⟨S1x4352x64, .f32⟩
  | .hbm, ⟨26, _⟩ => ⟨S2x4352x64, .f32⟩
  | .hbm, ⟨27, _⟩ => ⟨S2x4352x64, .f32⟩
  | .hbm, ⟨28, _⟩ => ⟨S2x4352x64, .f32⟩
  | .hbm, ⟨29, _⟩ => ⟨S1x4352x64, .f32⟩
  | .hbm, ⟨30, _⟩ => ⟨S2x4352x64, .f32⟩
  | .hbm, ⟨31, _⟩ => ⟨S2x4352x64, .f32⟩
  | .hbm, ⟨32, _⟩ => ⟨S2x4352x64, .f32⟩
  | .hbm, ⟨33, _⟩ => ⟨S2x4352x16x128, .f32⟩
  | .hbm, ⟨34, _⟩ => ⟨S2x4352x1x64, .f32⟩
  | .hbm, ⟨35, _⟩ => ⟨S2x4352x16x64, .f32⟩
  | .hbm, ⟨36, _⟩ => ⟨S2x4352x16x192, .f32⟩
  | .hbm, ⟨37, _⟩ => ⟨S2x4352x16x128, .f32⟩
  | .hbm, ⟨38, _⟩ => ⟨S_, .f32⟩
  | .hbm, ⟨39, _⟩ => ⟨S2x4352x16x128, .f32⟩
  | .hbm, ⟨40, _⟩ => ⟨S2x4352x16x256, .f32⟩
  | .hbm, ⟨41, _⟩ => ⟨S2x16x4352x192, .f32⟩
  | .hbm, ⟨42, _⟩ => ⟨S2x16x4352x192, .bf16⟩
  | .hbm, ⟨43, _⟩ => ⟨S2x16x4352x256, .f32⟩
  | .hbm, ⟨44, _⟩ => ⟨S2x16x4352x256, .bf16⟩
  | _, _ => ⟨S2x4352x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel8.lean ====
abbrev S2x4352x5120 : Shape := ⟨3, ![2, 4352, 5120]⟩
abbrev S512 : Shape := ⟨1, ![512]⟩
abbrev S512x3072 : Shape := ⟨2, ![512, 3072]⟩
abbrev S4096x64 : Shape := ⟨2, ![4096, 64]⟩
abbrev S512x16x192 : Shape := ⟨3, ![512, 16, 192]⟩
abbrev S512x16x64 : Shape := ⟨3, ![512, 16, 64]⟩
abbrev S512x16x16 : Shape := ⟨3, ![512, 16, 16]⟩
abbrev S512x16x256 : Shape := ⟨3, ![512, 16, 256]⟩
abbrev S16x512x256 : Shape := ⟨3, ![16, 512, 256]⟩
abbrev S1x512 : Shape := ⟨2, ![1, 512]⟩
abbrev S2x16x4096x192 : Shape := ⟨4, ![2, 16, 4096, 192]⟩
abbrev S1x1024x512 : Shape := ⟨3, ![1, 1024, 512]⟩
abbrev S1024x64 : Shape := ⟨2, ![1024, 64]⟩
abbrev S1x16x1024x192 : Shape := ⟨4, ![1, 16, 1024, 192]⟩
abbrev S1024x512 : Shape := ⟨2, ![1024, 512]⟩
abbrev S1024 : Shape := ⟨1, ![1024]⟩
abbrev S1024x1 : Shape := ⟨2, ![1024, 1]⟩
abbrev S1x512x256 : Shape := ⟨3, ![1, 512, 256]⟩
abbrev S512x256 : Shape := ⟨2, ![512, 256]⟩
abbrev S1024x256 : Shape := ⟨2, ![1024, 256]⟩
abbrev S1024x128 : Shape := ⟨2, ![1024, 128]⟩
abbrev S1024x192 : Shape := ⟨2, ![1024, 192]⟩
abbrev S1x1x1024x192 : Shape := ⟨4, ![1, 1, 1024, 192]⟩

abbrev nBuf : Space → Nat
  | .hbm => 19
  | .vmem => 10
  | .smem => 0
  | _ => 0

abbrev bufTy : (tb : Table) → Fin (tcTables nBuf tb) → BufTy
  | .hbm, ⟨0, _⟩ => ⟨S2x4352x5120, .f32⟩
  | .hbm, ⟨1, _⟩ => ⟨S512, .f32⟩
  | .hbm, ⟨2, _⟩ => ⟨S512x3072, .f32⟩
  | .hbm, ⟨3, _⟩ => ⟨S4096x64, .f32⟩
  | .hbm, ⟨4, _⟩ => ⟨S4096x64, .f32⟩
  | .hbm, ⟨5, _⟩ => ⟨S512x16x192, .f32⟩
  | .hbm, ⟨6, _⟩ => ⟨S512x16x64, .f32⟩
  | .hbm, ⟨7, _⟩ => ⟨S512x16x16, .f32⟩
  | .hbm, ⟨8, _⟩ => ⟨S512x16x16, .f32⟩
  | .hbm, ⟨9, _⟩ => ⟨S512x16x16, .f32⟩
  | .hbm, ⟨10, _⟩ => ⟨S512x16x16, .f32⟩
  | .hbm, ⟨11, _⟩ => ⟨S512x16x16, .f32⟩
  | .hbm, ⟨12, _⟩ => ⟨S512x16x16, .f32⟩
  | .hbm, ⟨13, _⟩ => ⟨S512x16x64, .f32⟩
  | .hbm, ⟨14, _⟩ => ⟨S512x16x256, .f32⟩
  | .hbm, ⟨15, _⟩ => ⟨S16x512x256, .f32⟩
  | .hbm, ⟨16, _⟩ => ⟨S16x512x256, .bf16⟩
  | .hbm, ⟨17, _⟩ => ⟨S1x512, .f32⟩
  | .hbm, ⟨18, _⟩ => ⟨S2x16x4096x192, .bf16⟩
  | .local _ .vmem, ⟨0, _⟩ => ⟨S1x1024x512, .f32⟩
  | .local _ .vmem, ⟨1, _⟩ => ⟨S1x1024x512, .f32⟩
  | .local _ .vmem, ⟨2, _⟩ => ⟨S1x512, .f32⟩
  | .local _ .vmem, ⟨3, _⟩ => ⟨S16x512x256, .bf16⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1x16x1024x192, .bf16⟩
  | .local _ .vmem, ⟨9, _⟩ => ⟨S1x16x1024x192, .bf16⟩
  | _, _ => ⟨S2x4352x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x16x1024x192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S2x4352x5120 : Shape := ⟨3, ![2, 4352, 5120]⟩
abbrev S512 : Shape := ⟨1, ![512]⟩
abbrev S512x3072 : Shape := ⟨2, ![512, 3072]⟩
abbrev S4096x64 : Shape := ⟨2, ![4096, 64]⟩
abbrev S2x4096x512 : Shape := ⟨3, ![2, 4096, 512]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S2x4096x3072 : Shape := ⟨3, ![2, 4096, 3072]⟩
abbrev S2x4096x16x192 : Shape := ⟨4, ![2, 4096, 16, 192]⟩
abbrev S2x4096x16x64 : Shape := ⟨4, ![2, 4096, 16, 64]⟩
abbrev S2x4096x16x16 : Shape := ⟨4, ![2, 4096, 16, 16]⟩
abbrev S4096x1x64 : Shape := ⟨3, ![4096, 1, 64]⟩
abbrev S1x4096x1x64 : Shape := ⟨4, ![1, 4096, 1, 64]⟩
abbrev S2x4096x16x128 : Shape := ⟨4, ![2, 4096, 16, 128]⟩
abbrev S2x16x4096x192 : Shape := ⟨4, ![2, 16, 4096, 192]⟩

abbrev nBuf : Space → Nat
  | .hbm => 49
  | .vmem => 0
  | .smem => 0
  | _ => 0

abbrev bufTy : (tb : Table) → Fin (tcTables nBuf tb) → BufTy
  | .hbm, ⟨0, _⟩ => ⟨S2x4352x5120, .f32⟩
  | .hbm, ⟨1, _⟩ => ⟨S512, .f32⟩
  | .hbm, ⟨2, _⟩ => ⟨S512x3072, .f32⟩
  | .hbm, ⟨3, _⟩ => ⟨S4096x64, .f32⟩
  | .hbm, ⟨4, _⟩ => ⟨S4096x64, .f32⟩
  | .hbm, ⟨5, _⟩ => ⟨S2x4096x512, .f32⟩
  | .hbm, ⟨6, _⟩ => ⟨S2x4096x512, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x512, .f32⟩
  | .hbm, ⟨18, _⟩ => ⟨S2x4096x512, .f32⟩
  | .hbm, ⟨19, _⟩ => ⟨S1x1x512, .f32⟩
  | .hbm, ⟨20, _⟩ => ⟨S2x4096x512, .f32⟩
  | .hbm, ⟨21, _⟩ => ⟨S2x4096x512, .f32⟩
  | .hbm, ⟨22, _⟩ => ⟨S2x4096x3072, .f32⟩
  | .hbm, ⟨23, _⟩ => ⟨S2x4096x16x192, .f32⟩
  | .hbm, ⟨24, _⟩ => ⟨S2x4096x16x64, .f32⟩
  | .hbm, ⟨25, _⟩ => ⟨S2x4096x16x16, .f32⟩
  | .hbm, ⟨26, _⟩ => ⟨S2x4096x16x16, .f32⟩
  | .hbm, ⟨27, _⟩ => ⟨S2x4096x16x16, .f32⟩
  | .hbm, ⟨28, _⟩ => ⟨S2x4096x16x16, .f32⟩
  | .hbm, ⟨29, _⟩ => ⟨S2x4096x16x64, .f32⟩
  | .hbm, ⟨30, _⟩ => ⟨S4096x1x64, .f32⟩
  | .hbm, ⟨31, _⟩ => ⟨S1x4096x1x64, .f32⟩
  | .hbm, ⟨32, _⟩ => ⟨S2x4096x16x64, .f32⟩
  | .hbm, ⟨33, _⟩ => ⟨S2x4096x16x64, .f32⟩
  | .hbm, ⟨34, _⟩ => ⟨S2x4096x16x16, .f32⟩
  | .hbm, ⟨35, _⟩ => ⟨S2x4096x16x16, .f32⟩
  | .hbm, ⟨36, _⟩ => ⟨S2x4096x16x64, .f32⟩
  | .hbm, ⟨37, _⟩ => ⟨S4096x1x64, .f32⟩
  | .hbm, ⟨38, _⟩ => ⟨S1x4096x1x64, .f32⟩
  | .hbm, ⟨39, _⟩ => ⟨S2x4096x16x64, .f32⟩
  | .hbm, ⟨40, _⟩ => ⟨S2x4096x16x64, .f32⟩
  | .hbm, ⟨41, _⟩ => ⟨S2x4096x16x64, .f32⟩
  | .hbm, ⟨42, _⟩ => ⟨S2x4096x16x128, .f32⟩
  | .hbm, ⟨43, _⟩ => ⟨S2x4096x16x192, .f32⟩
  | .hbm, ⟨44, _⟩ => ⟨S_, .f32⟩
  | .hbm, ⟨45, _⟩ => ⟨S2x4096x16x192, .f32⟩
  | .hbm, ⟨46, _⟩ => ⟨S2x4096x16x192, .f32⟩
  | .hbm, ⟨47, _⟩ => ⟨S2x16x4096x192, .f32⟩
  | .hbm, ⟨48, _⟩ => ⟨S2x16x4096x192, .bf16⟩
  | _, _ => ⟨S2x4352x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Proof.Softmax.lean ====
/- The mathematics of the attention row: a softmax taken block by block in base two, the row sum carried as one more
   column of the accumulator, against the softmax taken at once in base e. Extended reals; no program is named here. -/
module

public import Idealize.ShloMosaic.PureOps.Ideal

@[expose] public section

noncomputable section

namespace Cert.Attn

open Idealize.ShloMosaic Finset

variable (σ : ℕ → ℝ) (u : ℕ → EReal)

/-- The greatest of the first `n` scores; of none, `⊥`. -/
def top (n : ℕ) : EReal := (range n).sup fun j => (σ j : EReal)

/-- The first `n` values weighted by `2 ^ (score − M)`. -/
def part (M : EReal) (n : ℕ) : EReal := ∑ j ∈ range n, Ideal.exp2 ((σ j : EReal) - M) * u j

/-- The greatest of a positive number of scores is one of them. -/
theorem top_attained {n : ℕ} (hn : 0 < n) : ∃ i < n, top σ n = (σ i : EReal) ∧ ∀ j < n, σ j ≤ σ i := by
  obtain ⟨i, hi, h⟩ := (range n).exists_max_image σ ⟨0, mem_range.2 hn⟩
  refine ⟨i, mem_range.1 hi, le_antisymm (Finset.sup_le fun j hj => ?_) (Finset.le_sup (f := fun j => (σ j : EReal)) hi), fun j hj => h j (mem_range.2 hj)⟩
  exact EReal.coe_le_coe_iff.2 (h j hj)

/-- The greatest of `a + b` scores from the greatest of the first `a` and of the next `b`. -/
theorem top_add (a b : ℕ) : top σ (a + b) = max (top σ a) ((range b).sup fun j => (σ (a + j) : EReal)) := by
  unfold top
  apply le_antisymm
  · refine Finset.sup_le fun j hj => ?_
    rcases lt_or_ge j a with h | h
    · exact le_max_of_le_left (Finset.le_sup (f := fun j => (σ j : EReal)) (mem_range.2 h))
    · refine le_max_of_le_right ?_
      have hj' : j - a ∈ range b := mem_range.2 (by have := mem_range.1 hj; omega)
      have := Finset.le_sup (f := fun j => (σ (a + j) : EReal)) hj'
      simpa [Nat.add_sub_cancel' h] using this
  · refine max_le (Finset.sup_le fun j hj => ?_) (Finset.sup_le fun j hj => ?_)
    · exact Finset.le_sup (f := fun j => (σ j : EReal)) (mem_range.2 (by have := mem_range.1 hj; omega))
    · exact Finset.le_sup (f := fun j => (σ j : EReal)) (mem_range.2 (by have := mem_range.1 hj; omega))

/-- A finite nonnegative factor passes into a sum of extended reals. -/
theorem mul_sum_nonneg {ι : Type*} (s : Finset ι) (c : ℝ) (hc : 0 ≤ c) (f : ι → EReal) :
    (c : EReal) * ∑ j ∈ s, f j = ∑ j ∈ s, (c : EReal) * f j := by
  classical
  induction s using Finset.induction_on with
  | empty => simp
  | insert a s ha ih =>
    rw [sum_insert ha, sum_insert ha, EReal.left_distrib_of_nonneg_of_ne_top (EReal.coe_nonneg.2 hc) (EReal.coe_ne_top c), ih]

/-- A finite sum of real numbers is the same number as an extended real. -/
theorem coe_sum {ι : Type*} (s : Finset ι) (f : ι → ℝ) : ((∑ j ∈ s, f j : ℝ) : EReal) = ∑ j ∈ s, (f j : EReal) := by
  classical
  induction s using Finset.induction_on with
  | empty => simp
  | insert a s ha ih => rw [sum_insert ha, sum_insert ha, EReal.coe_add, ih]

/-- The base-two exponential of a difference of real numbers. -/
theorem exp2_sub (x y : ℝ) : Ideal.exp2 ((x : EReal) - (y : EReal)) = ((2 : ℝ) ^ (x - y) : ℝ) := by
  rw [← EReal.coe_sub, Ideal.exp2_coe]; rfl

/-- One block of the running sum: what was gathered against the old maximum is rescaled to the new one and the block's
    own terms are added. -/
theorem part_add (a b : ℕ) (hb : 0 < b) :
    Ideal.exp2 (top σ a - top σ (a + b)) * part σ u (top σ a) a
      + ∑ j ∈ range b, Ideal.exp2 ((σ (a + j) : EReal) - top σ (a + b)) * u (a + j) = part σ u (top σ (a + b)) (a + b) := by
  rw [part, part, sum_range_add _ a b]
  congr 1
  rcases Nat.eq_zero_or_pos a with rfl | ha
  · simp
  · obtain ⟨i, -, hi, -⟩ := top_attained σ ha
    obtain ⟨k, -, hk, -⟩ := top_attained σ (Nat.add_pos_left ha b)
    rw [hi, hk, exp2_sub, mul_sum_nonneg _ _ (by positivity)]
    refine sum_congr rfl fun j _ => ?_
    rw [exp2_sub, exp2_sub, ← mul_assoc, ← EReal.coe_mul, ← Real.rpow_add (by norm_num)]
    congr 3; ring

/-- The quotient of the weighted values by the sum of the weights is the softmax of the scores, in base e and normalised
    first, applied to the values: `s j = σ j · log 2`. -/
theorem softmax_row {n : ℕ} (hn : 0 < n) (s : ℕ → ℝ) (hs : ∀ j, s j = σ j * Real.log 2) :
    Ideal.div (part σ u (top σ n) n) (part σ (fun _ => 1) (top σ n) n)
      = ∑ j ∈ range n, u j * Ideal.div (Ideal.exp ((s j : EReal) - top s n)) (∑ i ∈ range n, Ideal.exp ((s i : EReal) - top s n)) := by
  obtain ⟨i, hi, hM, hmax⟩ := top_attained σ hn
  have hl : (0 : ℝ) < Real.log 2 := Real.log_pos (by norm_num)
  have hS : top s n = (s i : EReal) := by
    refine le_antisymm (Finset.sup_le fun j hj => EReal.coe_le_coe_iff.2 ?_) (Finset.le_sup (f := fun j => (s j : EReal)) (mem_range.2 hi))
    rw [hs, hs]; exact mul_le_mul_of_nonneg_right (hmax j (mem_range.1 hj)) hl.le
  have he : ∀ j, Ideal.exp ((s j : EReal) - top s n) = ((2 : ℝ) ^ (σ j - σ i) : ℝ) := fun j => by
    rw [hS, ← EReal.coe_sub, Ideal.exp_coe, hs, hs, Real.rpow_def_of_pos (by norm_num)]
    congr 2; ring
  have h2 : ∀ j, Ideal.exp2 ((σ j : EReal) - top σ n) = ((2 : ℝ) ^ (σ j - σ i) : ℝ) := fun j => by rw [hM, exp2_sub]
  have hL : (∑ j ∈ range n, (((2 : ℝ) ^ (σ j - σ i) : ℝ) : EReal)) = ((∑ j ∈ range n, (2 : ℝ) ^ (σ j - σ i) : ℝ) : EReal) := by
    rw [coe_sum]
  have hpos : 0 < ∑ j ∈ range n, (2 : ℝ) ^ (σ j - σ i) := sum_pos (fun j _ => by positivity) ⟨0, mem_range.2 hn⟩
  have hne : ((∑ j ∈ range n, (2 : ℝ) ^ (σ j - σ i) : ℝ) : EReal) ≠ 0 := by exact_mod_cast hpos.ne'
  simp only [part, he, h2, mul_one, hL]
  simp only [Ideal.div, if_neg hne, ← EReal.coe_inv]
  rw [mul_comm, mul_sum_nonneg _ _ (by positivity)]
  refine sum_congr rfl fun j _ => ?_
  rw [mul_comm (u j), ← mul_assoc, mul_comm (((2 : ℝ) ^ (σ j - σ i) : ℝ) : EReal)]

end Cert.Attn

end
-- ==== Proof.Words.lean ====
/- The attention kernel's body, word by word: what each buffer holds when the body reads it, for a query block, a head's keys and
   a head's values. `σ r j` is the (base two) score of query row `r` and key `j`, `u c j` entry `c` of value row `j`. -/
module

public import proofs.«01_k».proof.Proof.Gen.KernelIdeal.Frame
public import proofs.«01_k».proof.Proof.Softmax
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Attn

open Cert.KernelIdeal Cert.KernelIdeal.Gen Idealize.ShloMosaic Idealize.ShloMosaic.Pointwise

/-! ## Reductions and sums, at any size -/

/-- The lane maximum from `−∞`, at a row. -/
theorem rowmax {n w : ℕ} (src : FVec Ideal ⟨2, ![n, w]⟩ .f32) (h : (⟨2, ![n, w]⟩ : Shape).Reduces [1] ⟨1, ![n]⟩) (hf) (hφ)
    (y : (⟨1, ![n]⟩ : Shape).Idx) :
    multiReduction .maximumf [1] ⟨1, ![n]⟩ src 0xFF800000#32 h hf hφ y = Finset.univ.sup fun x : Fin w => src (ix2 (y 0) x) := by
  have e : Ideal.ofBits .f32 0xFF800000#32 = ⊥ := by simp [Ideal.ofBits, Ideal.ieee]
  pointwise []
  rw [e]
  rfl

/-- A supremum over `Fin w` is one over the numbers below `w`. -/
theorem sup_fin (w : ℕ) (g : ℕ → EReal) : (Finset.univ.sup fun x : Fin w => g x) = (Finset.range w).sup g := by
  apply le_antisymm
  · exact Finset.sup_le fun x _ => Finset.le_sup (f := g) (Finset.mem_range.2 x.2)
  · exact Finset.sup_le fun j hj => Finset.le_sup (f := fun x : Fin w => g x) (Finset.mem_univ (⟨j, Finset.mem_range.1 hj⟩ : Fin w))

/-- The running maximum, one key block on: the old one against the block's own. -/
theorem newmax {w : ℕ} (s : FVec Ideal ⟨2, ![1024, w]⟩ .f32) (m : FVec Ideal S1024x128 .f32)
    (h : (⟨2, ![1024, w]⟩ : Shape).Reduces [1] S1024) (hf) (hφ) (hc : S1024.ShapeCasts S1024x1) (hb : S1024x1.Broadcasts S1024x128)
    (σ : ℕ → ℕ → ℝ) (a : ℕ) (hs : ∀ z, s z = (σ (z 0) (a + z 1) : EReal)) (hm : ∀ z, m z = top (σ (z 0)) a) (y : S1024x128.Idx) :
    maximumf m (broadcastTo S1024x128 (shapeCast S1024x1 (multiReduction .maximumf [1] S1024 s 0xFF800000#32 h hf hφ) hc) hb) y
      = top (σ (y 0)) (a + w) := by
  have e : ∀ z, multiReduction .maximumf [1] S1024 s 0xFF800000#32 h hf hφ z = (Finset.range w).sup fun j => (σ (z 0) (a + j) : EReal) := by
    intro z
    refine (rowmax s h hf hφ z).trans ?_
    simp only [hs]
    exact sup_fin w fun j => (σ (z 0) (a + j) : EReal)
  generalize multiReduction .maximumf [1] S1024 s 0xFF800000#32 h hf hφ = q at e
  pointwise []
  rw [hm, e, top_add]
  rfl

variable (c : Dev nD) (arg3 : Memref sig .tc .vmem S1x1x1024x192 .bf16) (harg3 : arg3.IsWhole)
  (arg4 : Memref sig .tc .vmem S1x1x4352x192 .bf16) (harg4 : arg4.IsWhole)
  (arg5 : Memref sig .tc .vmem S1x1x4352x256 .bf16) (harg5 : arg5.IsWhole)
  (arg19 : Memref sig .tc .vmem S1024x1024 .f32) (arg20 : Memref sig .tc .vmem S1024x1024 .f32)
  (arg21 : Memref sig .tc .vmem S1024x1024 .bf16) (arg22 : Memref sig .tc .vmem S1024x1024 .bf16)
  (arg23 : Memref sig .tc .vmem S1024x256 .f32) (arg24 : Memref sig .tc .vmem S1024x128 .f32)
  (arg25 : Memref sig .tc .vmem S1024x128 .f32)
  (x0 : Vec Ideal S1x1x1024x192 .bf16) (x1 : Vec Ideal S1x1x4352x192 .bf16) (x2 : Vec Ideal S1x1x4352x256 .bf16)

/-- `σ` are the scores of the query block against the keys. -/
def Scores (σ : ℕ → ℕ → ℝ) : Prop :=
  ∀ (r : Fin 1024) (j : Fin 4352), ∑ d : Fin 192, x0 (ix4 0 0 r d) * x1 (ix4 0 0 j d) = (σ r j : EReal)

/-- `u` are the value rows' entries. -/
def Values (u : ℕ → ℕ → EReal) : Prop := ∀ (j : Fin 4352) (d : Fin 256), x2 (ix4 0 0 j d) = u d j

variable (σ : ℕ → ℕ → ℝ) (u : ℕ → ℕ → EReal) (hσ : Scores x0 x1 σ) (hu : Values x2 u)

/-! ## Scores -/

include hσ in
/-- The scores of the 1024 keys from 0. -/
theorem v40_eq (y : S1024x1024.Idx) : kernelRun0_A.sl.v40 c arg3 harg3 arg4 harg4 arg19 x0 x1 y = (σ (y 0) (0 + y 1) : EReal) := by
  have h := hσ (y 0) ⟨0 + y 1, by have := (y 1).isLt; simp at this; omega⟩
  rw [← h]
  unfold kernelRun0_A.sl.v40 kernelRun0_A.sl.HS0_1 kernelRun0_A.sl.r
  simp (disch := decide) only [↓ View.readCov_skip, ↓ View.readCov_cons_toLoadRect, ↓ View.readCov_fill, View.readAt_eq_ld, Memref.IsWhole.read_unread]
  pointwise [k0_pay11, k0_pay10]

include hσ in
/-- The scores of the 1024 keys from 1024. -/
theorem v135_eq (y : S1024x1024.Idx) : kernelRun0_A.sl.v135 c arg3 harg3 arg4 harg4 arg20 x0 x1 y = (σ (y 0) (1024 + y 1) : EReal) := by
  have h := hσ (y 0) ⟨1024 + y 1, by have := (y 1).isLt; simp at this; omega⟩
  rw [← h]
  unfold kernelRun0_A.sl.v135 kernelRun0_A.sl.HS1_1 kernelRun0_A.sl.r
  simp (disch := decide) only [↓ View.readCov_skip, ↓ View.readCov_cons_toLoadRect, ↓ View.readCov_fill, View.readAt_eq_ld, Memref.IsWhole.read_unread]
  pointwise [k0_pay14, k0_pay10]

include hσ in
/-- The scores of the 1024 keys from 2048. -/
theorem v230_eq (y : S1024x1024.Idx) : kernelRun0_A.sl.v230 c arg3 harg3 arg4 harg4 arg19 x0 x1 y = (σ (y 0) (2048 + y 1) : EReal) := by
  have h := hσ (y 0) ⟨2048 + y 1, by have := (y 1).isLt; simp at this; omega⟩
  rw [← h]
  unfold kernelRun0_A.sl.v230 kernelRun0_A.sl.HS0_2 kernelRun0_A.sl.r
  simp (disch := decide) only [↓ View.readCov_skip, ↓ View.readCov_cons_toLoadRect, ↓ View.readCov_fill, View.readAt_eq_ld, Memref.IsWhole.read_unread]
  pointwise [k0_pay27, k0_pay10]

include hσ in
/-- The scores of the 1024 keys from 3072. -/
theorem v325_eq (y : S1024x1024.Idx) : kernelRun0_A.sl.v325 c arg3 harg3 arg4 harg4 arg20 x0 x1 y = (σ (y 0) (3072 + y 1) : EReal) := by
  have h := hσ (y 0) ⟨3072 + y 1, by have := (y 1).isLt; simp at this; omega⟩
  rw [← h]
  unfold kernelRun0_A.sl.v325 kernelRun0_A.sl.HS1_2 kernelRun0_A.sl.r
  simp (disch := decide) only [↓ View.readCov_skip, ↓ View.readCov_cons_toLoadRect, ↓ View.readCov_fill, View.readAt_eq_ld, Memref.IsWhole.read_unread]
  pointwise [k0_pay45, k0_pay10]

include hσ in
/-- The scores of the 256 keys from 4096. -/
theorem v414_eq (y : S1024x256.Idx) : kernelRun0_A.sl.v414 c arg3 harg3 arg4 harg4 arg19 x0 x1 y = (σ (y 0) (4096 + y 1) : EReal) := by
  have h := hσ (y 0) ⟨4096 + y 1, by have := (y 1).isLt; simp at this; omega⟩
  rw [← h]
  unfold kernelRun0_A.sl.v414 kernelRun0_A.sl.HS0_3 kernelRun0_A.sl.r
  simp (disch := decide) only [↓ View.readCov_skip, ↓ View.readCov_cons_toLoadRect, ↓ View.readCov_fill, View.readAt_eq_ld, Memref.IsWhole.read_unread]
  pointwise [k0_pay60, k0_pay10]

/-! ## Running maxima -/

/-- Before any key, the running maximum is `−∞`. -/
theorem v41_eq (y : S1024x128.Idx) : kernelRun0_A.sl.v41 (F := Ideal) c arg24 y = top (σ (y 0)) 0 := by
  have e : Ideal.ofBits .f32 0xFF800000#32 = ⊥ := by simp [Ideal.ofBits, Ideal.ieee]
  unfold kernelRun0_A.sl.v41 kernelRun0_A.sl.HS5_1
  simp (disch := decide) only [↓ View.readCov_skip, ↓ View.readCov_cons_toLoadRect, ↓ View.readCov_fill, View.readAt_eq_ld, Memref.IsWhole.read_unread]
  pointwise [k0_pay13]
  simp [e, top]

include hσ in
/-- The greatest of the first 1024 scores, as the body computes it. -/
theorem r_1_eq (y : S1024x128.Idx) : kernelRun0_A.sl.r_1 c arg3 harg3 arg4 harg4 arg19 arg24 x0 x1 y = top (σ (y 0)) 1024 := by
  unfold kernelRun0_A.sl.r_1 k0_pay15
  exact newmax _ _ reduces_S1024x1024_S1024 _ _ shapeCasts_S1024_S1024x1 broadcasts_S1024x1_S1024x128 σ 0 (v40_eq c arg3 harg3 arg4 harg4 arg19 x0 x1 σ hσ) (v41_eq c arg24 σ) y

include hσ in
/-- … and as it reads it at the next block. -/
theorem v136_eq (y : S1024x128.Idx) : kernelRun0_A.sl.v136 c arg3 harg3 arg4 harg4 arg19 arg24 x0 x1 y = top (σ (y 0)) 1024 := by
  rw [← r_1_eq c arg3 harg3 arg4 harg4 arg19 arg24 x0 x1 σ hσ y]
  unfold kernelRun0_A.sl.v136 kernelRun0_A.sl.HS5_2 kernelRun0_A.sl.r_1
  simp (disch := decide) only [↓ View.readCov_skip, ↓ View.readCov_cons_toLoadRect, ↓ View.readCov_fill, View.readAt_eq_ld, Memref.IsWhole.read_unread]
  pointwise [k0_pay17]
  try rfl

include hσ in
/-- The greatest of the first 2048 scores, as the body computes it. -/
theorem r_5_eq (y : S1024x128.Idx) : kernelRun0_A.sl.r_5 c arg3 harg3 arg4 harg4 arg19 arg20 arg24 x0 x1 y = top (σ (y 0)) 2048 := by
  unfold kernelRun0_A.sl.r_5 k0_pay32
  exact newmax _ _ reduces_S1024x1024_S1024 _ _ shapeCasts_S1024_S1024x1 broadcasts_S1024x1_S1024x128 σ 1024 (v135_eq c arg3 harg3 arg4 harg4 arg20 x0 x1 σ hσ) (v136_eq c arg3 harg3 arg4 harg4 arg19 arg24 x0 x1 σ hσ) y

include hσ in
/-- … and as it reads it at the next block. -/
theorem v231_eq (y : S1024x128.Idx) : kernelRun0_A.sl.v231 c arg3 harg3 arg4 harg4 arg19 arg20 arg24 x0 x1 y = top (σ (y 0)) 2048 := by
  rw [← r_5_eq c arg3 harg3 arg4 harg4 arg19 arg20 arg24 x0 x1 σ hσ y]
  unfold kernelRun0_A.sl.v231 kernelRun0_A.sl.HS5_3 kernelRun0_A.sl.r_5
  simp (disch := decide) only [↓ View.readCov_skip, ↓ View.readCov_cons_toLoadRect, ↓ View.readCov_fill, View.readAt_eq_ld, Memref.IsWhole.read_unread]
  pointwise [k0_pay34]
  try rfl

include hσ in
/-- The greatest of the first 3072 scores, as the body computes it. -/
theorem r_8_eq (y : S1024x128.Idx) : kernelRun0_A.sl.r_8 c arg3 harg3 arg4 harg4 arg19 arg20 arg24 x0 x1 y = top (σ (y 0)) 3072 := by
  unfold kernelRun0_A.sl.r_8 k0_pay49
  exact newmax _ _ reduces_S1024x1024_S1024 _ _ shapeCasts_S1024_S1024x1 broadcasts_S1024x1_S1024x128 σ 2048 (v230_eq c arg3 harg3 arg4 harg4 arg19 x0 x1 σ hσ) (v231_eq c arg3 harg3 arg4 harg4 arg19 arg20 arg24 x0 x1 σ hσ) y

include hσ in
/-- … and as it reads it at the next block. -/
theorem v326_eq (y : S1024x128.Idx) : kernelRun0_A.sl.v326 c arg3 harg3 arg4 harg4 arg19 arg20 arg24 x0 x1 y = top (σ (y 0)) 3072 := by
  rw [← r_8_eq c arg3 harg3 arg4 harg4 arg19 arg20 arg24 x0 x1 σ hσ y]
  unfold kernelRun0_A.sl.v326 kernelRun0_A.sl.HS5_4 kernelRun0_A.sl.r_8
  simp (disch := decide) only [↓ View.readCov_skip, ↓ View.readCov_cons_toLoadRect, ↓ View.readCov_fill, View.readAt_eq_ld, Memref.IsWhole.read_unread]
  pointwise [k0_pay51]
  try rfl

include hσ in
/-- The greatest of the first 4096 scores, as the body computes it. -/
theorem r_9_eq (y : S1024x128.Idx) : kernelRun0_A.sl.r_9 c arg3 harg3 arg4 harg4 arg19 arg20 arg24 x0 x1 y = top (σ (y 0)) 4096 := by
  unfold kernelRun0_A.sl.r_9 k0_pay64
  exact newmax _ _ reduces_S1024x1024_S1024 _ _ shapeCasts_S1024_S1024x1 broadcasts_S1024x1_S1024x128 σ 3072 (v325_eq c arg3 harg3 arg4 harg4 arg20 x0 x1 σ hσ) (v326_eq c arg3 harg3 arg4 harg4 arg19 arg20 arg24 x0 x1 σ hσ) y

include hσ in
/-- … and as it reads it at the next block. -/
theorem v415_eq (y : S1024x128.Idx) : kernelRun0_A.sl.v415 c arg3 harg3 arg4 harg4 arg19 arg20 arg24 x0 x1 y = top (σ (y 0)) 4096 := by
  rw [← r_9_eq c arg3 harg3 arg4 harg4 arg19 arg20 arg24 x0 x1 σ hσ y]
  unfold kernelRun0_A.sl.v415 kernelRun0_A.sl.HS5_5 kernelRun0_A.sl.r_9
  simp (disch := decide) only [↓ View.readCov_skip, ↓ View.readCov_cons_toLoadRect, ↓ View.readCov_fill, View.readAt_eq_ld, Memref.IsWhole.read_unread]
  pointwise [k0_pay66]
  try rfl

include hσ in
/-- The greatest of all 4352 scores, as the body computes it. -/
theorem last_eq (y : S1024x128.Idx) :
    k0_pay80 (kernelRun0_A.sl.v414 c arg3 harg3 arg4 harg4 arg19 x0 x1) (kernelRun0_A.sl.v415 c arg3 harg3 arg4 harg4 arg19 arg20 arg24 x0 x1) y = top (σ (y 0)) 4352 := by
  unfold k0_pay80
  exact newmax _ _ reduces_S1024x256_S1024 _ _ shapeCasts_S1024_S1024x1 broadcasts_S1024x1_S1024x128 σ 4096
    (v414_eq c arg3 harg3 arg4 harg4 arg19 x0 x1 σ hσ) (v415_eq c arg3 harg3 arg4 harg4 arg19 arg20 arg24 x0 x1 σ hσ) y

/-! ## Rescaling factors -/

include hσ in
/-- The factor that takes weights against the greatest of 0 scores to weights against the greatest of 1024. -/
theorem v120_eq (y : S1024x128.Idx) : kernelRun0_A.sl.v120 c arg3 harg3 arg4 harg4 arg19 arg24 arg25 x0 x1 y = Ideal.exp2 (top (σ (y 0)) 0 - top (σ (y 0)) 1024) := by
  have h := r_1_eq c arg3 harg3 arg4 harg4 arg19 arg24 x0 x1 σ hσ y
  rw [← h, ← v41_eq c arg24 σ y]
  unfold kernelRun0_A.sl.v120 kernelRun0_A.sl.HS6_1 kernelRun0_A.sl.r_1
  simp (disch := decide) only [↓ View.readCov_skip, ↓ View.readCov_cons_toLoadRect, ↓ View.readCov_fill, View.readAt_eq_ld, Memref.IsWhole.read_unread]
  pointwise [k0_pay16]
  rfl

include hσ in
/-- The factor that takes weights against the greatest of 1024 scores to weights against the greatest of 2048. -/
theorem v215_eq (y : S1024x128.Idx) : kernelRun0_A.sl.v215 c arg3 harg3 arg4 harg4 arg19 arg20 arg24 arg25 x0 x1 y = Ideal.exp2 (top (σ (y 0)) 1024 - top (σ (y 0)) 2048) := by
  have h := r_5_eq c arg3 harg3 arg4 harg4 arg19 arg20 arg24 x0 x1 σ hσ y
  rw [← h, ← v136_eq c arg3 harg3 arg4 harg4 arg19 arg24 x0 x1 σ hσ y]
  unfold kernelRun0_A.sl.v215 kernelRun0_A.sl.HS6_2 kernelRun0_A.sl.r_5
  simp (disch := decide) only [↓ View.readCov_skip, ↓ View.readCov_cons_toLoadRect, ↓ View.readCov_fill, View.readAt_eq_ld, Memref.IsWhole.read_unread]
  pointwise [k0_pay33]
  rfl

include hσ in
/-- The factor that takes weights against the greatest of 2048 scores to weights against the greatest of 3072. -/
theorem v310_eq (y : S1024x128.Idx) : kernelRun0_A.sl.v310 c arg3 harg3 arg4 harg4 arg19 arg20 arg24 arg25 x0 x1 y = Ideal.exp2 (top (σ (y 0)) 2048 - top (σ (y 0)) 3072) := by
  have h := r_8_eq c arg3 harg3 arg4 harg4 arg19 arg20 arg24 x0 x1 σ hσ y
  rw [← h, ← v231_eq c arg3 harg3 arg4 harg4 arg19 arg20 arg24 x0 x1 σ hσ y]
  unfold kernelRun0_A.sl.v310 kernelRun0_A.sl.HS6_3 kernelRun0_A.sl.r_8
  simp (disch := decide) only [↓ View.readCov_skip, ↓ View.readCov_cons_toLoadRect, ↓ View.readCov_fill, View.readAt_eq_ld, Memref.IsWhole.read_unread]
  pointwise [k0_pay50]
  rfl

include hσ in
/-- The factor that takes weights against the greatest of 3072 scores to weights against the greatest of 4096. -/
theorem v399_eq (y : S1024x128.Idx) : kernelRun0_A.sl.v399 c arg3 harg3 arg4 harg4 arg19 arg20 arg24 arg25 x0 x1 y = Ideal.exp2 (top (σ (y 0)) 3072 - top (σ (y 0)) 4096) := by
  have h := r_9_eq c arg3 harg3 arg4 harg4 arg19 arg20 arg24 x0 x1 σ hσ y
  rw [← h, ← v326_eq c arg3 harg3 arg4 harg4 arg19 arg20 arg24 x0 x1 σ hσ y]
  unfold kernelRun0_A.sl.v399 kernelRun0_A.sl.HS6_4 kernelRun0_A.sl.r_9
  simp (disch := decide) only [↓ View.readCov_skip, ↓ View.readCov_cons_toLoadRect, ↓ View.readCov_fill, View.readAt_eq_ld, Memref.IsWhole.read_unread]
  pointwise [k0_pay65]
  rfl

include hσ in
/-- The factor that takes weights against the greatest of 4096 scores to weights against the greatest of 4352. -/
theorem v446_eq (y : S1024x128.Idx) : kernelRun0_A.sl.v446 c arg3 harg3 arg4 harg4 arg19 arg20 arg24 arg25 x0 x1 y = Ideal.exp2 (top (σ (y 0)) 4096 - top (σ (y 0)) 4352) := by
  have h := last_eq c arg3 harg3 arg4 harg4 arg19 arg20 arg24 x0 x1 σ hσ y
  rw [← h, ← v415_eq c arg3 harg3 arg4 harg4 arg19 arg20 arg24 x0 x1 σ hσ y]
  unfold kernelRun0_A.sl.v446 kernelRun0_A.sl.HS6_5
  simp (disch := decide) only [↓ View.readCov_skip, ↓ View.readCov_cons_toLoadRect, ↓ View.readCov_fill, View.readAt_eq_ld, Memref.IsWhole.read_unread]
  pointwise [k0_pay81]
  rfl

/-! ## Weights -/

/-- One weight: `2 ^ (score − greatest)`. -/
def wt (n : ℕ) (r j : ℕ) : EReal := Ideal.exp2 ((σ r j : EReal) - top (σ r) n)

include hσ in
/-- The weights of the 1024 keys from 0. -/
theorem v116_eq (y : S1024x1024.Idx) : kernelRun0_A.sl.v116 c arg3 harg3 arg4 harg4 arg19 arg21 arg24 x0 x1 y = wt σ 1024 (y 0) (0 + y 1) := by
  have hs := v40_eq c arg3 harg3 arg4 harg4 arg19 x0 x1 σ hσ
  have hm := r_1_eq c arg3 harg3 arg4 harg4 arg19 arg24 x0 x1 σ hσ
  unfold kernelRun0_A.sl.v116 kernelRun0_A.sl.HS2_8 kernelRun0_A.sl.r_2

  rw [View.readCov_eq_canon']
  refine (View.canon_append_of_piecesOf (fun z : S1024x1024.Idx => wt σ 1024 (z 0) (0 + z 1)) []
    [_, _, _, _, _, _, _, _] ?_ _ ?_).trans ?_
  · refine ⟨fun x => ?_, fun x => ?_, fun x => ?_, fun x => ?_, fun x => ?_, fun x => ?_, fun x => ?_, fun x => ?_, trivial⟩
    all_goals
      pointwise [k0_pay18, k0_pay19, k0_pay20, k0_pay21, k0_pay22, k0_pay24, k0_pay25, k0_pay26, k0_pay23]
      simp only [hs, hm, wt, Rect.emb_apply, Rect.off_unit, Rect.stride_unit, Nat.one_mul]
      simp
      try rfl
  · refine View.cover_of_tiled_head _ _ _ (by rfl) _
  · simp [Rect.idx_unit_val]

include hσ in
/-- The weights of the 1024 keys from 1024. -/
theorem v211_eq (y : S1024x1024.Idx) : kernelRun0_A.sl.v211 c arg3 harg3 arg4 harg4 arg19 arg20 arg22 arg24 x0 x1 y = wt σ 2048 (y 0) (1024 + y 1) := by
  have hs := v135_eq c arg3 harg3 arg4 harg4 arg20 x0 x1 σ hσ
  have hm := r_5_eq c arg3 harg3 arg4 harg4 arg19 arg20 arg24 x0 x1 σ hσ
  unfold kernelRun0_A.sl.v211 kernelRun0_A.sl.HS3_8 kernelRun0_A.sl.r_6 kernelRun0_A.sl.r_7 kernelRun0_A.sl.r_5
  unfold kernelRun0_A.sl.r_5 at hm
  rw [View.readCov_eq_canon']
  refine (View.canon_append_of_piecesOf (fun z : S1024x1024.Idx => wt σ 2048 (z 0) (1024 + z 1)) []
    [_, _, _, _, _, _, _, _] ?_ _ ?_).trans ?_
  · refine ⟨fun x => ?_, fun x => ?_, fun x => ?_, fun x => ?_, fun x => ?_, fun x => ?_, fun x => ?_, fun x => ?_, trivial⟩
    all_goals
      pointwise [k0_pay35, k0_pay37, k0_pay38, k0_pay39, k0_pay40, k0_pay41, k0_pay42, k0_pay44, k0_pay36, k0_pay43]
      simp only [hs, hm, wt, Rect.emb_apply, Rect.off_unit, Rect.stride_unit, Nat.one_mul]
      simp
      try rfl
  · refine View.cover_of_tiled_head _ _ _ (by rfl) _
  · simp [Rect.idx_unit_val]

include hσ in
/-- The weights of the 1024 keys from 2048. -/
theorem v306_eq (y : S1024x1024.Idx) : kernelRun0_A.sl.v306 c arg3 harg3 arg4 harg4 arg19 arg20 arg21 arg24 x0 x1 y = wt σ 3072 (y 0) (2048 + y 1) := by
  have hs := v230_eq c arg3 harg3 arg4 harg4 arg19 x0 x1 σ hσ
  have hm := r_8_eq c arg3 harg3 arg4 harg4 arg19 arg20 arg24 x0 x1 σ hσ
  unfold kernelRun0_A.sl.v306 kernelRun0_A.sl.HS2_16 kernelRun0_A.sl.r_8
  unfold kernelRun0_A.sl.r_8 at hm
  rw [View.readCov_eq_canon']
  refine (View.canon_append_of_piecesOf (fun z : S1024x1024.Idx => wt σ 3072 (z 0) (2048 + z 1)) (kernelRun0_A.sl.HS2_8 c arg3 harg3 arg4 harg4 arg19 arg24 x0 x1)
    [_, _, _, _, _, _, _, _] ?_ _ ?_).trans ?_
  · refine ⟨fun x => ?_, fun x => ?_, fun x => ?_, fun x => ?_, fun x => ?_, fun x => ?_, fun x => ?_, fun x => ?_, trivial⟩
    all_goals
      pointwise [k0_pay52, k0_pay53, k0_pay54, k0_pay55, k0_pay56, k0_pay57, k0_pay58, k0_pay59]
      simp only [hs, hm, wt, Rect.emb_apply, Rect.off_unit, Rect.stride_unit, Nat.one_mul]
      simp
      try rfl
  · refine View.cover_of_tiled_head _ _ _ (by rfl) _
  · simp [Rect.idx_unit_val]

include hσ in
/-- The weights of the 1024 keys from 3072. -/
theorem v395_eq (y : S1024x1024.Idx) : kernelRun0_A.sl.v395 c arg3 harg3 arg4 harg4 arg19 arg20 arg22 arg24 x0 x1 y = wt σ 4096 (y 0) (3072 + y 1) := by
  have hs := v325_eq c arg3 harg3 arg4 harg4 arg20 x0 x1 σ hσ
  have hm := r_9_eq c arg3 harg3 arg4 harg4 arg19 arg20 arg24 x0 x1 σ hσ
  unfold kernelRun0_A.sl.v395 kernelRun0_A.sl.HS3_16 kernelRun0_A.sl.r_10 kernelRun0_A.sl.r_11 kernelRun0_A.sl.r_9
  unfold kernelRun0_A.sl.r_9 at hm
  rw [View.readCov_eq_canon']
  refine (View.canon_append_of_piecesOf (fun z : S1024x1024.Idx => wt σ 4096 (z 0) (3072 + z 1)) (kernelRun0_A.sl.HS3_8 c arg3 harg3 arg4 harg4 arg19 arg20 arg24 x0 x1)
    [_, _, _, _, _, _, _, _] ?_ _ ?_).trans ?_
  · refine ⟨fun x => ?_, fun x => ?_, fun x => ?_, fun x => ?_, fun x => ?_, fun x => ?_, fun x => ?_, fun x => ?_, trivial⟩
    all_goals
      pointwise [k0_pay68, k0_pay69, k0_pay70, k0_pay71, k0_pay72, k0_pay73, k0_pay75, k0_pay76, k0_pay67, k0_pay74]
      simp only [hs, hm, wt, Rect.emb_apply, Rect.off_unit, Rect.stride_unit, Nat.one_mul]
      simp
      try rfl
  · refine View.cover_of_tiled_head _ _ _ (by rfl) _
  · simp [Rect.idx_unit_val]

include hσ in
/-- The weights of the 256 keys from 4096. -/
theorem v442_eq (y : S1024x256.Idx) : kernelRun0_A.sl.v442 c arg3 harg3 arg4 harg4 arg19 arg20 arg21 arg24 x0 x1 y = wt σ 4352 (y 0) (4096 + y 1) := by
  have hs := v414_eq c arg3 harg3 arg4 harg4 arg19 x0 x1 σ hσ
  have hm := last_eq c arg3 harg3 arg4 harg4 arg19 arg20 arg24 x0 x1 σ hσ
  unfold kernelRun0_A.sl.v442 kernelRun0_A.sl.HS2_18

  rw [View.readCov_eq_canon']
  refine (View.canon_append_of_piecesOf (fun z : S1024x1024.Idx => wt σ 4352 (z 0) (4096 + z 1)) (kernelRun0_A.sl.HS2_16 c arg3 harg3 arg4 harg4 arg19 arg20 arg24 x0 x1)
    [_, _] ?_ _ ?_).trans ?_
  · refine ⟨fun x => ?_, fun x => ?_, trivial⟩
    all_goals
      pointwise [k0_pay83, k0_pay84]
      simp only [hs, hm, wt, Rect.emb_apply, Rect.off_unit, Rect.stride_unit, Nat.one_mul]
      simp
      try rfl
  · have h0 : (y 0 : ℕ) < 1024 := (y 0).isLt
    have h1 : (y 1 : ℕ) < 256 := (y 1).isLt
    rcases lt_or_ge (y 1 : ℕ) 128 with h | h
    · refine ⟨_, List.mem_cons_of_mem _ (List.mem_singleton.2 rfl), (Rect.mem_set_unit (inb := inb_S1024x1024_S1024x128_0_0)).2 fun a => ?_⟩
      rw [Rect.idx_unit_val]
      fin_cases a <;> simp <;> omega
    · refine ⟨_, List.mem_cons_self, (Rect.mem_set_unit (inb := inb_S1024x1024_S1024x128_0_128)).2 fun a => ?_⟩
      rw [Rect.idx_unit_val]
      fin_cases a <;> simp <;> omega
  · simp [Rect.idx_unit_val]

/-! ## The accumulator -/

/-- One block of keys added to the rescaled accumulator. -/
theorem add_block (u : ℕ → EReal) (s : ℕ → ℝ) (n w : ℕ) (hw : 0 < w) (al acc : EReal) (f : Fin w → EReal)
    (ha : al = Ideal.exp2 (top s n - top s (n + w))) (hacc : acc = part s u (top s n) n)
    (hf : ∀ j, f j = Ideal.exp2 ((s (n + j) : EReal) - top s (n + w)) * u (n + j)) :
    al * acc + ∑ j, f j = part s u (top s (n + w)) (n + w) := by
  rw [← part_add s u n w hw, ha, hacc, Finset.sum_range]
  exact congrArg _ (Finset.sum_congr rfl fun j _ => hf j)

/-- Before any key the accumulator is zero. -/
theorem v121_eq (d : ℕ → ℕ) (y : S1024x128.Idx) : kernelRun0_A.sl.v121 (F := Ideal) c arg23 y = part (σ (y 0)) (u (d (y 1))) (top (σ (y 0)) 0) 0 := by
  unfold kernelRun0_A.sl.v121 kernelRun0_A.sl.HS4_1
  simp (disch := decide) only [↓ View.readCov_skip, ↓ View.readCov_cons_toLoadRect, ↓ View.readCov_fill, View.readAt_eq_ld, Memref.IsWhole.read_unread]
  pointwise [k0_pay12]
  simp [part]

/-- … its columns past the first 128 as well, after these have been written. -/
theorem v128_eq (d : ℕ → ℕ) (y : S1024x128.Idx) : kernelRun0_A.sl.v128 c arg3 harg3 arg4 harg4 arg5 harg5 arg19 arg21 arg23 arg24 arg25 x0 x1 x2 y = part (σ (y 0)) (u (d (y 1))) (top (σ (y 0)) 0) 0 := by
  unfold kernelRun0_A.sl.v128 kernelRun0_A.sl.HS4_2 kernelRun0_A.sl.HS4_1
  simp (disch := decide) only [↓ View.readCov_skip, ↓ View.readCov_cons_toLoadRect, ↓ View.readCov_fill, View.readAt_eq_ld, Memref.IsWhole.read_unread]
  pointwise [k0_pay12]
  simp [part]

include hσ hu in
/-- The accumulator's first 128 columns after 1024 keys. -/
theorem v216_eq (y : S1024x128.Idx) :
    kernelRun0_A.sl.v216 c arg3 harg3 arg4 harg4 arg5 harg5 arg19 arg21 arg23 arg24 arg25 x0 x1 x2 y = part (σ (y 0)) (u (y 1)) (top (σ (y 0)) 1024) 1024 := by
  unfold kernelRun0_A.sl.v216 kernelRun0_A.sl.HS4_3 kernelRun0_A.sl.HS4_2 kernelRun0_A.sl.r_4
  simp (disch := decide) only [↓ View.readCov_skip, ↓ View.readCov_cons_toLoadRect, ↓ View.readCov_fill, View.readAt_eq_ld, Memref.IsWhole.read_unread]
  pointwise [k0_pay30, k0_pay29, k0_pay28]
  refine add_block (u (y 1)) (σ (y 0)) 0 1024 (by norm_num) _ _ _ (v120_eq c arg3 harg3 arg4 harg4 arg19 arg24 arg25 x0 x1 σ hσ y) (v121_eq c arg23 σ u (fun n => n) y) fun j => ?_
  rw [v116_eq c arg3 harg3 arg4 harg4 arg19 arg21 arg24 x0 x1 σ hσ, hu]
  simp only [Nat.zero_add]
  rfl

include hσ hu in
/-- The accumulator's columns past the first 128 after 1024 keys. -/
theorem v223_eq (y : S1024x128.Idx) :
    kernelRun0_A.sl.v223 c arg3 harg3 arg4 harg4 arg5 harg5 arg19 arg20 arg21 arg22 arg23 arg24 arg25 x0 x1 x2 y = part (σ (y 0)) (u (128 + y 1)) (top (σ (y 0)) 1024) 1024 := by
  unfold kernelRun0_A.sl.v223 kernelRun0_A.sl.HS4_4 kernelRun0_A.sl.HS4_3 kernelRun0_A.sl.r_3
  simp (disch := decide) only [↓ View.readCov_skip, ↓ View.readCov_cons_toLoadRect, ↓ View.readCov_fill, View.readAt_eq_ld, Memref.IsWhole.read_unread]
  pointwise [k0_pay31, k0_pay28]
  refine add_block (u (128 + y 1)) (σ (y 0)) 0 1024 (by norm_num) _ _ _ (v120_eq c arg3 harg3 arg4 harg4 arg19 arg24 arg25 x0 x1 σ hσ y) (v128_eq c arg3 harg3 arg4 harg4 arg5 harg5 arg19 arg21 arg23 arg24 arg25 x0 x1 x2 σ u (fun n => 128 + n) y) fun j => ?_
  rw [v116_eq c arg3 harg3 arg4 harg4 arg19 arg21 arg24 x0 x1 σ hσ, hu]
  simp only [Nat.zero_add]
  rfl

include hσ hu in
/-- The accumulator's first 128 columns after 2048 keys. -/
theorem v311_eq (y : S1024x128.Idx) :
    kernelRun0_A.sl.v311 c arg3 harg3 arg4 harg4 arg5 harg5 arg19 arg20 arg21 arg22 arg23 arg24 arg25 x0 x1 x2 y = part (σ (y 0)) (u (y 1)) (top (σ (y 0)) 2048) 2048 := by
  unfold kernelRun0_A.sl.v311 kernelRun0_A.sl.HS4_5 kernelRun0_A.sl.HS4_4
  simp (disch := decide) only [↓ View.readCov_skip, ↓ View.readCov_cons_toLoadRect, ↓ View.readCov_fill, View.readAt_eq_ld, Memref.IsWhole.read_unread]
  pointwise [k0_pay47, k0_pay46]
  refine add_block (u (y 1)) (σ (y 0)) 1024 1024 (by norm_num) _ _ _ (v215_eq c arg3 harg3 arg4 harg4 arg19 arg20 arg24 arg25 x0 x1 σ hσ y) (v216_eq c arg3 harg3 arg4 harg4 arg5 harg5 arg19 arg21 arg23 arg24 arg25 x0 x1 x2 σ u hσ hu y) fun j => ?_
  rw [v211_eq c arg3 harg3 arg4 harg4 arg19 arg20 arg22 arg24 x0 x1 σ hσ, hu]

  rfl

include hσ hu in
/-- The accumulator's columns past the first 128 after 2048 keys. -/
theorem v318_eq (y : S1024x128.Idx) :
    kernelRun0_A.sl.v318 c arg3 harg3 arg4 harg4 arg5 harg5 arg19 arg20 arg21 arg22 arg23 arg24 arg25 x0 x1 x2 y = part (σ (y 0)) (u (128 + y 1)) (top (σ (y 0)) 2048) 2048 := by
  unfold kernelRun0_A.sl.v318 kernelRun0_A.sl.HS4_6 kernelRun0_A.sl.HS4_5
  simp (disch := decide) only [↓ View.readCov_skip, ↓ View.readCov_cons_toLoadRect, ↓ View.readCov_fill, View.readAt_eq_ld, Memref.IsWhole.read_unread]
  pointwise [k0_pay48, k0_pay46]
  refine add_block (u (128 + y 1)) (σ (y 0)) 1024 1024 (by norm_num) _ _ _ (v215_eq c arg3 harg3 arg4 harg4 arg19 arg20 arg24 arg25 x0 x1 σ hσ y) (v223_eq c arg3 harg3 arg4 harg4 arg5 harg5 arg19 arg20 arg21 arg22 arg23 arg24 arg25 x0 x1 x2 σ u hσ hu y) fun j => ?_
  rw [v211_eq c arg3 harg3 arg4 harg4 arg19 arg20 arg22 arg24 x0 x1 σ hσ, hu]

  rfl

include hσ hu in
/-- The accumulator's first 128 columns after 3072 keys. -/
theorem v400_eq (y : S1024x128.Idx) :
    kernelRun0_A.sl.v400 c arg3 harg3 arg4 harg4 arg5 harg5 arg19 arg20 arg21 arg22 arg23 arg24 arg25 x0 x1 x2 y = part (σ (y 0)) (u (y 1)) (top (σ (y 0)) 3072) 3072 := by
  unfold kernelRun0_A.sl.v400 kernelRun0_A.sl.HS4_7 kernelRun0_A.sl.HS4_6
  simp (disch := decide) only [↓ View.readCov_skip, ↓ View.readCov_cons_toLoadRect, ↓ View.readCov_fill, View.readAt_eq_ld, Memref.IsWhole.read_unread]
  pointwise [k0_pay62, k0_pay61]
  refine add_block (u (y 1)) (σ (y 0)) 2048 1024 (by norm_num) _ _ _ (v310_eq c arg3 harg3 arg4 harg4 arg19 arg20 arg24 arg25 x0 x1 σ hσ y) (v311_eq c arg3 harg3 arg4 harg4 arg5 harg5 arg19 arg20 arg21 arg22 arg23 arg24 arg25 x0 x1 x2 σ u hσ hu y) fun j => ?_
  rw [v306_eq c arg3 harg3 arg4 harg4 arg19 arg20 arg21 arg24 x0 x1 σ hσ, hu]

  rfl

include hσ hu in
/-- The accumulator's columns past the first 128 after 3072 keys. -/
theorem v407_eq (y : S1024x128.Idx) :
    kernelRun0_A.sl.v407 c arg3 harg3 arg4 harg4 arg5 harg5 arg19 arg20 arg21 arg22 arg23 arg24 arg25 x0 x1 x2 y = part (σ (y 0)) (u (128 + y 1)) (top (σ (y 0)) 3072) 3072 := by
  unfold kernelRun0_A.sl.v407 kernelRun0_A.sl.HS4_8 kernelRun0_A.sl.HS4_7
  simp (disch := decide) only [↓ View.readCov_skip, ↓ View.readCov_cons_toLoadRect, ↓ View.readCov_fill, View.readAt_eq_ld, Memref.IsWhole.read_unread]
  pointwise [k0_pay63, k0_pay61]
  refine add_block (u (128 + y 1)) (σ (y 0)) 2048 1024 (by norm_num) _ _ _ (v310_eq c arg3 harg3 arg4 harg4 arg19 arg20 arg24 arg25 x0 x1 σ hσ y) (v318_eq c arg3 harg3 arg4 harg4 arg5 harg5 arg19 arg20 arg21 arg22 arg23 arg24 arg25 x0 x1 x2 σ u hσ hu y) fun j => ?_
  rw [v306_eq c arg3 harg3 arg4 harg4 arg19 arg20 arg21 arg24 x0 x1 σ hσ, hu]

  rfl

include hσ hu in
/-- The accumulator's first 128 columns after 4096 keys. -/
theorem v447_eq (y : S1024x128.Idx) :
    kernelRun0_A.sl.v447 c arg3 harg3 arg4 harg4 arg5 harg5 arg19 arg20 arg21 arg22 arg23 arg24 arg25 x0 x1 x2 y = part (σ (y 0)) (u (y 1)) (top (σ (y 0)) 4096) 4096 := by
  unfold kernelRun0_A.sl.v447 kernelRun0_A.sl.HS4_9 kernelRun0_A.sl.HS4_8
  simp (disch := decide) only [↓ View.readCov_skip, ↓ View.readCov_cons_toLoadRect, ↓ View.readCov_fill, View.readAt_eq_ld, Memref.IsWhole.read_unread]
  pointwise [k0_pay78, k0_pay77]
  refine add_block (u (y 1)) (σ (y 0)) 3072 1024 (by norm_num) _ _ _ (v399_eq c arg3 harg3 arg4 harg4 arg19 arg20 arg24 arg25 x0 x1 σ hσ y) (v400_eq c arg3 harg3 arg4 harg4 arg5 harg5 arg19 arg20 arg21 arg22 arg23 arg24 arg25 x0 x1 x2 σ u hσ hu y) fun j => ?_
  rw [v395_eq c arg3 harg3 arg4 harg4 arg19 arg20 arg22 arg24 x0 x1 σ hσ, hu]

  rfl

include hσ hu in
/-- The accumulator's columns past the first 128 after 4096 keys. -/
theorem v454_eq (y : S1024x128.Idx) :
    kernelRun0_A.sl.v454 c arg3 harg3 arg4 harg4 arg5 harg5 arg19 arg20 arg21 arg22 arg23 arg24 arg25 x0 x1 x2 y = part (σ (y 0)) (u (128 + y 1)) (top (σ (y 0)) 4096) 4096 := by
  unfold kernelRun0_A.sl.v454 kernelRun0_A.sl.HS4_10 kernelRun0_A.sl.HS4_9
  simp (disch := decide) only [↓ View.readCov_skip, ↓ View.readCov_cons_toLoadRect, ↓ View.readCov_fill, View.readAt_eq_ld, Memref.IsWhole.read_unread]
  pointwise [k0_pay79, k0_pay77]
  refine add_block (u (128 + y 1)) (σ (y 0)) 3072 1024 (by norm_num) _ _ _ (v399_eq c arg3 harg3 arg4 harg4 arg19 arg20 arg24 arg25 x0 x1 σ hσ y) (v407_eq c arg3 harg3 arg4 harg4 arg5 harg5 arg19 arg20 arg21 arg22 arg23 arg24 arg25 x0 x1 x2 σ u hσ hu y) fun j => ?_
  rw [v395_eq c arg3 harg3 arg4 harg4 arg19 arg20 arg22 arg24 x0 x1 σ hσ, hu]

  rfl

include hσ hu in
/-- The accumulator's first 128 columns after 4352 keys. -/
theorem v461_eq (y : S1024x128.Idx) :
    kernelRun0_A.sl.v461 c arg3 harg3 arg4 harg4 arg5 harg5 arg19 arg20 arg21 arg22 arg23 arg24 arg25 x0 x1 x2 y = part (σ (y 0)) (u (y 1)) (top (σ (y 0)) 4352) 4352 := by
  unfold kernelRun0_A.sl.v461 kernelRun0_A.sl.HS4_11 kernelRun0_A.sl.HS4_10 kernelRun0_A.sl.r_13
  simp (disch := decide) only [↓ View.readCov_skip, ↓ View.readCov_cons_toLoadRect, ↓ View.readCov_fill, View.readAt_eq_ld, Memref.IsWhole.read_unread]
  pointwise [k0_pay1, k0_pay86, k0_pay85]
  refine add_block (u (y 1)) (σ (y 0)) 4096 256 (by norm_num) _ _ _ (v446_eq c arg3 harg3 arg4 harg4 arg19 arg20 arg24 arg25 x0 x1 σ hσ y) (v447_eq c arg3 harg3 arg4 harg4 arg5 harg5 arg19 arg20 arg21 arg22 arg23 arg24 arg25 x0 x1 x2 σ u hσ hu y) fun j => ?_
  rw [v442_eq c arg3 harg3 arg4 harg4 arg19 arg20 arg21 arg24 x0 x1 σ hσ, hu]

  rfl

include hσ hu in
/-- The accumulator's columns past the first 128 after 4352 keys. -/
theorem v462_eq (y : S1024x128.Idx) :
    kernelRun0_A.sl.v462 c arg3 harg3 arg4 harg4 arg5 harg5 arg19 arg20 arg21 arg22 arg23 arg24 arg25 x0 x1 x2 y = part (σ (y 0)) (u (128 + y 1)) (top (σ (y 0)) 4352) 4352 := by
  unfold kernelRun0_A.sl.v462 kernelRun0_A.sl.HS4_11 kernelRun0_A.sl.r_12
  simp (disch := decide) only [↓ View.readCov_skip, ↓ View.readCov_cons_toLoadRect, ↓ View.readCov_fill, View.readAt_eq_ld, Memref.IsWhole.read_unread]
  pointwise [k0_pay2, k0_pay85]
  refine add_block (u (128 + y 1)) (σ (y 0)) 4096 256 (by norm_num) _ _ _ (v446_eq c arg3 harg3 arg4 harg4 arg19 arg20 arg24 arg25 x0 x1 σ hσ y) (v454_eq c arg3 harg3 arg4 harg4 arg5 harg5 arg19 arg20 arg21 arg22 arg23 arg24 arg25 x0 x1 x2 σ u hσ hu y) fun j => ?_
  rw [v442_eq c arg3 harg3 arg4 harg4 arg19 arg20 arg21 arg24 x0 x1 σ hσ, hu]

  rfl

end Cert.Attn
-- ==== Proof.Out.lean ====
/- The attention kernel's output block as the attention of its query, key and value blocks: what a grid point leaves in the
   output window's buffer, at an index. -/
module

public import proofs.«01_k».proof.Proof.Words

@[expose] public section

set_option maxRecDepth 16384

noncomputable section

namespace Cert.Attn

open Cert.KernelIdeal Cert.KernelIdeal.Gen Idealize.ShloMosaic Idealize.ShloMosaic.Pointwise

/-- One entry of an attention's result: the values `w` of the 4352 keys, weighted by the softmax of the scores `s`. -/
def attRow (s w : Fin 4352 → EReal) : EReal :=
  ∑ j, w j * Ideal.div (Ideal.exp (s j - Finset.univ.sup s)) (∑ i, Ideal.exp (s i - Finset.univ.sup s))

/-- The block by block form of a row is `attRow`, its scores those in base two times `log 2`. -/
theorem row_eq (σ : ℕ → ℝ) (u e : ℕ → EReal) (s w : Fin 4352 → EReal) (hs : ∀ j, s j = ((σ j * Real.log 2 : ℝ) : EReal))
    (hu : ∀ j : Fin 4352, u j = w j) (he : ∀ j : Fin 4352, e j = 1) :
    Ideal.div (part σ u (top σ 4352) 4352) (part σ e (top σ 4352) 4352) = attRow s w := by
  have h1 : part σ e (top σ 4352) 4352 = part σ (fun _ => 1) (top σ 4352) 4352 := by
    unfold part
    refine Finset.sum_congr rfl fun j hj => ?_
    rw [he ⟨j, Finset.mem_range.1 hj⟩]
  rw [h1, softmax_row (hn := by norm_num) (s := fun j => σ j * Real.log 2) (hs := fun _ => rfl)]
  have hm : top (fun j => σ j * Real.log 2) 4352 = Finset.univ.sup s := by
    unfold top
    rw [← sup_fin 4352 fun j => ((σ j * Real.log 2 : ℝ) : EReal)]
    exact Finset.sup_congr rfl fun j _ => (hs j).symm
  rw [hm, Finset.sum_range, Finset.sum_range]
  unfold attRow
  simp only [hs, hu]

variable (c : Dev nD) (i : grid0.Coords) (arg3 : Memref sig .tc .vmem S1x1x1024x192 .bf16) (harg3 : arg3.IsWhole)
  (arg4 : Memref sig .tc .vmem S1x1x4352x192 .bf16) (harg4 : arg4.IsWhole)
  (arg5 : Memref sig .tc .vmem S1x1x4352x256 .bf16) (harg5 : arg5.IsWhole)
  (arg6 : Memref sig .tc .vmem S16x5632 .f32) (harg6 : arg6.IsWhole) (arg7 : Memref sig .tc .vmem S16x5632 .f32) (harg7 : arg7.IsWhole)
  (arg8 : Memref sig .tc .vmem S64x2048 .f32) (harg8 : arg8.IsWhole) (arg9 : Memref sig .tc .vmem S16x2048 .f32) (harg9 : arg9.IsWhole)
  (arg10 : Memref sig .tc .vmem S16x2048 .f32) (harg10 : arg10.IsWhole) (arg11 : Memref sig .tc .vmem S16x2048 .f32) (harg11 : arg11.IsWhole)
  (arg12 : Memref sig .tc .vmem S1x1024x128 .bf16) (harg12 : arg12.IsWhole) (arg13 : Memref sig .tc .vmem S16x5632 .bf16) (harg13 : arg13.IsWhole)
  (arg14 : Memref sig .tc .vmem S16x5632 .bf16) (harg14 : arg14.IsWhole) (arg15 : Memref sig .tc .vmem S64x2048 .bf16) (harg15 : arg15.IsWhole)
  (arg16 : Memref sig .tc .vmem S16x2048 .bf16) (harg16 : arg16.IsWhole) (arg17 : Memref sig .tc .vmem S16x2048 .bf16) (harg17 : arg17.IsWhole)
  (arg18 : Memref sig .tc .vmem S16x2048 .bf16) (harg18 : arg18.IsWhole)
  (arg19 : Memref sig .tc .vmem S1024x1024 .f32) (harg19 : arg19.IsWhole) (arg20 : Memref sig .tc .vmem S1024x1024 .f32) (harg20 : arg20.IsWhole)
  (arg21 : Memref sig .tc .vmem S1024x1024 .bf16) (harg21 : arg21.IsWhole) (arg22 : Memref sig .tc .vmem S1024x1024 .bf16) (harg22 : arg22.IsWhole)
  (arg23 : Memref sig .tc .vmem S1024x256 .f32) (harg23 : arg23.IsWhole) (arg24 : Memref sig .tc .vmem S1024x128 .f32) (harg24 : arg24.IsWhole)
  (arg25 : Memref sig .tc .vmem S1024x128 .f32) (harg25 : arg25.IsWhole)
  (x0 : Vec Ideal S1x1x1024x192 .bf16) (x1 : Vec Ideal S1x1x4352x192 .bf16) (x2 : Vec Ideal S1x1x4352x256 .bf16)
  (x3 : Vec Ideal S16x5632 .f32) (x4 : Vec Ideal S16x5632 .f32) (x5 : Vec Ideal S64x2048 .f32) (x6 : Vec Ideal S16x2048 .f32)
  (x7 : Vec Ideal S16x2048 .f32) (x8 : Vec Ideal S16x2048 .f32)

/-- The output block: the accumulator's first half over its second, after every key. -/
theorem out9_eq (σ : ℕ → ℕ → ℝ) (u : ℕ → ℕ → EReal) (hσ : Scores x0 x1 σ) (hu : Values x2 u) (y : S1x1024x128.Idx) :
    out0_A_9 c i arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22
      arg23 harg23 arg24 harg24 arg25 harg25 x0 x1 x2 x3 x4 x5 x6 x7 x8 y
      = Ideal.div (part (σ (y 1)) (u (y 2)) (top (σ (y 1)) 4352) 4352) (part (σ (y 1)) (u (128 + y 2)) (top (σ (y 1)) 4352) 4352) := by
  unfold out0_A_9
  rw [View.read_writes_junk_apply_eq_canon]
  unfold kernelRun0_A
  dsimp only
  rw [View.canon_cons_unit_lit _ _ _ (by decide)]
  pointwise [k0_pay3]
  rw [v461_eq c arg3 harg3 arg4 harg4 arg5 harg5 arg19 arg20 arg21 arg22 arg23 arg24 arg25 x0 x1 x2 σ u hσ hu,
    v462_eq c arg3 harg3 arg4 harg4 arg5 harg5 arg19 arg20 arg21 arg22 arg23 arg24 arg25 x0 x1 x2 σ u hσ hu]
  rfl

/-- Finite queries and keys, ones past the first 128 value columns: the output block is the attention of the three blocks. -/
theorem out9_att (q : Fin 1024 → Fin 192 → ℝ) (k : Fin 4352 → Fin 192 → ℝ) (hq : ∀ r d, x0 (ix4 0 0 r d) = (q r d : EReal))
    (hk : ∀ j d, x1 (ix4 0 0 j d) = (k j d : EReal)) (h1 : ∀ (j : Fin 4352) (d : Fin 256), 128 ≤ d.val → x2 (ix4 0 0 j d) = 1)
    (y : S1x1024x128.Idx) (s w : Fin 4352 → EReal) (hs : ∀ j, s j = (((∑ d, q (y 1) d * k j d) * Real.log 2 : ℝ) : EReal))
    (hw : ∀ j, w j = x2 (ix4 0 0 j ⟨y 2, lt_trans (y 2).isLt (by decide)⟩)) :
    out0_A_9 c i arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22
      arg23 harg23 arg24 harg24 arg25 harg25 x0 x1 x2 x3 x4 x5 x6 x7 x8 y = attRow s w := by
  have hσ : Scores x0 x1 fun r j => if h : r < 1024 ∧ j < 4352 then ∑ d, q ⟨r, h.1⟩ d * k ⟨j, h.2⟩ d else 0 := by
    intro r j
    beta_reduce
    rw [dif_pos (And.intro r.2 j.2), coe_sum]
    exact Finset.sum_congr rfl fun d _ => by rw [hq, hk, EReal.coe_mul]
  have hu : Values x2 fun d j => if h : j < 4352 ∧ d < 256 then x2 (ix4 0 0 ⟨j, h.1⟩ ⟨d, h.2⟩) else 0 := by
    intro j d
    beta_reduce
    rw [dif_pos (And.intro j.2 d.2)]
  have y1 : (y 1 : ℕ) < 1024 := (y 1).isLt
  have y2 : (y 2 : ℕ) < 128 := (y 2).isLt
  rw [out9_eq (σ := _) (u := _) (hσ := hσ) (hu := hu)]
  refine row_eq _ _ _ s w (fun j => ?_) (fun j => ?_) fun j => ?_
  · rw [hs, dif_pos (And.intro y1 j.2)]
    rfl
  · rw [hw, dif_pos (And.intro j.2 (by omega : (y 2 : ℕ) < 256))]
  · rw [dif_pos (And.intro j.2 (by omega : 128 + (y 2 : ℕ) < 256))]
    exact h1 _ _ (by simp)

end Cert.Attn

end
-- ==== Proof.Blocks.lean ====
/- The attention kernel's arrays after its run, as functions of the arguments: block by block through the windows' index maps. -/
module

public import proofs.«01_k».proof.Proof.Out
public import proofs.«01_k».proof.Proof.Gen.KernelIdeal.Value
public import Idealize.ShloMosaic.Lib.Claim

@[expose] public section

set_option maxRecDepth 16384

noncomputable section

namespace Cert.Attn

open Cert.KernelIdeal Cert.KernelIdeal.Gen Idealize.ShloMosaic Idealize.ShloMosaic.Pointwise

variable (m : (ℓ : Loc nD τ sig) → Buf (Elt Ideal) ℓ) (c : Dev nD)

/-- Where the attention's windows stand at a grid point (batch row, head, query block). -/
theorem idx : ∀ t : Fin cfg0.N, win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0]
    ∧ win0_9.index t = ![(grid0.coords t 0).val, (grid0.coords t 2).val, (grid0.coords t 1).val] := by decide +kernel

/-- A weight's block is read where its cast is written. -/
theorem idxw : ∀ t : Fin cfg0.N, win0_3.index t = win0_10.index t ∧ win0_4.index t = win0_11.index t ∧ win0_5.index t = win0_12.index t
    ∧ win0_6.index t = win0_13.index t ∧ win0_7.index t = win0_14.index t ∧ win0_8.index t = win0_15.index t := by decide +kernel

/-- The reference's scale of the scores, one over the root of 192. -/
def κ : ℝ := 1 / Real.sqrt 192

/-- The kernel's scale of the queries, one over the root of 192 times `log 2`. -/
def sc : ℝ := 1 / (Real.sqrt 192 * Real.log 2)

theorem sc_log : sc * Real.log 2 = κ := by
  have h : Real.log 2 ≠ 0 := (Real.log_pos (by norm_num)).ne'
  have h' : Real.sqrt 192 ≠ 0 := (Real.sqrt_pos.2 (by norm_num)).ne'
  unfold sc κ
  field_simp

theorem bits192 : Ideal.ofBits FTy.f32 1128267776#32 = ((192 : ℝ) : EReal) := by
  simp [Ideal.ofBits, Ideal.ieee]
  rw [← EReal.coe_mul]
  norm_num

theorem bits2 : Ideal.ofBits FTy.f32 1073741824#32 = ((2 : ℝ) : EReal) := by
  simp [Ideal.ofBits, Ideal.ieee]
  rw [← EReal.coe_mul]
  norm_num

theorem κ_eq : Ideal.div 1 (Ideal.sqrt (Ideal.ofBits FTy.f32 1128267776#32)) = (κ : EReal) := by
  have h' : Real.sqrt 192 ≠ 0 := (Real.sqrt_pos.2 (by norm_num)).ne'
  rw [bits192]
  have e : Ideal.sqrt ((192 : ℝ) : EReal) = ((Real.sqrt 192 : ℝ) : EReal) := by
    show (if (192 : ℝ) < 0 then _ else _) = _
    rw [if_neg (by norm_num)]
  rw [e]
  unfold Ideal.div κ
  rw [if_neg (by exact_mod_cast h'), one_mul, ← EReal.coe_inv, one_div]

theorem sc_eq : Ideal.div 1 (Ideal.sqrt (Ideal.ofBits FTy.f32 1128267776#32) * Ideal.log (Ideal.ofBits FTy.f32 1073741824#32)) = (sc : EReal) := by
  have h : Real.log 2 ≠ 0 := (Real.log_pos (by norm_num)).ne'
  have h' : Real.sqrt 192 ≠ 0 := (Real.sqrt_pos.2 (by norm_num)).ne'
  rw [bits192, bits2]
  have e : Ideal.sqrt ((192 : ℝ) : EReal) = ((Real.sqrt 192 : ℝ) : EReal) := by
    show (if (192 : ℝ) < 0 then _ else _) = _
    rw [if_neg (by norm_num)]
  have e' : Ideal.log ((2 : ℝ) : EReal) = ((Real.log 2 : ℝ) : EReal) := by
    show (if (2 : ℝ) ≤ 0 then _ else _) = _
    rw [if_neg (by norm_num)]
  rw [e, e', ← EReal.coe_mul]
  unfold Ideal.div sc
  rw [if_neg (by exact_mod_cast mul_ne_zero h' h), one_mul, ← EReal.coe_inv, one_div]

/-- The queries, keys and values of the call. -/
abbrev aq : Vec Ideal S2x16x4096x192 .f32 := m ((c.tc : Thread nD τ).loc main_arg0)
abbrev ak : Vec Ideal S2x16x4352x192 .f32 := m ((c.tc : Thread nD τ).loc main_arg1)
abbrev av : Vec Ideal S2x16x4352x128 .f32 := m ((c.tc : Thread nD τ).loc main_arg2)

/-- The queries as the kernel's call receives them: scaled. -/
theorem vq (j : S2x16x4096x192.Idx) : V m c main_v6 j = aq m c j * (sc : EReal) := by
  entry_read
  pointwise []
  rw [sc_eq]

/-- The keys as the kernel's call receives them. -/
theorem vk (j : S2x16x4352x192.Idx) : V m c main_v7 j = ak m c j := by
  entry_read
  pointwise []

/-- The values as the kernel's call receives them: ones past the first 128 columns. -/
theorem vv (j : S2x16x4352x256.Idx) : V m c main_v10 j
    = if h : (j 3).val < 128 then av m c (ix4 (j 0) (j 1) (j 2) ⟨j 3, h⟩) else 1 := by
  entry_read
  pointwise []

/-- The attention of the whole arrays, at batch row, token and (head, channel). -/
def attAt (q : Vec Ideal S2x16x4096x192 .f32) (k : Vec Ideal S2x16x4352x192 .f32) (v : Vec Ideal S2x16x4352x128 .f32)
    (i : S2x4096x2048.Idx) : EReal :=
  attRow (fun j => (∑ d : Fin 192, q (ix4 (i 0) ⟨(i 2 : ℕ) / 128, by have := (i 2).isLt; simp at this; omega⟩ (i 1) d)
      * k (ix4 (i 0) ⟨(i 2 : ℕ) / 128, by have := (i 2).isLt; simp at this; omega⟩ j d)) * (κ : EReal))
    (fun j => v (ix4 (i 0) ⟨(i 2 : ℕ) / 128, by have := (i 2).isLt; simp at this; omega⟩ j ⟨(i 2 : ℕ) % 128, Nat.mod_lt _ (by decide)⟩))

/-- The attention's array after the run, its queries and keys finite. -/
theorem arr9 (hq : ∀ j, ∃ r : ℝ, aq m c j = (r : EReal)) (hk : ∀ j, ∃ r : ℝ, ak m c j = (r : EReal)) :
    (dats m 0 c).arrAt 9 cfg0.N = attAt (aq m c) (ak m c) (av m c) := by
  choose q hq using hq
  choose k hk using hk
  refine (dats m 0 c).arrAt_eq_of_covers 9 _ (by decide +kernel) fun t hf y => ?_
  have i0 : (grid0.coords t 0).val < 2 := (grid0.coords t 0).isLt
  have i1 : (grid0.coords t 1).val < 16 := (grid0.coords t 1).isLt
  have i2 : (grid0.coords t 2).val < 4 := (grid0.coords t 2).isLt
  have y0 : (y 0 : ℕ) < 1 := (y 0).isLt
  have y1 : (y 1 : ℕ) < 1024 := (y 1).isLt
  have y2 : (y 2 : ℕ) < 128 := (y 2).isLt
  have e0 : ((((cfg0.win 9).blk t).view.emb y) 0 : ℕ) = (grid0.coords t 0).val := by
    blk_simp [idx t]
  have e1 : ((((cfg0.win 9).blk t).view.emb y) 1 : ℕ) = (grid0.coords t 2).val * 1024 + y 1 := by
    blk_simp [idx t]
  have e2 : ((((cfg0.win 9).blk t).view.emb y) 2 : ℕ) = (grid0.coords t 1).val * 128 + y 2 := by
    blk_simp [idx t]
  generalize ((cfg0.win 9).blk t).view.emb y = p at e0 e1 e2 ⊢
  blk_simp
  rw [after0_9]
  unfold outsAt0
  dsimp only
  have p0 : p 0 = (⟨(grid0.coords t 0).val, i0⟩ : Fin 2) := Fin.ext e0
  have p1 : p 1 = (⟨(grid0.coords t 2).val * 1024 + y 1, by omega⟩ : Fin 4096) := Fin.ext e1
  have hd : (p 2 : ℕ) / 128 = (grid0.coords t 1).val := by omega
  have hr : (p 2 : ℕ) % 128 = y 2 := by omega
  have hb : ∀ (j : Fin 4352) (d : Fin 256), iblk m c 2 t (ix4 0 0 j d)
      = if h : d.val < 128 then av m c (ix4 ⟨(grid0.coords t 0).val, i0⟩ ⟨(grid0.coords t 1).val, i1⟩ j ⟨d, h⟩) else 1 := fun j d => by
    rw [show iblk m c 2 t (ix4 0 0 j d) = V m c main_v10 (ix4 ⟨(grid0.coords t 0).val, i0⟩ ⟨(grid0.coords t 1).val, i1⟩ j d)
      from by blk_ext [iblk, idx t], vv]
    rfl
  unfold attAt
  refine out9_att (q := fun r d => q (ix4 ⟨(grid0.coords t 0).val, i0⟩ ⟨(grid0.coords t 1).val, i1⟩ ⟨(grid0.coords t 2).val * 1024 + r, by omega⟩ d) * sc)
    (k := fun j d => k (ix4 ⟨(grid0.coords t 0).val, i0⟩ ⟨(grid0.coords t 1).val, i1⟩ j d)) (hq := fun r d => ?_) (hk := fun j d => ?_) (h1 := fun j d hd => ?_)
    (y := _) (s := _) (w := _) (hs := fun j => ?_) (hw := fun j => ?_) ..
  · rw [show iblk m c 0 t (ix4 0 0 r d) = V m c main_v6 (ix4 ⟨(grid0.coords t 0).val, i0⟩ ⟨(grid0.coords t 1).val, i1⟩ ⟨(grid0.coords t 2).val * 1024 + r, by omega⟩ d)
      from by blk_ext [iblk, idx t], vq, hq, EReal.coe_mul]
  · rw [show iblk m c 1 t (ix4 0 0 j d) = V m c main_v7 (ix4 ⟨(grid0.coords t 0).val, i0⟩ ⟨(grid0.coords t 1).val, i1⟩ j d)
      from by blk_ext [iblk, idx t], vk, hk]
  · rw [hb]
    exact dif_neg (not_lt.2 hd)
  · simp only [p0, p1, hd, hq, hk]
    rw [← sc_log]
    simp only [← EReal.coe_mul, ← coe_sum, Finset.sum_mul]
    congr 1
    exact Finset.sum_congr rfl fun d _ => by ring
  · simp only [p0, hd, hr]
    rw [hb]
    simp only [y2, ↓reduceDIte]

end Cert.Attn

end
-- ==== Proof.Ref.lean ====
/- The reference's attention at an index: scores, their softmax, the weighted values. -/
module

public import proofs.«01_k».proof.Proof.Blocks
public import proofs.«01_k».proof.Proof.Gen.ReferenceIdeal.Run

@[expose] public section

set_option maxRecDepth 16384

noncomputable section

namespace Cert.Attn

open Cert.ReferenceIdeal Cert.ReferenceIdeal.Gen Idealize.ShloMosaic Idealize.ShloMosaic.Pointwise

variable (q : FVec Ideal S2x16x4096x192 .f32) (k : FVec Ideal S2x16x4352x192 .f32) (v : FVec Ideal S2x16x4352x128 .f32)

/-- The reference's scaled scores. -/
def sRef : FVec Ideal S2x16x4096x4352 .f32 :=
  mulf (Host.dotGeneral dot_S2x16x4096x192_S2x16x4352x192_S2x16x4096x4352_3_3_2_2_01_01 none q k)
    (broadcastInDim S2x16x4096x4352 ![] bcast_S_S2x16x4096x4352 (Host.divf (constant S_ FTy.f32 0x3F800000#32) (Host.sqrt (constant S_ FTy.f32 0x43400000#32))))

theorem sRef_apply (b : Fin 2) (h : Fin 16) (t : Fin 4096) (j : Fin 4352) :
    sRef q k (ix4 b h t j) = (∑ d : Fin 192, q (ix4 b h t d) * k (ix4 b h j d)) * (κ : EReal) := by
  pointwise [sRef]
  rw [κ_eq]

/-- A maximum over the last axis, from minus infinity, is a supremum. -/
theorem hostmax {a b c n : ℕ} {u : Shape} (x : FVec Ideal ⟨4, ![a, b, c, n]⟩ .f32) (h : (⟨4, ![a, b, c, n]⟩ : Shape).ReducesTo [3] ⟨3, ![a, b, c]⟩)
    (hu : 0 < u.numel) (i : Fin a) (j : Fin b) (k : Fin c) :
    Host.reduce FloatOps.maximumf x (constant u FTy.f32 0xFF800000#32) h hu (ix3 i j k) = Finset.univ.sup fun l : Fin n => x (ix4 i j k l) := by
  have e : Ideal.ofBits .f32 0xFF800000#32 = ⊥ := by simp [Ideal.ofBits, Ideal.ieee]
  pointwise []
  rw [e]
  rfl

/-- The reference's row maxima. -/
def mRef (s : FVec Ideal S2x16x4096x4352 .f32) : FVec Ideal S2x16x4096 .f32 :=
  maximumf (broadcastInDim S2x16x4096 ![] bcast_S_S2x16x4096 (constant S_ FTy.f32 0xFF800000#32))
    (Host.reduce FloatOps.maximumf s (constant S_ FTy.f32 0xFF800000#32) reducesTo_S2x16x4096x4352_S2x16x4096_d3 h_S_)

/-- A maximum against minus infinity changes nothing. -/
theorem maxbot (w : FVec Ideal S2x16x4096 .f32) (i : S2x16x4096.Idx) :
    maximumf (broadcastInDim S2x16x4096 ![] bcast_S_S2x16x4096 (constant S_ FTy.f32 0xFF800000#32)) w i = w i := by
  have e : Ideal.ofBits .f32 0xFF800000#32 = ⊥ := by simp [Ideal.ofBits, Ideal.ieee]
  pointwise []
  rw [e]
  exact bot_sup_eq _

theorem mRef_apply (s : FVec Ideal S2x16x4096x4352 .f32) (b : Fin 2) (h : Fin 16) (t : Fin 4096) :
    mRef s (ix3 b h t) = Finset.univ.sup fun j : Fin 4352 => s (ix4 b h t j) :=
  (maxbot _ _).trans (hostmax s reducesTo_S2x16x4096x4352_S2x16x4096_d3 h_S_ b h t)

/-- The reference's exponentials. -/
def eRef (s : FVec Ideal S2x16x4096x4352 .f32) : FVec Ideal S2x16x4096x4352 .f32 :=
  Host.exp (subf s (broadcastInDim S2x16x4096x4352 ![0, 1, 2, 3] bcast_S2x16x4096x1_S2x16x4096x4352_0_1_2_3
    (broadcastInDim S2x16x4096x1 ![0, 1, 2] bcast_S2x16x4096_S2x16x4096x1_0_1_2 (mRef s))))

theorem eRef_apply (s : FVec Ideal S2x16x4096x4352 .f32) (b : Fin 2) (h : Fin 16) (t : Fin 4096) (j : Fin 4352) :
    eRef s (ix4 b h t j) = Ideal.exp (s (ix4 b h t j) - Finset.univ.sup fun j : Fin 4352 => s (ix4 b h t j)) := by
  rw [← mRef_apply]
  pointwise [eRef]

/-- The reference's softmax. -/
def pRef (e : FVec Ideal S2x16x4096x4352 .f32) : FVec Ideal S2x16x4096x4352 .f32 :=
  Host.divf e (broadcastInDim S2x16x4096x4352 ![0, 1, 2, 3] bcast_S2x16x4096x1_S2x16x4096x4352_0_1_2_3
    (broadcastInDim S2x16x4096x1 ![0, 1, 2] bcast_S2x16x4096_S2x16x4096x1_0_1_2
      (Host.reduceAdd e (constant S_ FTy.f32 0x00000000#32) reducesTo_S2x16x4096x4352_S2x16x4096_d3 h_S_)))

theorem pRef_apply (e : FVec Ideal S2x16x4096x4352 .f32) (b : Fin 2) (h : Fin 16) (t : Fin 4096) (j : Fin 4352) :
    pRef e (ix4 b h t j) = Ideal.div (e (ix4 b h t j)) (∑ j : Fin 4352, e (ix4 b h t j)) := by
  pointwise [pRef]

/-- The reference's attention. -/
def oRef (p : FVec Ideal S2x16x4096x4352 .f32) : FVec Ideal S2x4096x2048 .bf16 :=
  truncf .bf16 (shapeCast S2x4096x2048 (transpose S2x4096x16x128 [0, 3, 1, 2]
    (Host.dotGeneral dot_S2x16x4352x128_S2x16x4096x4352_S2x16x128x4096_2_3_3_2_01_01 none v p)
    transposes_S2x16x128x4096_S2x4096x16x128_0_3_1_2) shapeCasts_S2x4096x16x128_S2x4096x2048) bitsLt_bf16_f32

theorem oRef_apply (p : FVec Ideal S2x16x4096x4352 .f32) (i : S2x4096x2048.Idx) :
    oRef v p i = ∑ j : Fin 4352, v (ix4 (i 0) ⟨(i 2 : ℕ) / 128, by have := (i 2).isLt; simp at this; omega⟩ j ⟨(i 2 : ℕ) % 128, Nat.mod_lt _ (by decide)⟩)
      * p (ix4 (i 0) ⟨(i 2 : ℕ) / 128, by have := (i 2).isLt; simp at this; omega⟩ (i 1) j) := by
  pointwise [oRef]

/-- The reference's softmax of the scaled scores, written out. -/
theorem smRef_apply (b : Fin 2) (h : Fin 16) (t : Fin 4096) (j : Fin 4352) :
    pRef (eRef (sRef q k)) (ix4 b h t j)
      = Ideal.div (Ideal.exp ((∑ d : Fin 192, q (ix4 b h t d) * k (ix4 b h j d)) * (κ : EReal)
            - Finset.univ.sup fun j : Fin 4352 => (∑ d : Fin 192, q (ix4 b h t d) * k (ix4 b h j d)) * (κ : EReal)))
          (∑ i : Fin 4352, Ideal.exp ((∑ d : Fin 192, q (ix4 b h t d) * k (ix4 b h i d)) * (κ : EReal)
            - Finset.univ.sup fun j : Fin 4352 => (∑ d : Fin 192, q (ix4 b h t d) * k (ix4 b h j d)) * (κ : EReal))) := by
  rw [pRef_apply]
  simp only [eRef_apply, sRef_apply]

/-- The reference's attention is the attention of the whole arrays. -/
theorem ref_eq : oRef v (pRef (eRef (sRef q k))) = attAt q k v := by
  funext i
  rw [oRef_apply]
  unfold attAt attRow
  exact Finset.sum_congr rfl fun j _ => congrArg _ (smRef_apply q k _ _ _ _)

end Cert.Attn

end
-- ==== Proof.Weights.lean ====
/- The weights' arrays after the kernel's run: the weights, block by block. -/
module

public import proofs.«01_k».proof.Proof.Blocks

@[expose] public section

set_option maxRecDepth 16384

noncomputable section

namespace Cert.Attn

open Cert.KernelIdeal Cert.KernelIdeal.Gen Idealize.ShloMosaic Idealize.ShloMosaic.Pointwise

variable (m : (ℓ : Loc nD τ sig) → Buf (Elt Ideal) ℓ) (c : Dev nD)

/-- Weight 0's array after the run: the weight. -/
theorem arr10 : (dats m 0 c).arrAt 10 cfg0.N = m ((c.tc : Thread nD τ).loc main_arg3) := by
  refine (dats m 0 c).arrAt_eq_of_covers 10 _ (by decide +kernel) fun t hf y => ?_
  blk_simp
  rw [after0_10]
  unfold outsAt0
  dsimp only
  frame_out
  pointwise [k0_pay4]
  have h := idxw t
  blk_ext [iblk, V, h]

/-- Weight 1's array after the run: the weight. -/
theorem arr11 : (dats m 0 c).arrAt 11 cfg0.N = m ((c.tc : Thread nD τ).loc main_arg4) := by
  refine (dats m 0 c).arrAt_eq_of_covers 11 _ (by decide +kernel) fun t hf y => ?_
  blk_simp
  rw [after0_11]
  unfold outsAt0
  dsimp only
  frame_out
  pointwise [k0_pay5]
  have h := idxw t
  blk_ext [iblk, V, h]

/-- Weight 2's array after the run: the weight. -/
theorem arr12 : (dats m 0 c).arrAt 12 cfg0.N = m ((c.tc : Thread nD τ).loc main_arg5) := by
  refine (dats m 0 c).arrAt_eq_of_covers 12 _ (by decide +kernel) fun t hf y => ?_
  blk_simp
  rw [after0_12]
  unfold outsAt0
  dsimp only
  frame_out
  pointwise [k0_pay6]
  have h := idxw t
  blk_ext [iblk, V, h]

/-- Weight 3's array after the run: the weight. -/
theorem arr13 : (dats m 0 c).arrAt 13 cfg0.N = m ((c.tc : Thread nD τ).loc main_arg6) := by
  refine (dats m 0 c).arrAt_eq_of_covers 13 _ (by decide +kernel) fun t hf y => ?_
  blk_simp
  rw [after0_13]
  unfold outsAt0
  dsimp only
  frame_out
  pointwise [k0_pay7]
  have h := idxw t
  blk_ext [iblk, V, h]

/-- Weight 4's array after the run: the weight. -/
theorem arr14 : (dats m 0 c).arrAt 14 cfg0.N = m ((c.tc : Thread nD τ).loc main_arg7) := by
  refine (dats m 0 c).arrAt_eq_of_covers 14 _ (by decide +kernel) fun t hf y => ?_
  blk_simp
  rw [after0_14]
  unfold outsAt0
  dsimp only
  frame_out
  pointwise [k0_pay8]
  have h := idxw t
  blk_ext [iblk, V, h]

/-- Weight 5's array after the run: the weight. -/
theorem arr15 : (dats m 0 c).arrAt 15 cfg0.N = m ((c.tc : Thread nD τ).loc main_arg8) := by
  refine (dats m 0 c).arrAt_eq_of_covers 15 _ (by decide +kernel) fun t hf y => ?_
  blk_simp
  rw [after0_15]
  unfold outsAt0
  dsimp only
  frame_out
  pointwise [k0_pay9]
  have h := idxw t
  blk_ext [iblk, V, h]

end Cert.Attn

end
-- ==== Proof.Ffn.lean ====
/- The FFN kernel's body at an index: the gate's product with its halo rows, the convolution over three tokens, the gated activation. -/
module

public import proofs.«01_k».proof.Proof.Gen.Kernel2Ideal.Skeleton
public import Idealize.ShloMosaic.Lib.Pipeline.ValueKit
public import Idealize.ShloMosaic.Lib.Claim

@[expose] public section

set_option maxRecDepth 16384

noncomputable section

namespace Cert.Ffn

open Cert.Kernel2Ideal Cert.Kernel2Ideal.Gen Idealize.ShloMosaic Idealize.ShloMosaic.Pointwise

/-- The activation, in its form with `tanh`. -/
def gelu (u : EReal) : EReal :=
  u * (Ideal.ofBits .f32 0x3F000000#32 * (1 + Ideal.tanh (Ideal.ofBits .f32 0x3F4C422A#32
    * (u + Ideal.ofBits .f32 0x3D372713#32 * (u * (u * u))))))

/-- The gated activation of one token and channel, from the bias, the channel's three weights, the gate before, at and after the token, and the value. -/
def act (b w0 w1 w2 gm g gp v : EReal) : EReal := gelu (b + gm * w0 + g * w1 + gp * w2) * v

variable (i : grid0.Coords) (h : Vec Ideal S1x512x2048 .bf16) (hp hn : Vec Ideal S1x16x2048 .bf16) (wg wv : Vec Ideal S2048x512 .bf16)
  (wd : Vec Ideal S512x2048 .bf16) (cw : Vec Ideal S3x512 .f32) (cb : Vec Ideal S1x512 .f32) (acc : Vec Ideal S512x2048 .f32)

/-- A select on the comparison of two small numbers. -/
theorem sel {α : Type} (a k : ℕ) (ha : a < 4294967296) (hk : k < 4294967296) (A B : α) :
    Scalar.select (IntOp.cmpi .eq (BitVec.ofNat 32 a) (BitVec.ofNat 32 k)) A B = if a = k then A else B := by
  have e : (BitVec.ofNat 32 a = BitVec.ofNat 32 k) ↔ a = k := by
    rw [← BitVec.toNat_inj, BitVec.toNat_ofNat, BitVec.toNat_ofNat, Nat.mod_eq_of_lt ha, Nat.mod_eq_of_lt hk]
  by_cases h : a = k
  · subst h
    simp [Scalar.select, IntOp.cmpi]
  · have n : (BitVec.ofNat 32 a == BitVec.ofNat 32 k) = false := beq_eq_false_iff_ne.mpr fun q => h (e.mp q)
    simp [Scalar.select, IntOp.cmpi, n, h]

/-- The tile's gate. -/
theorem gate_apply (r n : Fin 512) : k0_pay5 h wg hp hn (ix2 r n) = ∑ k : Fin 2048, h (ix3 0 r k) * wg (ix2 k n) := by
  pointwise [k0_pay5, k0_pay4, k0_pay3]

/-- The gate of the token before. -/
theorem before_apply (r n : Fin 512) : k0_pay6 i h wg hp hn (ix2 r n)
    = if r.val = 0 then (if (i 1).val = 0 then 0 else ∑ k : Fin 2048, hp (ix3 0 15 k) * wg (ix2 k n))
      else ∑ k : Fin 2048, h (ix3 0 ⟨r.val - 1, by omega⟩ k) * wg (ix2 k n) := by
  have hi : (i 1).val < 8 := (i 1).isLt
  pointwise [k0_pay6, k0_pay5, k0_pay4, k0_pay3]
  refine (sel r.val 0 (by omega) (by omega) _ _).trans ?_
  by_cases hr : r.val = 0
  · rw [if_pos hr, if_pos hr]
    exact sel (i 1).val 0 (by omega) (by omega) _ _
  · rw [if_neg hr, if_neg hr]
    refine Finset.sum_congr rfl fun k _ => ?_
    have e : (r.val + 512 - 1) % 512 = r.val - 1 := by omega
    rw [dif_pos (by omega)]
    simp only [e]

/-- The gate of the token after. -/
theorem after_apply (r n : Fin 512) : k0_pay7 i h wg hp hn (ix2 r n)
    = if h' : r.val = 511 then (if (i 1).val = 7 then 0 else ∑ k : Fin 2048, hn (ix3 0 0 k) * wg (ix2 k n))
      else ∑ k : Fin 2048, h (ix3 0 ⟨r.val + 1, by omega⟩ k) * wg (ix2 k n) := by
  have hi : (i 1).val < 8 := (i 1).isLt
  pointwise [k0_pay7, k0_pay5, k0_pay4, k0_pay3]
  refine (sel r.val 511 (by omega) (by omega) _ _).trans ?_
  by_cases hr : r.val = 511
  · rw [if_pos hr, dif_pos hr]
    exact sel (i 1).val 7 (by omega) (by omega) _ _
  · rw [if_neg hr, dif_neg hr]
    refine Finset.sum_congr rfl fun k _ => ?_
    have e : (r.val + 512 - 511) % 512 = r.val + 1 := by omega
    rw [dif_pos (by omega)]
    simp only [e]

/-- One block of channels, accumulated. -/
theorem step_apply (g gm gp : FVec Ideal S512x512 .f32) (r : Fin 512) (d : Fin 2048) :
    k0_pay8 (k0_pay3 h) g gm gp cw cb wv acc wd (ix2 r d) = acc (ix2 r d) + ∑ n : Fin 512,
      act (cb (ix2 0 n)) (cw (ix2 0 n)) (cw (ix2 1 n)) (cw (ix2 2 n)) (gm (ix2 r n)) (g (ix2 r n)) (gp (ix2 r n))
        (∑ k : Fin 2048, h (ix3 0 r k) * wv (ix2 k n)) * wd (ix2 n d) := by
  pointwise [k0_pay8, k0_pay3]
  rfl

/-- The start of the accumulator. -/
theorem zero_apply (j : S512x2048.Idx) : k0_pay2 (F := Ideal) j = 0 := by
  pointwise [k0_pay2]

/-- The residual stream with the gated, normalised sum. -/
def fin (x g p f s : EReal) : EReal :=
  x + g * (f * Ideal.rsqrt (Ideal.div s (Ideal.ofBits .f32 0x45000000#32) + Ideal.ofBits .f32 0x358637BD#32) * p)

theorem fin_apply (x : Vec Ideal S1x512x2048 .f32) (g : Vec Ideal S1x1x2048 .f32) (p : Vec Ideal S1x2048 .f32) (r : Fin 512) (d : Fin 2048) :
    k0_pay1 x g acc p (ix3 0 r d) = fin (x (ix3 0 r d)) (g (ix3 0 0 d)) (p (ix2 0 d)) (acc (ix2 r d))
      (∑ l : Fin 2048, acc (ix2 r l) * acc (ix2 r l)) := by
  pointwise [k0_pay1]
  rfl

end Cert.Ffn

end
-- ==== Proof.FfnSpec.lean ====
/- The FFN's result as a function of its arguments. -/
module

public import proofs.«01_k».proof.Proof.Ffn

@[expose] public section

set_option maxRecDepth 16384

noncomputable section

namespace Cert.Ffn

open Cert.Kernel2Ideal Idealize.ShloMosaic Idealize.ShloMosaic.Pointwise

variable (h : Vec Ideal S2x4096x2048 .bf16) (wg wv : Vec Ideal S2048x5632 .bf16) (wd : Vec Ideal S5632x2048 .bf16)
  (cw : Vec Ideal S3x5632 .f32) (cb : Vec Ideal S5632 .f32) (x1 : Vec Ideal S2x4096x2048 .f32) (gate : Vec Ideal S2x2048 .f32)
  (gp : Vec Ideal S2048 .f32)

/-- A row of the input against a column of a weight. -/
def dot (w : Vec Ideal S2048x5632 .bf16) (b : Fin 2) (t : Fin 4096) (n : Fin 5632) : EReal :=
  ∑ k : Fin 2048, h (ix3 b t k) * w (ix2 k n)

/-- The gated activation of a token and channel: the gate of the token and of its two neighbours, zero outside the sequence. -/
def hid (b : Fin 2) (t : Fin 4096) (n : Fin 5632) : EReal :=
  act (cb (ix1 n)) (cw (ix2 0 n)) (cw (ix2 1 n)) (cw (ix2 2 n)) (if t.val = 0 then 0 else dot h wg b ⟨t.val - 1, by omega⟩ n) (dot h wg b t n)
    (if h' : t.val = 4095 then 0 else dot h wg b ⟨t.val + 1, by omega⟩ n) (dot h wv b t n)

/-- The down projection. -/
def down (b : Fin 2) (t : Fin 4096) (d : Fin 2048) : EReal := ∑ n : Fin 5632, hid h wg wv cw cb b t n * wd (ix2 n d)

/-- The residual stream after the FFN. -/
def ffn (j : S2x4096x2048.Idx) : EReal :=
  fin (x1 j) (gate (ix2 (j 0) (j 2))) (gp (ix1 (j 2))) (down h wg wv wd cw cb (j 0) (j 1) (j 2))
    (∑ l : Fin 2048, down h wg wv wd cw cb (j 0) (j 1) l * down h wg wv wd cw cb (j 0) (j 1) l)

end Cert.Ffn

end
-- ==== Proof.FfnBlocks.lean ====
/- The FFN kernel's array after its run, as a function of the arguments: block by block through the windows' index maps. -/
module

public import proofs.«01_k».proof.Proof.FfnSpec
public import proofs.«01_k».proof.Proof.Gen.Kernel2Ideal.Value
public import Idealize.ShloMosaic.Lib.Pipeline.ReadBack
public import Idealize.ShloMosaic.Lib.Claim

@[expose] public section

set_option maxRecDepth 16384

noncomputable section

namespace Cert.Ffn

open Cert.Kernel2Ideal Cert.Kernel2Ideal.Gen Idealize.ShloMosaic Idealize.ShloMosaic.Pointwise

variable (m : (ℓ : Loc nD τ sig) → Buf (Elt Ideal) ℓ) (c : Dev nD)

/-- The grid's coordinates: batch row, token tile, channel block. -/
theorem crd : ∀ t : Fin cfg0.N, (grid0.coords t 0).val = t.val / 88 ∧ (grid0.coords t 1).val = t.val / 11 % 8
    ∧ (grid0.coords t 2).val = t.val % 11 := by decide +kernel

theorem idxa : ∀ t : Fin cfg0.N, win0_0.index t = ![t.val / 88, t.val / 11 % 8, 0]
    ∧ win0_1.index t = ![t.val / 88, if t.val / 11 % 8 = 0 then 0 else t.val / 11 % 8 * 32 - 1, 0]
    ∧ win0_2.index t = ![t.val / 88, if t.val / 11 % 8 = 7 then 255 else (t.val / 11 % 8 + 1) * 32, 0]
    ∧ win0_8.index t = ![t.val / 88, t.val / 11 % 8, 0] ∧ win0_9.index t = ![t.val / 88, 0, 0] ∧ win0_10.index t = ![0, 0]
    ∧ win0_11.index t = ![t.val / 88, t.val / 11 % 8, 0] := by decide +kernel

theorem idxb : ∀ t : Fin cfg0.N, win0_3.index t = ![0, t.val % 11] ∧ win0_4.index t = ![0, t.val % 11] ∧ win0_5.index t = ![t.val % 11, 0]
    ∧ win0_6.index t = ![0, t.val % 11] ∧ win0_7.index t = ![0, t.val % 11] := by decide +kernel

/-- The arguments of the call. -/
abbrev ah : Vec Ideal S2x4096x2048 .bf16 := m ((c.tc : Thread nD τ).loc main_arg0)
abbrev ag : Vec Ideal S2048x5632 .bf16 := m ((c.tc : Thread nD τ).loc main_arg1)
abbrev av : Vec Ideal S2048x5632 .bf16 := m ((c.tc : Thread nD τ).loc main_arg2)
abbrev ad : Vec Ideal S5632x2048 .bf16 := m ((c.tc : Thread nD τ).loc main_arg3)
abbrev aw : Vec Ideal S3x5632 .f32 := m ((c.tc : Thread nD τ).loc main_arg4)
abbrev ab : Vec Ideal S5632 .f32 := m ((c.tc : Thread nD τ).loc main_arg5)
abbrev ax : Vec Ideal S2x4096x2048 .f32 := m ((c.tc : Thread nD τ).loc main_arg6)
abbrev at' : Vec Ideal S2x2048 .f32 := m ((c.tc : Thread nD τ).loc main_arg7)
abbrev ap : Vec Ideal S2048 .f32 := m ((c.tc : Thread nD τ).loc main_arg8)

theorem vb (n : Fin 5632) : V m c main_v0 (ix2 0 n) = ab m c (ix1 n) := by
  entry_read
  pointwise []

theorem vt (b : Fin 2) (d : Fin 2048) : V m c main_v1 (ix3 b 0 d) = at' m c (ix2 b d) := by
  entry_read
  pointwise []

theorem vp (d : Fin 2048) : V m c main_v2 (ix2 0 d) = ap m c (ix1 d) := by
  entry_read
  pointwise []

theorem lt (t : Fin cfg0.N) : t.val < 176 := t.isLt

/-- The batch row, the token and the channel a point's block rows and columns stand for. -/
def bat (t : Fin cfg0.N) : Fin 2 := ⟨t.val / 88, by have := lt t; omega⟩
def tok (t : Fin cfg0.N) (r : Fin 512) : Fin 4096 := ⟨t.val / 11 % 8 * 512 + r.val, by omega⟩
def chn (t : Fin cfg0.N) (n : Fin 512) : Fin 5632 := ⟨t.val % 11 * 512 + n.val, by omega⟩

theorem b0 (t : Fin cfg0.N) (r : Fin 512) (k : Fin 2048) : iblk m c 0 t (ix3 0 r k) = ah m c (ix3 (bat t) (tok t r) k) := by
  have := lt t
  blk_ext [iblk, V, idxa t, bat, tok]

theorem b1 (t : Fin cfg0.N) (h : t.val / 11 % 8 ≠ 0) (k : Fin 2048) :
    iblk m c 1 t (ix3 0 15 k) = ah m c (ix3 (bat t) ⟨t.val / 11 % 8 * 512 - 1, by omega⟩ k) := by
  have := lt t
  blk_ext [iblk, V, idxa t, bat, h]
  rw [if_neg not_false]
  show (t.val / 11 % 8 * 32 - 1) * 16 + 15 = t.val / 11 % 8 * 512 - 1
  omega

theorem b2 (t : Fin cfg0.N) (h : t.val / 11 % 8 ≠ 7) (k : Fin 2048) :
    iblk m c 2 t (ix3 0 0 k) = ah m c (ix3 (bat t) ⟨t.val / 11 % 8 * 512 + 512, by omega⟩ k) := by
  have := lt t
  blk_ext [iblk, V, idxa t, bat, h]
  rw [if_neg not_false]
  omega

theorem b3 (t : Fin cfg0.N) (k : Fin 2048) (n : Fin 512) : iblk m c 3 t (ix2 k n) = ag m c (ix2 k (chn t n)) := by
  blk_ext [iblk, V, idxb t, chn]

theorem b4 (t : Fin cfg0.N) (k : Fin 2048) (n : Fin 512) : iblk m c 4 t (ix2 k n) = av m c (ix2 k (chn t n)) := by
  blk_ext [iblk, V, idxb t, chn]

theorem b5 (t : Fin cfg0.N) (n : Fin 512) (d : Fin 2048) : iblk m c 5 t (ix2 n d) = ad m c (ix2 (chn t n) d) := by
  blk_ext [iblk, V, idxb t, chn]

theorem b6 (t : Fin cfg0.N) (j : Fin 3) (n : Fin 512) : iblk m c 6 t (ix2 j n) = aw m c (ix2 j (chn t n)) := by
  blk_ext [iblk, V, idxb t, chn]

theorem b7 (t : Fin cfg0.N) (n : Fin 512) : iblk m c 7 t (ix2 0 n) = ab m c (ix1 (chn t n)) := by
  rw [← vb]
  blk_ext [iblk, idxb t, chn]

theorem b8 (t : Fin cfg0.N) (r : Fin 512) (d : Fin 2048) : iblk m c 8 t (ix3 0 r d) = ax m c (ix3 (bat t) (tok t r) d) := by
  have := lt t
  blk_ext [iblk, V, idxa t, bat, tok]

theorem b9 (t : Fin cfg0.N) (d : Fin 2048) : iblk m c 9 t (ix3 0 0 d) = at' m c (ix2 (bat t) d) := by
  have := lt t
  rw [← vt]
  blk_ext [iblk, idxa t, bat]

theorem b10 (t : Fin cfg0.N) (d : Fin 2048) : iblk m c 10 t (ix2 0 d) = ap m c (ix1 d) := by
  rw [← vp]
  blk_ext [iblk, idxa t]

/-- What one channel block adds to an entry of the accumulator. -/
def term (t : Fin cfg0.N) (j : S512x2048.Idx) : EReal :=
  ∑ n : Fin 512, hid (ah m c) (ag m c) (av m c) (aw m c) (ab m c) (bat t) (tok t (j 0)) (chn t n) * ad m c (ix2 (chn t n) (j 1))

/-- One step of the accumulator, over the point's blocks. -/
theorem step (t : Fin cfg0.N) (acc : Vec Ideal S512x2048 .f32) (j : S512x2048.Idx) :
    k0_pay8 (k0_pay3 (iblk m c 0 t)) (k0_pay5 (iblk m c 0 t) (iblk m c 3 t) (iblk m c 1 t) (iblk m c 2 t))
      (k0_pay6 (grid0.coords t) (iblk m c 0 t) (iblk m c 3 t) (iblk m c 1 t) (iblk m c 2 t))
      (k0_pay7 (grid0.coords t) (iblk m c 0 t) (iblk m c 3 t) (iblk m c 1 t) (iblk m c 2 t))
      (iblk m c 6 t) (iblk m c 7 t) (iblk m c 4 t) acc (iblk m c 5 t) j = acc j + term m c t j := by
  have l := lt t
  obtain ⟨r, d, rfl⟩ : ∃ r d, j = ix2 r d := ⟨j 0, j 1, (ix2_eta j).symm⟩
  rw [step_apply]
  refine congrArg (acc (ix2 r d) + ·) (Finset.sum_congr rfl fun n _ => ?_)
  rw [b5, b6, b6, b6, b7, gate_apply, before_apply, after_apply, (crd t).2.1]
  simp only [b0, b3, b4]
  refine congrArg (· * _) ?_
  unfold hid
  congr 1
  · by_cases hr : r.val = 0
    · rw [if_pos hr]
      by_cases hi : t.val / 11 % 8 = 0
      · rw [if_pos hi, if_pos (by show t.val / 11 % 8 * 512 + r.val = 0; omega)]
      · rw [if_neg hi, if_neg (by show ¬ t.val / 11 % 8 * 512 + r.val = 0; omega)]
        simp only [b1 m c t hi]
        unfold dot
        refine Finset.sum_congr rfl fun k _ => ?_
        congr 3
        refine Fin.ext ?_
        show t.val / 11 % 8 * 512 - 1 = t.val / 11 % 8 * 512 + r.val - 1
        omega
    · rw [if_neg hr, if_neg (by show ¬ t.val / 11 % 8 * 512 + r.val = 0; omega)]
      unfold dot
      refine Finset.sum_congr rfl fun k _ => ?_
      congr 3
      refine Fin.ext ?_
      show t.val / 11 % 8 * 512 + (r.val - 1) = t.val / 11 % 8 * 512 + r.val - 1
      omega
  · by_cases hr : r.val = 511
    · rw [dif_pos hr]
      by_cases hi : t.val / 11 % 8 = 7
      · rw [if_pos hi, dif_pos (by show t.val / 11 % 8 * 512 + r.val = 4095; omega)]
      · rw [if_neg hi, dif_neg (by show ¬ t.val / 11 % 8 * 512 + r.val = 4095; omega)]
        simp only [b2 m c t hi]
        unfold dot
        refine Finset.sum_congr rfl fun k _ => ?_
        congr 3
        refine Fin.ext ?_
        show t.val / 11 % 8 * 512 + 512 = t.val / 11 % 8 * 512 + r.val + 1
        omega
    · rw [dif_neg hr, dif_neg (by show ¬ t.val / 11 % 8 * 512 + r.val = 4095; omega)]
      rfl

/-- The accumulator at the last channel block: the down projection. -/
theorem acc_eq (t : Fin cfg0.N) (ht : t.val % 11 = 10) (r : Fin 512) (d : Fin 2048) :
    (outsAt0 m c t.val t.isLt).2 (ix2 r d) = down (ah m c) (ag m c) (av m c) (ad m c) (aw m c) (ab m c) (bat t) (tok t r) d := by
  have l := lt t
  rw [Pipeline.eq_sum_fin_of_reset_step_apply_of_flush (fun n h => (outsAt0 m c n h).2) 11 (fun _ => 0) (term m c) ?_ ?_ t ht (ix2 r d)]
  · rw [zero_add]
    unfold down
    refine Fin.sum_mul_add_congr (S := 11) (n := 512) fun s k hl => ?_
    have e : ∀ (u : Fin cfg0.N), u.val = 11 * (t.val / 11) + s.val → bat u = bat t ∧ tok u r = tok t r ∧ chn u k = ⟨s.val * 512 + k.val, hl⟩ := fun u hu => by
      have := s.isLt
      refine ⟨Fin.ext ?_, Fin.ext ?_, Fin.ext ?_⟩
      · show u.val / 88 = t.val / 88
        omega
      · show u.val / 11 % 8 * 512 + r.val = t.val / 11 % 8 * 512 + r.val
        omega
      · show u.val % 11 * 512 + k.val = s.val * 512 + k.val
        omega
    obtain ⟨e0, e1, e2⟩ := e ⟨11 * (t.val / 11) + s.val, show _ < 176 by have := s.isLt; omega⟩ rfl
    simp only [ix2_0, ix2_1, e0, e1, e2]
  · intro t h0 j
    show (outsAt0 m c t.val t.isLt).2 j = _
    rw [outsAt0_A m c t h0 (by omega)]
    frame_out
    rw [step, zero_apply]
  · intro t h0 j
    show (outsAt0 m c t.val t.isLt).2 j = (outsAt0 m c (t.val - 1) _).2 j + _
    by_cases h1 : t.val % 11 = 10
    · rw [outsAt0_C m c t h0 h1]
      frame_out
      rw [step]
      simp only [read_unread_whole]
    · rw [outsAt0_B m c t h0 h1]
      frame_out
      rw [step]
      simp only [read_unread_whole]

/-- At the last channel block the output's block is written from the accumulator. -/
theorem out_eq (t : Fin cfg0.N) (ht : t.val % 11 = 10) :
    (outsAt0 m c t.val t.isLt).1 = k0_pay1 (iblk m c 8 t) (iblk m c 9 t) (outsAt0 m c t.val t.isLt).2 (iblk m c 10 t) := by
  rw [outsAt0_C m c t (by omega) ht]
  frame_out

/-- The FFN's array after the run. -/
theorem arr11 : (dats m 0 c).arrAt 11 cfg0.N = ffn (ah m c) (ag m c) (av m c) (ad m c) (aw m c) (ab m c) (ax m c) (at' m c) (ap m c) := by
  refine (dats m 0 c).arrAt_eq_of_covers 11 _ (by decide +kernel) fun t hf y => ?_
  have l := lt t
  have ht : t.val % 11 = 10 := (flush0_11 t).mp hf
  have y0 : (y 0 : ℕ) < 1 := (y 0).isLt
  have y1 : (y 1 : ℕ) < 512 := (y 1).isLt
  have y2 : (y 2 : ℕ) < 2048 := (y 2).isLt
  have e0 : ((((cfg0.win 11).blk t).view.emb y) 0 : ℕ) = t.val / 88 := by
    blk_simp [idxa t]
  have e1 : ((((cfg0.win 11).blk t).view.emb y) 1 : ℕ) = t.val / 11 % 8 * 512 + y 1 := by
    blk_simp [idxa t]
  have e2 : ((((cfg0.win 11).blk t).view.emb y) 2 : ℕ) = y 2 := by
    blk_simp [idxa t]
  generalize ((cfg0.win 11).blk t).view.emb y = p at e0 e1 e2 ⊢
  blk_simp
  rw [after0_11, out_eq m c t ht]
  obtain ⟨r, d, rfl⟩ : ∃ (r : Fin 512) (d : Fin 2048), y = ix3 0 r d := ⟨y 1, y 2, by
    funext a
    match a with
    | 0 => exact Fin.ext (show (y 0 : ℕ) = 0 by omega)
    | 1 => rfl
    | 2 => rfl⟩
  obtain rfl : p = ix3 (bat t) (tok t r) d := by
    funext a
    match a with
    | 0 => exact Fin.ext e0
    | 1 => exact Fin.ext e1
    | 2 => exact Fin.ext e2
  rw [fin_apply, b8, b9, b10]
  simp only [acc_eq m c t ht]
  rfl

end Cert.Ffn

end
-- ==== Proof.FfnRef.lean ====
/- The reference's FFN at an index: the padded gate's convolution, the gated activation, the down projection, the norm. -/
module

public import proofs.«01_k».proof.Proof.FfnSpec
public import proofs.«01_k».proof.Proof.Gen.Reference2Ideal.Run
public import Idealize.ShloMosaic.Lib.Claim

@[expose] public section

set_option maxRecDepth 16384

noncomputable section

namespace Cert.Ffn

open Cert.Reference2Ideal Cert.Reference2Ideal.Gen Idealize.ShloMosaic Idealize.ShloMosaic.Pointwise

variable (h : FVec Ideal S2x4096x2048 .bf16) (wg wv : FVec Ideal S2048x5632 .bf16) (wd : FVec Ideal S5632x2048 .bf16)
  (cw : FVec Ideal S3x5632 .f32) (cb : FVec Ideal S5632 .f32) (x1 : FVec Ideal S2x4096x2048 .f32) (gate : FVec Ideal S2x2048 .f32)
  (gp : FVec Ideal S2048 .f32)

/-- The reference's product with an up-projection weight. -/
def gRef (w : FVec Ideal S2048x5632 .bf16) : FVec Ideal S2x4096x5632 .f32 :=
  Host.dotGeneral dot_S2x4096x2048_S2048x5632_S2x4096x5632_2_0_01_1_n_n none (extf .f32 h bitsLt_bf16_f32) (extf .f32 w bitsLt_bf16_f32)

theorem gRef_apply (w : FVec Ideal S2048x5632 .bf16) (b : Fin 2) (t : Fin 4096) (n : Fin 5632) : gRef h w (ix3 b t n) = dot h w b t n := by
  pointwise [gRef]
  rfl

/-- The reference's gate with a zero row before and after. -/
def zRef (g : FVec Ideal S2x4096x5632 .f32) : FVec Ideal S2x4098x5632 .f32 :=
  pad S2x4098x5632 ![0, 1, 0] ![0, 1, 0] ![0, 0, 0] g (sitofp .f32 (constantI S_ 32 0#32)) pads_S2x4096x5632_S2x4098x5632_000_110_000 h_S_

/-- A channel's bias on every token. -/
def bRef : FVec Ideal S2x4096x5632 .f32 :=
  broadcastInDim S2x4096x5632 ![0, 1, 2] bcast_S1x1x5632_S2x4096x5632_0_1_2 (broadcastInDim S1x1x5632 ![2] bcast_S5632_S1x1x5632_2 cb)

/-- The reference's convolution. -/
def uRef (z : FVec Ideal S2x4098x5632 .f32) : FVec Ideal S2x4096x5632 .f32 :=
  addf (addf (addf (bRef cb)
    (mulf (extractStridedSlice S2x4096x5632 ![0, 0, 0] z slices_S2x4098x5632_S2x4096x5632_0_0_0)
      (bRef (shapeCast _ (extractStridedSlice S1x5632 ![0, 0] cw slices_S3x5632_S1x5632_0_0) shapeCasts_S1x5632_S5632))))
    (mulf (extractStridedSlice S2x4096x5632 ![0, 1, 0] z slices_S2x4098x5632_S2x4096x5632_0_1_0)
      (bRef (shapeCast _ (extractStridedSlice S1x5632 ![1, 0] cw slices_S3x5632_S1x5632_1_0) shapeCasts_S1x5632_S5632))))
    (mulf (extractStridedSlice S2x4096x5632 ![0, 2, 0] z slices_S2x4098x5632_S2x4096x5632_0_2_0)
      (bRef (shapeCast _ (extractStridedSlice S1x5632 ![2, 0] cw slices_S3x5632_S1x5632_2_0) shapeCasts_S1x5632_S5632)))

theorem uRef_apply (g : FVec Ideal S2x4096x5632 .f32) (b : Fin 2) (t : Fin 4096) (n : Fin 5632) : uRef cw cb (zRef g) (ix3 b t n)
    = cb (ix1 n) + (if t.val = 0 then 0 else g (ix3 b ⟨t.val - 1, by omega⟩ n)) * cw (ix2 0 n) + g (ix3 b t n) * cw (ix2 1 n)
      + (if h' : t.val = 4095 then 0 else g (ix3 b ⟨t.val + 1, by omega⟩ n)) * cw (ix2 2 n) := by
  pointwise [uRef, zRef, bRef]
  have z : (FloatOps.sitofp FTy.f32 0#32 : Ideal .f32) = (0 : EReal) := by
    show ((((0#32 : BitVec 32).toInt : ℤ) : ℝ) : EReal) = 0
    simp
  have e0 : (if h' : 1 ≤ t.val ∧ t.val - 1 < 4096 then g (ix3 b ⟨t.val - 1, h'.2⟩ n) else FloatOps.sitofp FTy.f32 0#32)
      = if t.val = 0 then (0 : EReal) else g (ix3 b ⟨t.val - 1, by omega⟩ n) := by
    by_cases h0 : t.val = 0
    · rw [if_pos h0, dif_neg (by omega), z]
    · rw [if_neg h0, dif_pos (by omega)]
  have e2 : (if h' : 1 ≤ 2 + t.val ∧ 2 + t.val - 1 < 4096 then g (ix3 b ⟨2 + t.val - 1, h'.2⟩ n) else FloatOps.sitofp FTy.f32 0#32)
      = if h' : t.val = 4095 then (0 : EReal) else g (ix3 b ⟨t.val + 1, by omega⟩ n) := by
    by_cases h0 : t.val = 4095
    · rw [dif_pos h0, dif_neg (by omega), z]
    · rw [dif_neg h0, dif_pos (by omega)]
      have e : 2 + t.val - 1 = t.val + 1 := by omega
      simp only [e]
  exact congr (congrArg HAdd.hAdd (congrArg (· + _) (congrArg (cb (ix1 n) + ·) (congrArg (· * _) e0)))) (congrArg (· * _) e2)

/-- The reference's gated activation. -/
def aRef (u v : FVec Ideal S2x4096x5632 .f32) : FVec Ideal S2x4096x5632 .f32 :=
  mulf (mulf u (mulf (broadcastInDim S2x4096x5632 ![] bcast_S_S2x4096x5632 (constant S_ .f32 0x3F000000#32)) (addf (broadcastInDim S2x4096x5632 ![] bcast_S_S2x4096x5632 (constant S_ .f32 0x3F800000#32)) (Host.tanh (mulf (broadcastInDim S2x4096x5632 ![] bcast_S_S2x4096x5632 (constant S_ .f32 0x3F4C422A#32)) (addf u (mulf (broadcastInDim S2x4096x5632 ![] bcast_S_S2x4096x5632 (constant S_ .f32 0x3D372713#32)) (mulf (mulf u u) u)))))))) v

theorem aRef_apply (u v : FVec Ideal S2x4096x5632 .f32) (i : S2x4096x5632.Idx) : aRef u v i = gelu (u i) * v i := by
  pointwise [aRef]
  unfold gelu
  rw [mul_comm (u i * u i) (u i)]

/-- The reference's down projection. -/
def yRef (a : FVec Ideal S2x4096x5632 .f32) : FVec Ideal S2x4096x2048 .f32 :=
  Host.dotGeneral dot_S2x4096x5632_S5632x2048_S2x4096x2048_2_0_01_1_n_n none a (extf .f32 wd bitsLt_bf16_f32)

theorem yRef_apply (a : FVec Ideal S2x4096x5632 .f32) (b : Fin 2) (t : Fin 4096) (d : Fin 2048) :
    yRef wd a (ix3 b t d) = ∑ n : Fin 5632, a (ix3 b t n) * wd (ix2 n d) := by
  pointwise [yRef]

/-- The reference's residual stream with the gated, normalised projection. -/
def rRef (y : FVec Ideal S2x4096x2048 .f32) : FVec Ideal S2x4096x2048 .f32 :=
  addf x1 (mulf (broadcastInDim S2x4096x2048 ![0, 1, 2] bcast_S2x1x2048_S2x4096x2048_0_1_2 (broadcastInDim S2x1x2048 ![0, 2] bcast_S2x2048_S2x1x2048_0_2 gate)) (mulf (mulf y (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf y y) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 gp))))

theorem rRef_apply (y : FVec Ideal S2x4096x2048 .f32) (b : Fin 2) (t : Fin 4096) (d : Fin 2048) : rRef x1 gate gp y (ix3 b t d)
    = fin (x1 (ix3 b t d)) (gate (ix2 b d)) (gp (ix1 d)) (y (ix3 b t d)) (∑ l : Fin 2048, y (ix3 b t l) * y (ix3 b t l)) := by
  pointwise [rRef]
  rfl

/-- The reference's FFN is the FFN of the whole arrays. -/
theorem ffn_eq : rRef x1 gate gp (yRef wd (aRef (uRef cw cb (zRef (gRef h wg))) (gRef h wv))) = ffn h wg wv wd cw cb x1 gate gp := by
  have e : ∀ b t d, yRef wd (aRef (uRef cw cb (zRef (gRef h wg))) (gRef h wv)) (ix3 b t d) = down h wg wv wd cw cb b t d := fun b t d => by
    rw [yRef_apply]
    unfold down hid act
    simp only [aRef_apply, uRef_apply, gRef_apply]
  funext j
  obtain ⟨b, t, d, rfl⟩ : ∃ b t d, j = ix3 b t d := ⟨j 0, j 1, j 2, (ix3_eta j).symm⟩
  rw [rRef_apply]
  simp only [e]
  rfl

end Cert.Ffn

end
-- ==== Proof.Gates.lean ====
/- The two branch gates: the kernel's array after its run and the reference's term are one logistic of a product and a bias. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Claim

@[expose] public section

set_option maxRecDepth 16384

noncomputable section

namespace Cert.Gates

open Idealize.ShloMosaic Idealize.ShloMosaic.Pointwise

open Cert.Kernel3Ideal in
/-- The gates of a token: the logistic of its hidden state's product with the transposed gate weight and the bias. -/
def gates (h : Vec Ideal S2x4352x2048 .bf16) (w : Vec Ideal S4096x2048 .bf16) (b : Vec Ideal S4096 .f32) : Vec Ideal S2x4096x4096 .bf16 := fun i =>
  Ideal.logistic ((∑ k : Fin 2048, h (ix3 (i 0) ⟨(i 1).val, by have : (i 1).val < 4096 := (i 1).isLt; omega⟩ k) * w (ix2 (i 2) k)) + b (ix1 (i 2)))

section Kernel

open Cert.Kernel3Ideal Cert.Kernel3Ideal.Gen

theorem pay_apply (a : Vec Ideal S1x1024x2048 .bf16) (w : Vec Ideal S1024x2048 .bf16) (b : Vec Ideal S1x1024 .f32) (r n : Fin 1024) :
    k0_pay1 a w b (ix3 0 r n) = Ideal.logistic ((∑ k : Fin 2048, a (ix3 0 r k) * w (ix2 n k)) + b (ix2 0 n)) := by
  pointwise [k0_pay1]

variable (m : (ℓ : Loc nD τ sig) → Buf (Elt Ideal) ℓ) (c : Dev nD)

theorem idx : ∀ t : Fin cfg0.N, win0_0.index t = ![t.val / 16, t.val / 4 % 4, 0] ∧ win0_1.index t = ![t.val % 4, 0]
    ∧ win0_2.index t = ![0, t.val % 4] ∧ win0_3.index t = ![t.val / 16, t.val / 4 % 4, t.val % 4] := by decide +kernel

/-- The arguments of the call. -/
abbrev ah : Vec Ideal S2x4352x2048 .bf16 := m ((c.tc : Thread nD τ).loc main_arg0)
abbrev aw : Vec Ideal S4096x2048 .bf16 := m ((c.tc : Thread nD τ).loc main_arg1)
abbrev ab : Vec Ideal S4096 .f32 := m ((c.tc : Thread nD τ).loc main_arg2)

theorem vb (n : Fin 4096) : V m c main_v0 (ix2 0 n) = ab m c (ix1 n) := by
  entry_read
  pointwise []

theorem lt (t : Fin cfg0.N) : t.val < 32 := t.isLt

/-- The batch row, the token and the channel a point's block rows stand for. -/
def bat (t : Fin cfg0.N) : Fin 2 := ⟨t.val / 16, by have := lt t; omega⟩
def tok (t : Fin cfg0.N) (r : Fin 1024) : Fin 4096 := ⟨t.val / 4 % 4 * 1024 + r.val, by omega⟩
def chn (t : Fin cfg0.N) (n : Fin 1024) : Fin 4096 := ⟨t.val % 4 * 1024 + n.val, by omega⟩

theorem b0 (t : Fin cfg0.N) (r : Fin 1024) (k : Fin 2048) : X0_0 m c t (ix3 0 r k)
    = ah m c (ix3 (bat t) ⟨(tok t r).val, by omega⟩ k) := by
  have := lt t
  unfold X0_0 Pipeline.Window.fill
  rw [dif_pos (moved0_0 t _)]
  blk_ext [iblk, V, idx t, bat, tok]

theorem b1 (t : Fin cfg0.N) (n : Fin 1024) (k : Fin 2048) : iblk m c 1 t (ix2 n k) = aw m c (ix2 (chn t n) k) := by
  blk_ext [iblk, V, idx t, chn]

theorem b2 (t : Fin cfg0.N) (n : Fin 1024) : iblk m c 2 t (ix2 0 n) = ab m c (ix1 (chn t n)) := by
  rw [← vb]
  blk_ext [iblk, idx t, chn]

/-- The gates' array after the run. -/
theorem arr3 : (dats m 0 c).arrAt 3 cfg0.N = gates (ah m c) (aw m c) (ab m c) := by
  refine (dats m 0 c).arrAt_eq_of_covers 3 _ (by decide +kernel) fun t hf y => ?_
  have y0 : (y 0 : ℕ) < 1 := (y 0).isLt
  have e0 : ((((cfg0.win 3).blk t).view.emb y) 0 : ℕ) = t.val / 16 := by
    blk_simp [idx t]
  have e1 : ((((cfg0.win 3).blk t).view.emb y) 1 : ℕ) = t.val / 4 % 4 * 1024 + y 1 := by
    blk_simp [idx t]
  have e2 : ((((cfg0.win 3).blk t).view.emb y) 2 : ℕ) = t.val % 4 * 1024 + y 2 := by
    blk_simp [idx t]
  generalize ((cfg0.win 3).blk t).view.emb y = p at e0 e1 e2 ⊢
  blk_simp
  rw [after0_3]
  unfold outsAt0
  frame_out
  obtain ⟨r, n, rfl⟩ : ∃ (r n : Fin 1024), y = ix3 0 r n := ⟨y 1, y 2, by
    funext a
    match a with
    | 0 => exact Fin.ext (show (y 0 : ℕ) = 0 by omega)
    | 1 => rfl
    | 2 => rfl⟩
  obtain rfl : p = ix3 (bat t) (tok t r) (chn t n) := by
    funext a
    match a with
    | 0 => exact Fin.ext e0
    | 1 => exact Fin.ext e1
    | 2 => exact Fin.ext e2
  rw [pay_apply, b2]
  simp only [b0, b1]
  rfl

end Kernel

section Reference

open Cert.Reference3Ideal Cert.Reference3Ideal.Gen

/-- The reference's gates. -/
def gRef (h : FVec Ideal S2x4352x2048 .bf16) (w : FVec Ideal S4096x2048 .bf16) (b : FVec Ideal S4096 .f32) : FVec Ideal S2x4096x4096 .bf16 :=
  truncf .bf16 (Host.divf (broadcastInDim S2x4096x4096 ![] bcast_S_S2x4096x4096 (constant S_ .f32 0x3F800000#32)) (addf (broadcastInDim S2x4096x4096 ![] bcast_S_S2x4096x4096 (constant S_ .f32 0x3F800000#32)) (Host.exp (Host.negf (addf (Host.dotGeneral dot_S2x4096x2048_S2048x4096_S2x4096x4096_2_0_01_1_n_n none (extractStridedSlice S2x4096x2048 ![0, 0, 0] (extf .f32 h bitsLt_bf16_f32) slices_S2x4352x2048_S2x4096x2048_0_0_0) (transpose S2048x4096 [1, 0] (extf .f32 w bitsLt_bf16_f32) transposes_S4096x2048_S2048x4096_1_0)) (broadcastInDim S2x4096x4096 ![0, 1, 2] bcast_S1x1x4096_S2x4096x4096_0_1_2 (broadcastInDim S1x1x4096 ![2] bcast_S4096_S1x1x4096_2 b))))))) bitsLt_bf16_f32

theorem gates_eq (h : FVec Ideal S2x4352x2048 .bf16) (w : FVec Ideal S4096x2048 .bf16) (b : FVec Ideal S4096 .f32) : gRef h w b = gates h w b := by
  funext j
  obtain ⟨b, t, n, rfl⟩ : ∃ b t n, j = ix3 b t n := ⟨j 0, j 1, j 2, (ix3_eta j).symm⟩
  pointwise [gRef, gates]
  rfl

end Reference

end Cert.Gates

end
-- ==== Proof.OutProj.lean ====
/- The output projection: the kernel's two arrays after its run and the reference's two terms are the same functions of the arguments. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Claim

@[expose] public section

set_option maxRecDepth 16384

noncomputable section

namespace Cert.OutProj

open Idealize.ShloMosaic Idealize.ShloMosaic.Pointwise

/-- An entry divided by its row's root mean square, times a weight, from the row's sum of squares. -/
def nrm (f s p : EReal) : EReal :=
  f * Ideal.rsqrt (Ideal.div s (Ideal.ofBits .f32 0x45000000#32) + Ideal.ofBits .f32 0x358637BD#32) * p

/-- The residual stream with a row's gated norm, at column `d`. -/
def res (x g p o : Fin 2048 → EReal) (d : Fin 2048) : EReal := x d + g d * nrm (o d) (∑ l, o l * o l) (p d)

/-- A row's norm, scaled and shifted, at column `d`. -/
def hid (z q s t : Fin 2048 → EReal) (d : Fin 2048) : EReal := nrm (z d) (∑ l, z l * z l) (q d) * (1 + s d) + t d

section Spec

open Cert.Kernel4Ideal

variable (a : Vec Ideal S2x4096x2048 .bf16) (w : Vec Ideal S2048x2048 .bf16) (x : Vec Ideal S2x4096x2048 .f32) (gp : Vec Ideal S2048 .f32)
  (g : Vec Ideal S2x2048 .f32) (gq : Vec Ideal S2048 .f32) (md : Vec Ideal S2x2x2048 .f32)

/-- A token's residual stream after the projection. -/
def stream (b : Fin 2) (t : Fin 4096) : Fin 2048 → EReal :=
  res (fun d => x (ix3 b t d)) (fun d => g (ix2 b d)) (fun d => gp (ix1 d)) fun d => ∑ k : Fin 2048, a (ix3 b t k) * w (ix2 k d)

/-- The first result. -/
def out1 : Vec Ideal S2x4096x2048 .f32 := fun i => stream a w x gp g (i 0) (i 1) (i 2)

/-- The second result. -/
def out2 : Vec Ideal S2x4096x2048 .bf16 := fun i =>
  hid (stream a w x gp g (i 0) (i 1)) (fun d => gq (ix1 d)) (fun d => md (ix3 (i 0) 1 d)) (fun d => md (ix3 (i 0) 0 d)) (i 2)

end Spec

section Kernel

open Cert.Kernel4Ideal Cert.Kernel4Ideal.Gen

theorem lo1 (a : Vec Ideal S1x256x2048 .bf16) (w : Vec Ideal S2048x2048 .bf16) (x : Vec Ideal S1x256x2048 .f32) (g : Vec Ideal S1x1x2048 .f32)
    (p : Vec Ideal S1x2048 .f32) (r : Fin 256) (d : Fin 2048) : k0_pay5 a w x g p (ix2 r d)
    = res (fun d => x (ix3 0 r d)) (fun d => g (ix3 0 0 d)) (fun d => p (ix2 0 d)) (fun d => ∑ k : Fin 2048, a (ix3 0 r k) * w (ix2 k d)) d := by
  pointwise [k0_pay5]
  rfl

theorem lo1' (a : Vec Ideal S1x256x2048 .bf16) (w : Vec Ideal S2048x2048 .bf16) (x : Vec Ideal S1x256x2048 .f32) (g : Vec Ideal S1x1x2048 .f32)
    (p : Vec Ideal S1x2048 .f32) (r : Fin 256) (d : Fin 2048) : k0_pay6 a w x g p (ix3 0 r d) = k0_pay5 a w x g p (ix2 r d) := by
  pointwise [k0_pay6]

theorem hi1 (a : Vec Ideal S1x256x2048 .bf16) (w : Vec Ideal S2048x2048 .bf16) (x : Vec Ideal S1x256x2048 .f32) (g : Vec Ideal S1x1x2048 .f32)
    (p : Vec Ideal S1x2048 .f32) (r : Fin 256) (d : Fin 2048) :
    k0_pay1 (k0_pay9 a w) (k0_pay10 x) (k0_pay11 g) (k0_pay12 p) (k0_pay13 a w) (ix2 r d)
    = res (fun d => x (ix3 0 r d)) (fun d => g (ix3 0 0 d)) (fun d => p (ix2 0 d)) (fun d => ∑ k : Fin 2048, a (ix3 0 r k) * w (ix2 k d)) d := by
  pointwise [k0_pay1, k0_pay9, k0_pay10, k0_pay11, k0_pay12, k0_pay13]
  rfl

theorem hi1' (o y : FVec Ideal S256x2048 .f32) (g p : FVec Ideal S1x2048 .f32) (s : FVec Ideal S256x1 .f32) (r : Fin 256) (d : Fin 2048) :
    k0_pay2 o y g p s (ix3 0 r d) = k0_pay1 o y g p s (ix2 r d) := by
  pointwise [k0_pay2]

theorem lo2 (md : Vec Ideal S1x2x2048 .f32) (z : FVec Ideal S256x2048 .f32) (q : Vec Ideal S1x2048 .f32) (r : Fin 256) (d : Fin 2048) :
    k0_pay8 (k0_pay4 md) z (k0_pay7 q) (ix3 0 r d)
    = hid (fun d => z (ix2 r d)) (fun d => q (ix2 0 d)) (fun d => md (ix3 0 1 d)) (fun d => md (ix3 0 0 d)) d := by
  pointwise [k0_pay8, k0_pay4, k0_pay7]
  rfl

theorem hi2 (md : Vec Ideal S1x2x2048 .f32) (o y : FVec Ideal S256x2048 .f32) (g p : FVec Ideal S1x2048 .f32) (s : FVec Ideal S256x1 .f32)
    (q : Vec Ideal S1x2048 .f32) (r : Fin 256) (d : Fin 2048) : k0_pay3 (k0_pay4 md) o y g p s q (ix3 0 r d)
    = hid (fun d => k0_pay1 o y g p s (ix2 r d)) (fun d => q (ix2 0 d)) (fun d => md (ix3 0 1 d)) (fun d => md (ix3 0 0 d)) d := by
  pointwise [k0_pay3, k0_pay4]
  rfl

section Block

variable (x0 : Vec Ideal S1x512x2048 .bf16) (x1 : Vec Ideal S2048x2048 .bf16) (x2 : Vec Ideal S1x512x2048 .f32) (x3 : Vec Ideal S1x2048 .f32)
  (x4 : Vec Ideal S1x1x2048 .f32) (x5 : Vec Ideal S1x2048 .f32) (x6 : Vec Ideal S1x2x2048 .f32)

/-- A block row's residual stream. -/
def brow (r : Fin 512) : Fin 2048 → EReal :=
  res (fun d => x2 (ix3 0 r d)) (fun d => x4 (ix3 0 0 d)) (fun d => x3 (ix2 0 d)) fun d => ∑ k : Fin 2048, x0 (ix3 0 r k) * x1 (ix2 k d)

/-- A block row's second result. -/
def bhid (r : Fin 512) : Fin 2048 → EReal :=
  hid (brow x0 x1 x2 x3 x4 r) (fun d => x5 (ix2 0 d)) (fun d => x6 (ix3 0 1 d)) (fun d => x6 (ix3 0 0 d))

theorem low (r : Fin 256) (d : Fin 2048) : k0_pay5 (View.ld x0 r0_1) (View.ld x1 r0_2) (View.ld x2 r0_1) (View.ld x4 r0_3) (View.ld x3 r0_4) (ix2 r d)
    = brow x0 x1 x2 x3 x4 ⟨r.val, by omega⟩ d := by
  rw [lo1]
  pointwise []
  rfl

theorem high (r : Fin 256) (d : Fin 2048) : k0_pay1 (k0_pay15 x0 x1 x2 x3 x4 x5 x6) (k0_pay16 x0 x1 x2 x3 x4 x5 x6) (k0_pay17 x0 x1 x2 x3 x4 x5 x6)
    (k0_pay18 x0 x1 x2 x3 x4 x5 x6) (k0_pay19 x0 x1 x2 x3 x4 x5 x6) (ix2 r d) = brow x0 x1 x2 x3 x4 ⟨256 + r.val, by omega⟩ d := by
  unfold k0_pay15 k0_pay16 k0_pay17 k0_pay18 k0_pay19
  rw [hi1]
  pointwise []
  rfl

theorem block7 (r : Fin 512) (d : Fin 2048) : out0_7 x0 x1 x2 x3 x4 x5 x6 (ix3 0 r d) = brow x0 x1 x2 x3 x4 r d := by
  unfold out0_7
  refine View.canon_apply_of_pieces (Val := Elt Ideal) (fun y => brow x0 x1 x2 x3 x4 (y 1) (y 2) : Vec Ideal S1x512x2048 .f32) _ ?_ _ (cover0_7 _ _ _)
  intro p hp
  simp only [List.mem_cons, List.not_mem_nil, or_false] at hp
  rcases hp with rfl | rfl
  · intro (j : S1x256x2048.Idx)
    have j0 : (j 0 : ℕ) < 1 := (j 0).isLt
    obtain ⟨r, d, rfl⟩ : ∃ (r : Fin 256) (d : Fin 2048), j = ix3 0 r d := ⟨j 1, j 2, by
      funext a
      match a with
      | 0 => exact Fin.ext (show (j 0 : ℕ) = 0 by omega)
      | 1 => rfl
      | 2 => rfl⟩
    dsimp only
    rw [hi1', high]
    congr 1 <;> refine Fin.ext ?_
    · show 256 + r.val = 256 + 1 * r.val
      omega
    · show d.val = 0 + 1 * d.val
      omega
  · intro (j : S1x256x2048.Idx)
    have j0 : (j 0 : ℕ) < 1 := (j 0).isLt
    obtain ⟨r, d, rfl⟩ : ∃ (r : Fin 256) (d : Fin 2048), j = ix3 0 r d := ⟨j 1, j 2, by
      funext a
      match a with
      | 0 => exact Fin.ext (show (j 0 : ℕ) = 0 by omega)
      | 1 => rfl
      | 2 => rfl⟩
    dsimp only
    rw [lo1', low]
    congr 1 <;> refine Fin.ext ?_
    · show r.val = 0 + 1 * r.val
      omega
    · show d.val = 0 + 1 * d.val
      omega

theorem block8 (r : Fin 512) (d : Fin 2048) : out0_8 x0 x1 x2 x3 x4 x5 x6 (ix3 0 r d) = bhid x0 x1 x2 x3 x4 x5 x6 r d := by
  have q0 : ∀ d : Fin 2048, View.ld x5 r0_4 (ix2 0 d) = x5 (ix2 0 d) := fun d => by pointwise []
  have q1 : ∀ (e : Fin 2) (d : Fin 2048), View.ld x6 r0_0 (ix3 0 e d) = x6 (ix3 0 e d) := fun e d => by pointwise []
  unfold out0_8
  refine View.canon_apply_of_pieces (Val := Elt Ideal) (fun y => bhid x0 x1 x2 x3 x4 x5 x6 (y 1) (y 2) : Vec Ideal S1x512x2048 .bf16) _ ?_ _ (cover0_8 _ _ _)
  intro p hp
  simp only [List.mem_cons, List.not_mem_nil, or_false] at hp
  rcases hp with rfl | rfl
  · intro (j : S1x256x2048.Idx)
    have j0 : (j 0 : ℕ) < 1 := (j 0).isLt
    obtain ⟨r, d, rfl⟩ : ∃ (r : Fin 256) (d : Fin 2048), j = ix3 0 r d := ⟨j 1, j 2, by
      funext a
      match a with
      | 0 => exact Fin.ext (show (j 0 : ℕ) = 0 by omega)
      | 1 => rfl
      | 2 => rfl⟩
    dsimp only
    unfold k0_pay14
    rw [hi2]
    simp only [high, q0, q1]
    unfold bhid
    congr 1
    · refine congrArg (brow x0 x1 x2 x3 x4) (Fin.ext ?_)
      show 256 + r.val = 256 + 1 * r.val
      omega
    · refine Fin.ext ?_
      show d.val = 0 + 1 * d.val
      omega
  · intro (j : S1x256x2048.Idx)
    have j0 : (j 0 : ℕ) < 1 := (j 0).isLt
    obtain ⟨r, d, rfl⟩ : ∃ (r : Fin 256) (d : Fin 2048), j = ix3 0 r d := ⟨j 1, j 2, by
      funext a
      match a with
      | 0 => exact Fin.ext (show (j 0 : ℕ) = 0 by omega)
      | 1 => rfl
      | 2 => rfl⟩
    dsimp only
    unfold k0_pay14
    rw [lo2]
    simp only [low, q0, q1]
    unfold bhid
    congr 1
    · refine congrArg (brow x0 x1 x2 x3 x4) (Fin.ext ?_)
      show r.val = 0 + 1 * r.val
      omega
    · refine Fin.ext ?_
      show d.val = 0 + 1 * d.val
      omega

end Block

variable (m : (ℓ : Loc nD τ sig) → Buf (Elt Ideal) ℓ) (c : Dev nD)

theorem idx : ∀ t : Fin cfg0.N, win0_0.index t = ![t.val / 8, t.val % 8, 0] ∧ win0_1.index t = ![0, 0] ∧ win0_2.index t = ![t.val / 8, t.val % 8, 0]
    ∧ win0_3.index t = ![0, 0] ∧ win0_4.index t = ![t.val / 8, 0, 0] ∧ win0_5.index t = ![0, 0] ∧ win0_6.index t = ![t.val / 8, 0, 0]
    ∧ win0_7.index t = ![t.val / 8, t.val % 8, 0] ∧ win0_8.index t = ![t.val / 8, t.val % 8, 0] := by decide +kernel

/-- The arguments of the call. -/
abbrev a0 : Vec Ideal S2x4096x2048 .bf16 := m ((c.tc : Thread nD τ).loc main_arg0)
abbrev a1 : Vec Ideal S2048x2048 .bf16 := m ((c.tc : Thread nD τ).loc main_arg1)
abbrev a2 : Vec Ideal S2x4096x2048 .f32 := m ((c.tc : Thread nD τ).loc main_arg2)
abbrev a3 : Vec Ideal S2048 .f32 := m ((c.tc : Thread nD τ).loc main_arg3)
abbrev a4 : Vec Ideal S2x2048 .f32 := m ((c.tc : Thread nD τ).loc main_arg4)
abbrev a5 : Vec Ideal S2048 .f32 := m ((c.tc : Thread nD τ).loc main_arg5)
abbrev a6 : Vec Ideal S2x2x2048 .f32 := m ((c.tc : Thread nD τ).loc main_arg6)

theorem v3 (d : Fin 2048) : V m c main_v0 (ix2 0 d) = a3 m c (ix1 d) := by
  entry_read
  pointwise []

theorem v4 (b : Fin 2) (d : Fin 2048) : V m c main_v1 (ix3 b 0 d) = a4 m c (ix2 b d) := by
  entry_read
  pointwise []

theorem v5 (d : Fin 2048) : V m c main_v2 (ix2 0 d) = a5 m c (ix1 d) := by
  entry_read
  pointwise []

theorem lt (t : Fin cfg0.N) : t.val < 16 := t.isLt

/-- The batch row and the token a point's block rows stand for. -/
def bat (t : Fin cfg0.N) : Fin 2 := ⟨t.val / 8, by have := lt t; omega⟩
def tok (t : Fin cfg0.N) (r : Fin 512) : Fin 4096 := ⟨t.val % 8 * 512 + r.val, by omega⟩

theorem b0 (t : Fin cfg0.N) (r : Fin 512) (k : Fin 2048) : iblk m c 0 t (ix3 0 r k) = a0 m c (ix3 (bat t) (tok t r) k) := by
  have := lt t
  blk_ext [iblk, V, idx t, bat, tok]

theorem b1 (t : Fin cfg0.N) (k d : Fin 2048) : iblk m c 1 t (ix2 k d) = a1 m c (ix2 k d) := by
  blk_ext [iblk, V, idx t]

theorem b2 (t : Fin cfg0.N) (r : Fin 512) (k : Fin 2048) : iblk m c 2 t (ix3 0 r k) = a2 m c (ix3 (bat t) (tok t r) k) := by
  have := lt t
  blk_ext [iblk, V, idx t, bat, tok]

theorem b3 (t : Fin cfg0.N) (d : Fin 2048) : iblk m c 3 t (ix2 0 d) = a3 m c (ix1 d) := by
  rw [← v3]
  blk_ext [iblk, idx t]

theorem b4 (t : Fin cfg0.N) (d : Fin 2048) : iblk m c 4 t (ix3 0 0 d) = a4 m c (ix2 (bat t) d) := by
  have := lt t
  rw [← v4]
  blk_ext [iblk, idx t, bat]

theorem b5 (t : Fin cfg0.N) (d : Fin 2048) : iblk m c 5 t (ix2 0 d) = a5 m c (ix1 d) := by
  rw [← v5]
  blk_ext [iblk, idx t]

theorem b6 (t : Fin cfg0.N) (e : Fin 2) (d : Fin 2048) : iblk m c 6 t (ix3 0 e d) = a6 m c (ix3 (bat t) e d) := by
  have := lt t
  blk_ext [iblk, V, idx t, bat]

theorem brow_eq (t : Fin cfg0.N) (r : Fin 512) : brow (iblk m c 0 t) (iblk m c 1 t) (iblk m c 2 t) (iblk m c 3 t) (iblk m c 4 t) r
    = stream (a0 m c) (a1 m c) (a2 m c) (a3 m c) (a4 m c) (bat t) (tok t r) := by
  unfold brow stream
  simp only [b0, b1, b2, b3, b4]

/-- The residual stream's array after the run. -/
theorem arr7 : (dats m 0 c).arrAt 7 cfg0.N = out1 (a0 m c) (a1 m c) (a2 m c) (a3 m c) (a4 m c) := by
  refine (dats m 0 c).arrAt_eq_of_covers 7 _ (by decide +kernel) fun t hf y => ?_
  have y0 : (y 0 : ℕ) < 1 := (y 0).isLt
  have e0 : ((((cfg0.win 7).blk t).view.emb y) 0 : ℕ) = t.val / 8 := by
    blk_simp [idx t]
  have e1 : ((((cfg0.win 7).blk t).view.emb y) 1 : ℕ) = t.val % 8 * 512 + y 1 := by
    blk_simp [idx t]
  have e2 : ((((cfg0.win 7).blk t).view.emb y) 2 : ℕ) = y 2 := by
    blk_simp [idx t]
  generalize ((cfg0.win 7).blk t).view.emb y = p at e0 e1 e2 ⊢
  blk_simp
  rw [after0_7]
  obtain ⟨r, d, rfl⟩ : ∃ (r : Fin 512) (d : Fin 2048), y = ix3 0 r d := ⟨y 1, y 2, by
    funext a
    match a with
    | 0 => exact Fin.ext (show (y 0 : ℕ) = 0 by omega)
    | 1 => rfl
    | 2 => rfl⟩
  obtain rfl : p = ix3 (bat t) (tok t r) d := by
    funext a
    match a with
    | 0 => exact Fin.ext e0
    | 1 => exact Fin.ext e1
    | 2 => exact Fin.ext e2
  rw [block7, brow_eq]
  rfl

/-- The second result's array after the run. -/
theorem arr8 : (dats m 0 c).arrAt 8 cfg0.N = out2 (a0 m c) (a1 m c) (a2 m c) (a3 m c) (a4 m c) (a5 m c) (a6 m c) := by
  refine (dats m 0 c).arrAt_eq_of_covers 8 _ (by decide +kernel) fun t hf y => ?_
  have y0 : (y 0 : ℕ) < 1 := (y 0).isLt
  have e0 : ((((cfg0.win 8).blk t).view.emb y) 0 : ℕ) = t.val / 8 := by
    blk_simp [idx t]
  have e1 : ((((cfg0.win 8).blk t).view.emb y) 1 : ℕ) = t.val % 8 * 512 + y 1 := by
    blk_simp [idx t]
  have e2 : ((((cfg0.win 8).blk t).view.emb y) 2 : ℕ) = y 2 := by
    blk_simp [idx t]
  generalize ((cfg0.win 8).blk t).view.emb y = p at e0 e1 e2 ⊢
  blk_simp
  rw [after0_8]
  obtain ⟨r, d, rfl⟩ : ∃ (r : Fin 512) (d : Fin 2048), y = ix3 0 r d := ⟨y 1, y 2, by
    funext a
    match a with
    | 0 => exact Fin.ext (show (y 0 : ℕ) = 0 by omega)
    | 1 => rfl
    | 2 => rfl⟩
  obtain rfl : p = ix3 (bat t) (tok t r) d := by
    funext a
    match a with
    | 0 => exact Fin.ext e0
    | 1 => exact Fin.ext e1
    | 2 => exact Fin.ext e2
  rw [block8]
  unfold bhid
  simp only [brow_eq, b5, b6]
  rfl

end Kernel

section Reference

open Cert.Reference4Ideal Cert.Reference4Ideal.Gen

variable (a : FVec Ideal S2x4096x2048 .bf16) (w : FVec Ideal S2048x2048 .bf16) (x : FVec Ideal S2x4096x2048 .f32) (gp : FVec Ideal S2048 .f32)
  (g : FVec Ideal S2x2048 .f32) (gq : FVec Ideal S2048 .f32) (md : FVec Ideal S2x2x2048 .f32)

/-- The reference's projection. -/
def yRef : FVec Ideal S2x4096x2048 .f32 :=
  Host.dotGeneral dot_S2x4096x2048_S2048x2048_S2x4096x2048_2_0_01_1_n_n none (extf .f32 a bitsLt_bf16_f32) (extf .f32 w bitsLt_bf16_f32)

theorem yRef_apply (b : Fin 2) (t : Fin 4096) (d : Fin 2048) : yRef a w (ix3 b t d) = ∑ k : Fin 2048, a (ix3 b t k) * w (ix2 k d) := by
  pointwise [yRef]

/-- The reference's residual stream. -/
def xRef (y : FVec Ideal S2x4096x2048 .f32) : FVec Ideal S2x4096x2048 .f32 :=
  addf x (mulf (broadcastInDim S2x4096x2048 ![0, 1, 2] bcast_S2x1x2048_S2x4096x2048_0_1_2 (broadcastInDim S2x1x2048 ![0, 2] bcast_S2x2048_S2x1x2048_0_2 g)) (mulf (mulf y (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf y y) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 gp))))

theorem xRef_apply (y : FVec Ideal S2x4096x2048 .f32) (b : Fin 2) (t : Fin 4096) (d : Fin 2048) : xRef x gp g y (ix3 b t d)
    = res (fun d => x (ix3 b t d)) (fun d => g (ix2 b d)) (fun d => gp (ix1 d)) (fun d => y (ix3 b t d)) d := by
  pointwise [xRef]
  rfl

/-- The reference's norm of it, scaled and shifted. -/
def hRef (z : FVec Ideal S2x4096x2048 .f32) : FVec Ideal S2x4096x2048 .bf16 :=
  truncf .bf16 (addf (mulf (mulf (mulf z (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf z z) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 gq))) (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 (shapeCast S2x2048 (extractStridedSlice S2x1x2048 ![0, 1, 0] md slices_S2x2x2048_S2x1x2048_0_1_0) shapeCasts_S2x1x2048_S2x2048))))) (broadcastInDim S2x4096x2048 ![0, 1, 2] bcast_S2x1x2048_S2x4096x2048_0_1_2 (broadcastInDim S2x1x2048 ![0, 2] bcast_S2x2048_S2x1x2048_0_2 (shapeCast S2x2048 (extractStridedSlice S2x1x2048 ![0, 0, 0] md slices_S2x2x2048_S2x1x2048_0_0_0) shapeCasts_S2x1x2048_S2x2048)))) bitsLt_bf16_f32

theorem hRef_apply (z : FVec Ideal S2x4096x2048 .f32) (b : Fin 2) (t : Fin 4096) (d : Fin 2048) : hRef gq md z (ix3 b t d)
    = hid (fun d => z (ix3 b t d)) (fun d => gq (ix1 d)) (fun d => md (ix3 b 1 d)) (fun d => md (ix3 b 0 d)) d := by
  pointwise [hRef]
  rfl

theorem out1_eq : xRef x gp g (yRef a w) = out1 a w x gp g := by
  funext j
  obtain ⟨b, t, d, rfl⟩ : ∃ b t d, j = ix3 b t d := ⟨j 0, j 1, j 2, (ix3_eta j).symm⟩
  rw [xRef_apply]
  simp only [yRef_apply]
  rfl

theorem out2_eq : hRef gq md (xRef x gp g (yRef a w)) = out2 a w x gp g gq md := by
  funext j
  obtain ⟨b, t, d, rfl⟩ : ∃ b t d, j = ix3 b t d := ⟨j 0, j 1, j 2, (ix3_eta j).symm⟩
  rw [hRef_apply]
  simp only [out1_eq]
  rfl

end Reference

end Cert.OutProj

end
-- ==== Proof.InProj.lean ====
/- The input projection: the kernel's array after its run and the reference's term are one matrix product. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Claim

@[expose] public section

set_option maxRecDepth 16384

noncomputable section

namespace Cert.InProj

open Idealize.ShloMosaic Idealize.ShloMosaic.Pointwise

open Cert.Kernel5Ideal in
/-- The product of the normalised hidden state with the transposed input weight, row by row of both batch rows. -/
def proj (h : Vec Ideal S2x4352x2048 .bf16) (w : Vec Ideal S5120x2048 .bf16) : Vec Ideal S8704x5120 .f32 := fun i =>
  ∑ k : Fin 2048, h (ix3 ⟨(i 0).val / 4352, by have : (i 0).val < 8704 := (i 0).isLt; omega⟩ ⟨(i 0).val % 4352, by omega⟩ k) * w (ix2 (i 1) k)

section Kernel

open Cert.Kernel5Ideal Cert.Kernel5Ideal.Gen

theorem pay_apply (a : Vec Ideal S2176x2048 .bf16) (w : Vec Ideal S1024x2048 .bf16) (r : Fin 2176) (n : Fin 1024) :
    k0_pay1 a w (ix2 r n) = ∑ k : Fin 2048, a (ix2 r k) * w (ix2 n k) := by
  pointwise [k0_pay1]

variable (m : (ℓ : Loc nD τ sig) → Buf (Elt Ideal) ℓ) (c : Dev nD)

theorem idx : ∀ t : Fin cfg0.N, win0_0.index t = ![t.val / 5, 0] ∧ win0_1.index t = ![t.val % 5, 0]
    ∧ win0_2.index t = ![t.val / 5, t.val % 5] := by decide +kernel

/-- The arguments of the call. -/
abbrev ah : Vec Ideal S2x4352x2048 .bf16 := m ((c.tc : Thread nD τ).loc main_arg0)
abbrev aw : Vec Ideal S5120x2048 .bf16 := m ((c.tc : Thread nD τ).loc main_arg1)

theorem vh (r : Fin 8704) (k : Fin 2048) :
    V m c main_v0 (ix2 r k) = ah m c (ix3 ⟨r.val / 4352, by omega⟩ ⟨r.val % 4352, by omega⟩ k) := by
  entry_read
  pointwise []

theorem lt (t : Fin cfg0.N) : t.val < 20 := t.isLt

/-- The row and the channel a point's block rows stand for. -/
def row (t : Fin cfg0.N) (r : Fin 2176) : Fin 8704 := ⟨t.val / 5 * 2176 + r.val, by have := lt t; omega⟩
def chn (t : Fin cfg0.N) (n : Fin 1024) : Fin 5120 := ⟨t.val % 5 * 1024 + n.val, by omega⟩

theorem b0 (t : Fin cfg0.N) (r : Fin 2176) (k : Fin 2048) : iblk m c 0 t (ix2 r k)
    = ah m c (ix3 ⟨(row t r).val / 4352, by omega⟩ ⟨(row t r).val % 4352, by omega⟩ k) := by
  rw [← vh]
  blk_ext [iblk, idx t, row]

theorem b1 (t : Fin cfg0.N) (n : Fin 1024) (k : Fin 2048) : iblk m c 1 t (ix2 n k) = aw m c (ix2 (chn t n) k) := by
  blk_ext [iblk, V, idx t, chn]

/-- The projection's array after the run. -/
theorem arr2 : (dats m 0 c).arrAt 2 cfg0.N = proj (ah m c) (aw m c) := by
  refine (dats m 0 c).arrAt_eq_of_covers 2 _ (by decide +kernel) fun t hf y => ?_
  have e0 : ((((cfg0.win 2).blk t).view.emb y) 0 : ℕ) = t.val / 5 * 2176 + y 0 := by
    blk_simp [idx t]
  have e1 : ((((cfg0.win 2).blk t).view.emb y) 1 : ℕ) = t.val % 5 * 1024 + y 1 := by
    blk_simp [idx t]
  generalize ((cfg0.win 2).blk t).view.emb y = p at e0 e1 ⊢
  blk_simp
  rw [after0_2]
  frame_out
  obtain ⟨r, n, rfl⟩ : ∃ (r : Fin 2176) (n : Fin 1024), y = ix2 r n := ⟨y 0, y 1, (ix2_eta y).symm⟩
  obtain rfl : p = ix2 (row t r) (chn t n) := by
    funext a
    match a with
    | 0 => exact Fin.ext e0
    | 1 => exact Fin.ext e1
  rw [pay_apply]
  simp only [b0, b1]
  rfl

end Kernel

section Reference

open Cert.Reference5Ideal Cert.Reference5Ideal.Gen

/-- The reference's projection. -/
def pRef (h : FVec Ideal S2x4352x2048 .bf16) (w : FVec Ideal S5120x2048 .bf16) : FVec Ideal S8704x5120 .f32 :=
  shapeCast S8704x5120 (Host.dotGeneral dot_S2x4352x2048_S2048x5120_S2x4352x5120_2_0_01_1_n_n none (extf .f32 h bitsLt_bf16_f32) (transpose S2048x5120 [1, 0] (extf .f32 w bitsLt_bf16_f32) transposes_S5120x2048_S2048x5120_1_0)) shapeCasts_S2x4352x5120_S8704x5120

theorem proj_eq (h : FVec Ideal S2x4352x2048 .bf16) (w : FVec Ideal S5120x2048 .bf16) : pRef h w = proj h w := by
  funext j
  obtain ⟨r, n, rfl⟩ : ∃ r n, j = ix2 r n := ⟨j 0, j 1, (ix2_eta j).symm⟩
  pointwise [pRef, proj]

end Reference

end Cert.InProj

end
-- ==== Proof.KvProj.lean ====
/- The key and value projection: the kernel's arrays after its run and the reference's terms. -/
module

public import proofs.«01_k».proof.Proof.Gen.Kernel7Ideal.Value
public import proofs.«01_k».proof.Proof.Gen.Reference7Ideal.Run
public import Idealize.ShloMosaic.Lib.Pipeline.ValueKit
public import Idealize.ShloMosaic.Lib.Claim

@[expose] public section

set_option maxRecDepth 16384

noncomputable section

namespace Cert.KvProj

open Idealize.ShloMosaic Idealize.ShloMosaic.Pointwise

/-- A row of latents divided by its root mean square, times the gain, at column `k`. -/
def lat (f g : Fin 512 → EReal) (k : Fin 512) : EReal :=
  f k * Ideal.rsqrt (Ideal.div (∑ l, f l * f l) (Ideal.ofBits .f32 0x44000000#32) + Ideal.ofBits .f32 0x358637BD#32) * g k

/-- A key: the latents through the first 128 columns of a head's weights, then the 64 rotated entries. -/
def kent (n : Fin 512 → EReal) (w : Fin 512 → Fin 256 → EReal) (pe : Fin 64 → EReal) (d : Fin 192) : EReal :=
  if h : d.val < 128 then ∑ k, n k * w k ⟨d.val, by omega⟩ else pe ⟨d.val - 128, by omega⟩

/-- A value: the latents through the last 128 columns of a head's weights, then 128 ones. -/
def vent (n : Fin 512 → EReal) (w : Fin 512 → Fin 256 → EReal) (d : Fin 256) : EReal :=
  if h : d.val < 128 then ∑ k, n k * w k ⟨128 + d.val, by omega⟩ else 1

section Spec

open Cert.Kernel7Ideal

variable (p : Vec Ideal S2x4352x5120 .f32) (g : Vec Ideal S512 .f32) (w : Vec Ideal S512x4096 .f32) (cs sn : Vec Ideal S4352x64 .f32)

/-- A token's latents after their norm. -/
def latents (b : Fin 2) (t : Fin 4352) : Fin 512 → EReal := lat (fun k => p (ix3 b t ⟨4608 + k.val, by omega⟩)) fun k => g (ix1 k)

/-- A head's weights. -/
def wh (h : Fin 16) (k : Fin 512) (n : Fin 256) : EReal := w (ix2 k ⟨h.val * 256 + n.val, by omega⟩)

/-- A token's rotated key entries. -/
def rope (b : Fin 2) (t : Fin 4352) (d : Fin 64) : EReal :=
  p (ix3 b t ⟨3712 + d.val, by omega⟩) * cs (ix2 t d) + p (ix3 b t ⟨3776 + d.val, by omega⟩) * sn (ix2 t d)

/-- The keys. -/
def keys : Vec Ideal S2x16x4352x192 .bf16 := fun i => kent (latents p g (i 0) (i 2)) (wh w (i 1)) (rope p cs sn (i 0) (i 2)) (i 3)

/-- The values. -/
def vals : Vec Ideal S2x16x4352x256 .bf16 := fun i => vent (latents p g (i 0) (i 2)) (wh w (i 1)) (i 3)

end Spec

section Kernel

open Cert.Kernel7Ideal Cert.Kernel7Ideal.Gen

section Block

variable (x0 : Vec Ideal S1x256x512 .f32) (x1 : Vec Ideal S1x256x128 .f32) (x2 : Vec Ideal S1x512 .f32) (x3 : Vec Ideal S16x512x256 .bf16)
  (x4 x5 : Vec Ideal S256x64 .f32)

/-- The block's latents after their norm, at row `r`. -/
def blat (r : Fin 256) : Fin 512 → EReal := lat (fun k => x0 (ix3 0 r k)) fun k => x2 (ix2 0 k)

/-- The block's rotated entries, at row `r`. -/
def brope (r : Fin 256) (d : Fin 64) : EReal :=
  x1 (ix3 0 r ⟨d.val, by omega⟩) * x4 (ix2 r d) + x1 (ix3 0 r ⟨64 + d.val, by omega⟩) * x5 (ix2 r d)

/-- The block's keys and values of head `h` at row `r`, column `d`. -/
def bkey (h : Fin 16) (r : Fin 256) (d : Fin 192) : EReal := kent (blat x0 x2 r) (fun k n => x3 (ix3 h k n)) (brope x1 x4 x5 r) d
def bval (h : Fin 16) (r : Fin 256) (d : Fin 256) : EReal := vent (blat x0 x2 r) (fun k n => x3 (ix3 h k n)) d

theorem bkey_at (h h' : Fin 16) (r r' : Fin 256) (d d' : Fin 192) (eh : h.val = h'.val) (er : r.val = r'.val) (ed : d.val = d'.val) :
    bkey x0 x1 x2 x3 x4 x5 h r d = bkey x0 x1 x2 x3 x4 x5 h' r' d' := by
  obtain rfl := Fin.ext eh
  obtain rfl := Fin.ext er
  obtain rfl := Fin.ext ed
  rfl

theorem bval_at (h h' : Fin 16) (r r' : Fin 256) (d d' : Fin 256) (eh : h.val = h'.val) (er : r.val = r'.val) (ed : d.val = d'.val) :
    bval x0 x2 x3 h r d = bval x0 x2 x3 h' r' d' := by
  obtain rfl := Fin.ext eh
  obtain rfl := Fin.ext er
  obtain rfl := Fin.ext ed
  rfl

theorem lat_apply (r : Fin 256) (k : Fin 512) : k0_pay58 x0 x1 x2 x3 x4 x5 (ix2 r k) = blat x0 x2 r k := by
  pointwise [k0_pay58, k0_pay4]
  rfl

theorem rope_apply (r : Fin 256) (d : Fin 64) : k0_pay59 x0 x1 x2 x3 x4 x5 (ix2 r d) = brope x1 x4 x5 r d := by
  pointwise [k0_pay59, k0_pay5]
  rfl

theorem one_apply (j : S256x128.Idx) : k0_pay60 x0 x1 x2 x3 x4 x5 j = (1 : EReal) := by
  pointwise [k0_pay60, k0_pay6]

section Pay

variable (n : FVec Ideal S256x512 .bf16) (e : FVec Ideal S256x64 .f32) (o : FVec Ideal S256x128 .f32) (u : Vec Ideal S1x512x256 .bf16)

theorem key_apply (r : Fin 256) (d : Fin 192) :
    k0_pay2 n e u (ix4 0 0 r d) = kent (fun k => n (ix2 r k)) (fun k n => u (ix3 0 k n)) (fun d => e (ix2 r d)) d := by
  pointwise [k0_pay2, k0_pay1]
  rfl

theorem val_apply (r : Fin 256) (d : Fin 256) (ho : ∀ j, o j = (1 : EReal)) :
    k0_pay3 n o u (ix4 0 0 r d) = vent (fun k => n (ix2 r k)) (fun k n => u (ix3 0 k n)) d := by
  pointwise [k0_pay3, k0_pay1]
  simp only [ho]
  rfl

theorem k56 : k0_pay56 n e u = k0_pay2 n e u := rfl
theorem k53 : k0_pay53 n e u = k0_pay2 n e u := rfl
theorem k49 : k0_pay49 n e u = k0_pay2 n e u := rfl
theorem k46 : k0_pay46 n e u = k0_pay2 n e u := rfl
theorem k42 : k0_pay42 n e u = k0_pay2 n e u := rfl
theorem k39 : k0_pay39 n e u = k0_pay2 n e u := rfl
theorem k35 : k0_pay35 n e u = k0_pay2 n e u := rfl
theorem k32 : k0_pay32 n e u = k0_pay2 n e u := rfl
theorem k28 : k0_pay28 n e u = k0_pay2 n e u := rfl
theorem k25 : k0_pay25 n e u = k0_pay2 n e u := rfl
theorem k21 : k0_pay21 n e u = k0_pay2 n e u := rfl
theorem k18 : k0_pay18 n e u = k0_pay2 n e u := rfl
theorem k15 : k0_pay15 n e u = k0_pay2 n e u := rfl
theorem k12 : k0_pay12 n e u = k0_pay2 n e u := rfl
theorem v57 : k0_pay57 n o u = k0_pay3 n o u := rfl
theorem v54 : k0_pay54 n o u = k0_pay3 n o u := rfl
theorem v47 : k0_pay47 n o u = k0_pay3 n o u := rfl
theorem v40 : k0_pay40 n o u = k0_pay3 n o u := rfl
theorem v33 : k0_pay33 n o u = k0_pay3 n o u := rfl
theorem v26 : k0_pay26 n o u = k0_pay3 n o u := rfl
theorem v19 : k0_pay19 n o u = k0_pay3 n o u := rfl
theorem v13 : k0_pay13 n o u = k0_pay3 n o u := rfl
theorem v51 : k0_pay51 (k0_pay50 n o u) = k0_pay3 n o u := rfl
theorem v44 : k0_pay44 (k0_pay43 n o u) = k0_pay3 n o u := rfl
theorem v37 : k0_pay37 (k0_pay36 n o u) = k0_pay3 n o u := rfl
theorem v30 : k0_pay30 (k0_pay29 n o u) = k0_pay3 n o u := rfl
theorem v23 : k0_pay23 o (k0_pay22 n u) = k0_pay3 n o u := rfl
theorem v16 : k0_pay16 o (k0_pay14 n u) = k0_pay3 n o u := rfl

end Pay

theorem k9 : k0_pay9 (k0_pay8 (View.ld x0 r0_0) (View.ld x2 r0_1) (View.ld x1 r0_2) (View.ld x4 r0_3) (View.ld x5 r0_3) (View.ld x3 r0_4))
    = k0_pay2 (k0_pay58 x0 x1 x2 x3 x4 x5) (k0_pay59 x0 x1 x2 x3 x4 x5) (View.ld x3 r0_4) := rfl

theorem v10 : k0_pay10 (k0_pay60 x0 x1 x2 x3 x4 x5) (k0_pay7 (View.ld x0 r0_0) (View.ld x2 r0_1) (View.ld x3 r0_4))
    = k0_pay3 (k0_pay58 x0 x1 x2 x3 x4 x5) (k0_pay60 x0 x1 x2 x3 x4 x5) (View.ld x3 r0_4) := rfl

theorem w0 (k : Fin 512) (n : Fin 256) : View.ld x3 r0_4 (ix3 0 k n) = x3 (ix3 0 k n) := by
  pointwise []
theorem w1 (k : Fin 512) (n : Fin 256) : View.ld x3 r0_7 (ix3 0 k n) = x3 (ix3 1 k n) := by
  pointwise []
theorem w2 (k : Fin 512) (n : Fin 256) : View.ld x3 r0_10 (ix3 0 k n) = x3 (ix3 2 k n) := by
  pointwise []
theorem w3 (k : Fin 512) (n : Fin 256) : View.ld x3 r0_13 (ix3 0 k n) = x3 (ix3 3 k n) := by
  pointwise []
theorem w4 (k : Fin 512) (n : Fin 256) : View.ld x3 r0_16 (ix3 0 k n) = x3 (ix3 4 k n) := by
  pointwise []
theorem w5 (k : Fin 512) (n : Fin 256) : View.ld x3 r0_19 (ix3 0 k n) = x3 (ix3 5 k n) := by
  pointwise []
theorem w6 (k : Fin 512) (n : Fin 256) : View.ld x3 r0_22 (ix3 0 k n) = x3 (ix3 6 k n) := by
  pointwise []
theorem w7 (k : Fin 512) (n : Fin 256) : View.ld x3 r0_25 (ix3 0 k n) = x3 (ix3 7 k n) := by
  pointwise []
theorem w8 (k : Fin 512) (n : Fin 256) : View.ld x3 r0_28 (ix3 0 k n) = x3 (ix3 8 k n) := by
  pointwise []
theorem w9 (k : Fin 512) (n : Fin 256) : View.ld x3 r0_31 (ix3 0 k n) = x3 (ix3 9 k n) := by
  pointwise []
theorem w10 (k : Fin 512) (n : Fin 256) : View.ld x3 r0_34 (ix3 0 k n) = x3 (ix3 10 k n) := by
  pointwise []
theorem w11 (k : Fin 512) (n : Fin 256) : View.ld x3 r0_37 (ix3 0 k n) = x3 (ix3 11 k n) := by
  pointwise []
theorem w12 (k : Fin 512) (n : Fin 256) : View.ld x3 r0_40 (ix3 0 k n) = x3 (ix3 12 k n) := by
  pointwise []
theorem w13 (k : Fin 512) (n : Fin 256) : View.ld x3 r0_43 (ix3 0 k n) = x3 (ix3 13 k n) := by
  pointwise []
theorem w14 (k : Fin 512) (n : Fin 256) : View.ld x3 r0_46 (ix3 0 k n) = x3 (ix3 14 k n) := by
  pointwise []
theorem w15 (k : Fin 512) (n : Fin 256) : View.ld x3 r0_49 (ix3 0 k n) = x3 (ix3 15 k n) := by
  pointwise []

theorem key_piece (h : Fin 16) (u : Vec Ideal S1x512x256 .bf16) (hu : ∀ k n, u (ix3 0 k n) = x3 (ix3 h k n)) (r : Fin 256) (d : Fin 192) :
    k0_pay2 (k0_pay58 x0 x1 x2 x3 x4 x5) (k0_pay59 x0 x1 x2 x3 x4 x5) u (ix4 0 0 r d) = bkey x0 x1 x2 x3 x4 x5 h r d := by
  rw [key_apply]
  simp only [lat_apply, rope_apply, hu]
  rfl

theorem val_piece (h : Fin 16) (u : Vec Ideal S1x512x256 .bf16) (hu : ∀ k n, u (ix3 0 k n) = x3 (ix3 h k n)) (r : Fin 256) (d : Fin 256) :
    k0_pay3 (k0_pay58 x0 x1 x2 x3 x4 x5) (k0_pay60 x0 x1 x2 x3 x4 x5) u (ix4 0 0 r d) = bval x0 x2 x3 h r d := by
  rw [val_apply _ _ _ _ _ (one_apply x0 x1 x2 x3 x4 x5)]
  simp only [lat_apply, hu]
  rfl

theorem block6 (h : Fin 16) (r : Fin 256) (d : Fin 192) : out0_6 x0 x1 x2 x3 x4 x5 (ix4 0 h r d) = bkey x0 x1 x2 x3 x4 x5 h r d := by
  unfold out0_6
  refine View.canon_apply_of_pieces (Val := Elt Ideal) (fun y => bkey x0 x1 x2 x3 x4 x5 (y 1) (y 2) (y 3) : Vec Ideal S1x16x256x192 .bf16) _ ?_ _ (cover0_6 _ _ _ _ _ _ _ _ _ _ _ _ _ _ _ _ _)
  intro p hp
  simp only [List.mem_cons, List.not_mem_nil, or_false] at hp
  rcases hp with rfl | rfl | rfl | rfl | rfl | rfl | rfl | rfl | rfl | rfl | rfl | rfl | rfl | rfl | rfl | rfl
  all_goals
    intro (j : S1x1x256x192.Idx)
    have j0 : (j 0 : ℕ) < 1 := (j 0).isLt
    have j1 : (j 1 : ℕ) < 1 := (j 1).isLt
    obtain ⟨r, d, rfl⟩ : ∃ (r : Fin 256) (d : Fin 192), j = ix4 0 0 r d := ⟨j 2, j 3, by
      funext a
      match a with
      | 0 => exact Fin.ext (show (j 0 : ℕ) = 0 by omega)
      | 1 => exact Fin.ext (show (j 1 : ℕ) = 0 by omega)
      | 2 => rfl
      | 3 => rfl⟩
    dsimp only
  · refine (key_piece x0 x1 x2 x3 x4 x5 15 _ (w15 x3) r d).trans (bkey_at x0 x1 x2 x3 x4 x5 _ _ _ _ _ _ rfl ?_ ?_)
    · show r.val = 0 + 1 * r.val
      omega
    · show d.val = 0 + 1 * d.val
      omega
  · rw [k56]
    refine (key_piece x0 x1 x2 x3 x4 x5 14 _ (w14 x3) r d).trans (bkey_at x0 x1 x2 x3 x4 x5 _ _ _ _ _ _ rfl ?_ ?_)
    · show r.val = 0 + 1 * r.val
      omega
    · show d.val = 0 + 1 * d.val
      omega
  · rw [k53]
    refine (key_piece x0 x1 x2 x3 x4 x5 13 _ (w13 x3) r d).trans (bkey_at x0 x1 x2 x3 x4 x5 _ _ _ _ _ _ rfl ?_ ?_)
    · show r.val = 0 + 1 * r.val
      omega
    · show d.val = 0 + 1 * d.val
      omega
  · rw [k49]
    refine (key_piece x0 x1 x2 x3 x4 x5 12 _ (w12 x3) r d).trans (bkey_at x0 x1 x2 x3 x4 x5 _ _ _ _ _ _ rfl ?_ ?_)
    · show r.val = 0 + 1 * r.val
      omega
    · show d.val = 0 + 1 * d.val
      omega
  · rw [k46]
    refine (key_piece x0 x1 x2 x3 x4 x5 11 _ (w11 x3) r d).trans (bkey_at x0 x1 x2 x3 x4 x5 _ _ _ _ _ _ rfl ?_ ?_)
    · show r.val = 0 + 1 * r.val
      omega
    · show d.val = 0 + 1 * d.val
      omega
  · rw [k42]
    refine (key_piece x0 x1 x2 x3 x4 x5 10 _ (w10 x3) r d).trans (bkey_at x0 x1 x2 x3 x4 x5 _ _ _ _ _ _ rfl ?_ ?_)
    · show r.val = 0 + 1 * r.val
      omega
    · show d.val = 0 + 1 * d.val
      omega
  · rw [k39]
    refine (key_piece x0 x1 x2 x3 x4 x5 9 _ (w9 x3) r d).trans (bkey_at x0 x1 x2 x3 x4 x5 _ _ _ _ _ _ rfl ?_ ?_)
    · show r.val = 0 + 1 * r.val
      omega
    · show d.val = 0 + 1 * d.val
      omega
  · rw [k35]
    refine (key_piece x0 x1 x2 x3 x4 x5 8 _ (w8 x3) r d).trans (bkey_at x0 x1 x2 x3 x4 x5 _ _ _ _ _ _ rfl ?_ ?_)
    · show r.val = 0 + 1 * r.val
      omega
    · show d.val = 0 + 1 * d.val
      omega
  · rw [k32]
    refine (key_piece x0 x1 x2 x3 x4 x5 7 _ (w7 x3) r d).trans (bkey_at x0 x1 x2 x3 x4 x5 _ _ _ _ _ _ rfl ?_ ?_)
    · show r.val = 0 + 1 * r.val
      omega
    · show d.val = 0 + 1 * d.val
      omega
  · rw [k28]
    refine (key_piece x0 x1 x2 x3 x4 x5 6 _ (w6 x3) r d).trans (bkey_at x0 x1 x2 x3 x4 x5 _ _ _ _ _ _ rfl ?_ ?_)
    · show r.val = 0 + 1 * r.val
      omega
    · show d.val = 0 + 1 * d.val
      omega
  · rw [k25]
    refine (key_piece x0 x1 x2 x3 x4 x5 5 _ (w5 x3) r d).trans (bkey_at x0 x1 x2 x3 x4 x5 _ _ _ _ _ _ rfl ?_ ?_)
    · show r.val = 0 + 1 * r.val
      omega
    · show d.val = 0 + 1 * d.val
      omega
  · rw [k21]
    refine (key_piece x0 x1 x2 x3 x4 x5 4 _ (w4 x3) r d).trans (bkey_at x0 x1 x2 x3 x4 x5 _ _ _ _ _ _ rfl ?_ ?_)
    · show r.val = 0 + 1 * r.val
      omega
    · show d.val = 0 + 1 * d.val
      omega
  · rw [k18]
    refine (key_piece x0 x1 x2 x3 x4 x5 3 _ (w3 x3) r d).trans (bkey_at x0 x1 x2 x3 x4 x5 _ _ _ _ _ _ rfl ?_ ?_)
    · show r.val = 0 + 1 * r.val
      omega
    · show d.val = 0 + 1 * d.val
      omega
  · rw [k15]
    refine (key_piece x0 x1 x2 x3 x4 x5 2 _ (w2 x3) r d).trans (bkey_at x0 x1 x2 x3 x4 x5 _ _ _ _ _ _ rfl ?_ ?_)
    · show r.val = 0 + 1 * r.val
      omega
    · show d.val = 0 + 1 * d.val
      omega
  · rw [k12]
    refine (key_piece x0 x1 x2 x3 x4 x5 1 _ (w1 x3) r d).trans (bkey_at x0 x1 x2 x3 x4 x5 _ _ _ _ _ _ rfl ?_ ?_)
    · show r.val = 0 + 1 * r.val
      omega
    · show d.val = 0 + 1 * d.val
      omega
  · rw [k9]
    refine (key_piece x0 x1 x2 x3 x4 x5 0 _ (w0 x3) r d).trans (bkey_at x0 x1 x2 x3 x4 x5 _ _ _ _ _ _ rfl ?_ ?_)
    · show r.val = 0 + 1 * r.val
      omega
    · show d.val = 0 + 1 * d.val
      omega

theorem block7 (h : Fin 16) (r : Fin 256) (d : Fin 256) : out0_7 x0 x1 x2 x3 x4 x5 (ix4 0 h r d) = bval x0 x2 x3 h r d := by
  unfold out0_7
  refine View.canon_apply_of_pieces (Val := Elt Ideal) (fun y => bval x0 x2 x3 (y 1) (y 2) (y 3) : Vec Ideal S1x16x256x256 .bf16) _ ?_ _ (cover0_7 _ _ _ _ _ _ _ _ _ _ _ _ _ _ _ _ _)
  intro p hp
  simp only [List.mem_cons, List.not_mem_nil, or_false] at hp
  rcases hp with rfl | rfl | rfl | rfl | rfl | rfl | rfl | rfl | rfl | rfl | rfl | rfl | rfl | rfl | rfl | rfl
  all_goals
    intro (j : S1x1x256x256.Idx)
    have j0 : (j 0 : ℕ) < 1 := (j 0).isLt
    have j1 : (j 1 : ℕ) < 1 := (j 1).isLt
    obtain ⟨r, d, rfl⟩ : ∃ (r : Fin 256) (d : Fin 256), j = ix4 0 0 r d := ⟨j 2, j 3, by
      funext a
      match a with
      | 0 => exact Fin.ext (show (j 0 : ℕ) = 0 by omega)
      | 1 => exact Fin.ext (show (j 1 : ℕ) = 0 by omega)
      | 2 => rfl
      | 3 => rfl⟩
    dsimp only
  · refine (val_piece x0 x1 x2 x3 x4 x5 15 _ (w15 x3) r d).trans (bval_at x0 x2 x3 _ _ _ _ _ _ rfl ?_ ?_)
    · show r.val = 0 + 1 * r.val
      omega
    · show d.val = 0 + 1 * d.val
      omega
  · rw [v57]
    refine (val_piece x0 x1 x2 x3 x4 x5 14 _ (w14 x3) r d).trans (bval_at x0 x2 x3 _ _ _ _ _ _ rfl ?_ ?_)
    · show r.val = 0 + 1 * r.val
      omega
    · show d.val = 0 + 1 * d.val
      omega
  · rw [v54]
    refine (val_piece x0 x1 x2 x3 x4 x5 13 _ (w13 x3) r d).trans (bval_at x0 x2 x3 _ _ _ _ _ _ rfl ?_ ?_)
    · show r.val = 0 + 1 * r.val
      omega
    · show d.val = 0 + 1 * d.val
      omega
  · rw [v51]
    refine (val_piece x0 x1 x2 x3 x4 x5 12 _ (w12 x3) r d).trans (bval_at x0 x2 x3 _ _ _ _ _ _ rfl ?_ ?_)
    · show r.val = 0 + 1 * r.val
      omega
    · show d.val = 0 + 1 * d.val
      omega
  · rw [v47]
    refine (val_piece x0 x1 x2 x3 x4 x5 11 _ (w11 x3) r d).trans (bval_at x0 x2 x3 _ _ _ _ _ _ rfl ?_ ?_)
    · show r.val = 0 + 1 * r.val
      omega
    · show d.val = 0 + 1 * d.val
      omega
  · rw [v44]
    refine (val_piece x0 x1 x2 x3 x4 x5 10 _ (w10 x3) r d).trans (bval_at x0 x2 x3 _ _ _ _ _ _ rfl ?_ ?_)
    · show r.val = 0 + 1 * r.val
      omega
    · show d.val = 0 + 1 * d.val
      omega
  · rw [v40]
    refine (val_piece x0 x1 x2 x3 x4 x5 9 _ (w9 x3) r d).trans (bval_at x0 x2 x3 _ _ _ _ _ _ rfl ?_ ?_)
    · show r.val = 0 + 1 * r.val
      omega
    · show d.val = 0 + 1 * d.val
      omega
  · rw [v37]
    refine (val_piece x0 x1 x2 x3 x4 x5 8 _ (w8 x3) r d).trans (bval_at x0 x2 x3 _ _ _ _ _ _ rfl ?_ ?_)
    · show r.val = 0 + 1 * r.val
      omega
    · show d.val = 0 + 1 * d.val
      omega
  · rw [v33]
    refine (val_piece x0 x1 x2 x3 x4 x5 7 _ (w7 x3) r d).trans (bval_at x0 x2 x3 _ _ _ _ _ _ rfl ?_ ?_)
    · show r.val = 0 + 1 * r.val
      omega
    · show d.val = 0 + 1 * d.val
      omega
  · rw [v30]
    refine (val_piece x0 x1 x2 x3 x4 x5 6 _ (w6 x3) r d).trans (bval_at x0 x2 x3 _ _ _ _ _ _ rfl ?_ ?_)
    · show r.val = 0 + 1 * r.val
      omega
    · show d.val = 0 + 1 * d.val
      omega
  · rw [v26]
    refine (val_piece x0 x1 x2 x3 x4 x5 5 _ (w5 x3) r d).trans (bval_at x0 x2 x3 _ _ _ _ _ _ rfl ?_ ?_)
    · show r.val = 0 + 1 * r.val
      omega
    · show d.val = 0 + 1 * d.val
      omega
  · rw [v23]
    refine (val_piece x0 x1 x2 x3 x4 x5 4 _ (w4 x3) r d).trans (bval_at x0 x2 x3 _ _ _ _ _ _ rfl ?_ ?_)
    · show r.val = 0 + 1 * r.val
      omega
    · show d.val = 0 + 1 * d.val
      omega
  · rw [v19]
    refine (val_piece x0 x1 x2 x3 x4 x5 3 _ (w3 x3) r d).trans (bval_at x0 x2 x3 _ _ _ _ _ _ rfl ?_ ?_)
    · show r.val = 0 + 1 * r.val
      omega
    · show d.val = 0 + 1 * d.val
      omega
  · rw [v16]
    refine (val_piece x0 x1 x2 x3 x4 x5 2 _ (w2 x3) r d).trans (bval_at x0 x2 x3 _ _ _ _ _ _ rfl ?_ ?_)
    · show r.val = 0 + 1 * r.val
      omega
    · show d.val = 0 + 1 * d.val
      omega
  · rw [v13]
    refine (val_piece x0 x1 x2 x3 x4 x5 1 _ (w1 x3) r d).trans (bval_at x0 x2 x3 _ _ _ _ _ _ rfl ?_ ?_)
    · show r.val = 0 + 1 * r.val
      omega
    · show d.val = 0 + 1 * d.val
      omega
  · rw [v10]
    refine (val_piece x0 x1 x2 x3 x4 x5 0 _ (w0 x3) r d).trans (bval_at x0 x2 x3 _ _ _ _ _ _ rfl ?_ ?_)
    · show r.val = 0 + 1 * r.val
      omega
    · show d.val = 0 + 1 * d.val
      omega

end Block

variable (m : (ℓ : Loc nD τ sig) → Buf (Elt Ideal) ℓ) (c : Dev nD)

theorem idx : ∀ t : Fin cfg0.N, win0_0.index t = ![t.val / 17, t.val % 17, 9] ∧ win0_1.index t = ![t.val / 17, t.val % 17, 29] ∧ win0_2.index t = ![0, 0]
    ∧ win0_3.index t = ![0, 0, 0] ∧ win0_4.index t = ![t.val % 17, 0] ∧ win0_5.index t = ![t.val % 17, 0]
    ∧ win0_6.index t = ![t.val / 17, 0, t.val % 17, 0] ∧ win0_7.index t = ![t.val / 17, 0, t.val % 17, 0] := by decide +kernel

/-- The arguments of the call. -/
abbrev a0 : Vec Ideal S2x4352x5120 .f32 := m ((c.tc : Thread nD τ).loc main_arg0)
abbrev a1 : Vec Ideal S512 .f32 := m ((c.tc : Thread nD τ).loc main_arg1)
abbrev a2 : Vec Ideal S512x4096 .f32 := m ((c.tc : Thread nD τ).loc main_arg2)
abbrev a3 : Vec Ideal S4352x64 .f32 := m ((c.tc : Thread nD τ).loc main_arg3)
abbrev a4 : Vec Ideal S4352x64 .f32 := m ((c.tc : Thread nD τ).loc main_arg4)

theorem gain_v (k : Fin 512) : V m c main_v3 (ix2 0 k) = a1 m c (ix1 k) := by
  entry_read
  pointwise []

theorem w_v (h : Fin 16) (k : Fin 512) (n : Fin 256) : V m c main_v2 (ix3 h k n) = wh (a2 m c) h k n := by
  entry_read
  pointwise []
  rfl

theorem lt (t : Fin cfg0.N) : t.val < 34 := t.isLt

/-- The batch row and the token a point's block rows stand for. -/
def bat (t : Fin cfg0.N) : Fin 2 := ⟨t.val / 17, by have := lt t; omega⟩
def tok (t : Fin cfg0.N) (r : Fin 256) : Fin 4352 := ⟨t.val % 17 * 256 + r.val, by omega⟩

theorem b0 (t : Fin cfg0.N) (r : Fin 256) (k : Fin 512) : iblk m c 0 t (ix3 0 r k) = a0 m c (ix3 (bat t) (tok t r) ⟨4608 + k.val, by omega⟩) := by
  have := lt t
  blk_ext [iblk, V, idx t, bat, tok]

theorem b1 (t : Fin cfg0.N) (r : Fin 256) (k : Fin 128) : iblk m c 1 t (ix3 0 r k) = a0 m c (ix3 (bat t) (tok t r) ⟨3712 + k.val, by omega⟩) := by
  have := lt t
  blk_ext [iblk, V, idx t, bat, tok]

theorem b2 (t : Fin cfg0.N) (k : Fin 512) : iblk m c 2 t (ix2 0 k) = a1 m c (ix1 k) := by
  rw [← gain_v]
  blk_ext [iblk, idx t]

theorem b3 (t : Fin cfg0.N) (h : Fin 16) (k : Fin 512) (n : Fin 256) : iblk m c 3 t (ix3 h k n) = wh (a2 m c) h k n := by
  rw [← w_v]
  blk_ext [iblk, idx t]

theorem b4 (t : Fin cfg0.N) (r : Fin 256) (d : Fin 64) : iblk m c 4 t (ix2 r d) = a3 m c (ix2 (tok t r) d) := by
  have := lt t
  blk_ext [iblk, V, idx t, tok]

theorem b5 (t : Fin cfg0.N) (r : Fin 256) (d : Fin 64) : iblk m c 5 t (ix2 r d) = a4 m c (ix2 (tok t r) d) := by
  have := lt t
  blk_ext [iblk, V, idx t, tok]

theorem blat_eq (t : Fin cfg0.N) (r : Fin 256) : blat (iblk m c 0 t) (iblk m c 2 t) r = latents (a0 m c) (a1 m c) (bat t) (tok t r) := by
  unfold blat latents
  simp only [b0, b2]

theorem brope_eq (t : Fin cfg0.N) (r : Fin 256) :
    brope (iblk m c 1 t) (iblk m c 4 t) (iblk m c 5 t) r = rope (a0 m c) (a3 m c) (a4 m c) (bat t) (tok t r) := by
  funext d
  unfold brope rope
  simp only [b1, b4, b5]
  refine congrArg (fun z => _ + a0 m c (ix3 (bat t) (tok t r) z) * _) (Fin.ext ?_)
  show 3712 + (64 + d.val) = 3776 + d.val
  omega

/-- The keys' array after the run. -/
theorem arr6 : (dats m 0 c).arrAt 6 cfg0.N = keys (a0 m c) (a1 m c) (a2 m c) (a3 m c) (a4 m c) := by
  refine (dats m 0 c).arrAt_eq_of_covers 6 _ (by decide +kernel) fun t hf y => ?_
  have y0 : (y 0 : ℕ) < 1 := (y 0).isLt
  have e0 : ((((cfg0.win 6).blk t).view.emb y) 0 : ℕ) = t.val / 17 := by
    blk_simp [idx t]
  have e1 : ((((cfg0.win 6).blk t).view.emb y) 1 : ℕ) = y 1 := by
    blk_simp [idx t]
  have e2 : ((((cfg0.win 6).blk t).view.emb y) 2 : ℕ) = t.val % 17 * 256 + y 2 := by
    blk_simp [idx t]
  have e3 : ((((cfg0.win 6).blk t).view.emb y) 3 : ℕ) = y 3 := by
    blk_simp [idx t]
  generalize ((cfg0.win 6).blk t).view.emb y = p at e0 e1 e2 e3 ⊢
  blk_simp
  rw [after0_6]
  obtain ⟨h, r, d, rfl⟩ : ∃ (h : Fin 16) (r : Fin 256) (d : Fin 192), y = ix4 0 h r d := ⟨y 1, y 2, y 3, by
    funext a
    match a with
    | 0 => exact Fin.ext (show (y 0 : ℕ) = 0 by omega)
    | 1 => rfl
    | 2 => rfl
    | 3 => rfl⟩
  obtain rfl : p = ix4 (bat t) h (tok t r) d := by
    funext a
    match a with
    | 0 => exact Fin.ext e0
    | 1 => exact Fin.ext e1
    | 2 => exact Fin.ext e2
    | 3 => exact Fin.ext e3
  rw [block6]
  unfold bkey
  simp only [blat_eq, brope_eq, b3]
  rfl

/-- The values' array after the run. -/
theorem arr7 : (dats m 0 c).arrAt 7 cfg0.N = vals (a0 m c) (a1 m c) (a2 m c) := by
  refine (dats m 0 c).arrAt_eq_of_covers 7 _ (by decide +kernel) fun t hf y => ?_
  have y0 : (y 0 : ℕ) < 1 := (y 0).isLt
  have e0 : ((((cfg0.win 7).blk t).view.emb y) 0 : ℕ) = t.val / 17 := by
    blk_simp [idx t]
  have e1 : ((((cfg0.win 7).blk t).view.emb y) 1 : ℕ) = y 1 := by
    blk_simp [idx t]
  have e2 : ((((cfg0.win 7).blk t).view.emb y) 2 : ℕ) = t.val % 17 * 256 + y 2 := by
    blk_simp [idx t]
  have e3 : ((((cfg0.win 7).blk t).view.emb y) 3 : ℕ) = y 3 := by
    blk_simp [idx t]
  generalize ((cfg0.win 7).blk t).view.emb y = p at e0 e1 e2 e3 ⊢
  blk_simp
  rw [after0_7]
  obtain ⟨h, r, d, rfl⟩ : ∃ (h : Fin 16) (r : Fin 256) (d : Fin 256), y = ix4 0 h r d := ⟨y 1, y 2, y 3, by
    funext a
    match a with
    | 0 => exact Fin.ext (show (y 0 : ℕ) = 0 by omega)
    | 1 => rfl
    | 2 => rfl
    | 3 => rfl⟩
  obtain rfl : p = ix4 (bat t) h (tok t r) d := by
    funext a
    match a with
    | 0 => exact Fin.ext e0
    | 1 => exact Fin.ext e1
    | 2 => exact Fin.ext e2
    | 3 => exact Fin.ext e3
  rw [block7]
  unfold bval
  simp only [blat_eq, b3]
  rfl

end Kernel

section Reference

open Cert.Reference7Ideal Cert.Reference7Ideal.Gen

variable (p : FVec Ideal S2x4352x5120 .f32) (g : FVec Ideal S512 .f32) (w : FVec Ideal S512x4096 .f32) (cs sn : FVec Ideal S4352x64 .f32)

/-- The reference's latents after their norm. -/
def nRef : FVec Ideal S2x4352x512 .f32 :=
  mulf (mulf (extractStridedSlice S2x4352x512 ![0, 0, 4608] p slices_S2x4352x5120_S2x4352x512_0_0_4608) (broadcastInDim S2x4352x512 ![0, 1, 2] bcast_S2x4352x1_S2x4352x512_0_1_2 (Host.rsqrt (addf (Host.divf (broadcastInDim S2x4352x1 ![0, 1] bcast_S2x4352_S2x4352x1_0_1 (Host.reduceAdd (mulf (extractStridedSlice S2x4352x512 ![0, 0, 4608] p slices_S2x4352x5120_S2x4352x512_0_0_4608) (extractStridedSlice S2x4352x512 ![0, 0, 4608] p slices_S2x4352x5120_S2x4352x512_0_0_4608)) (constant S_ .f32 0x00000000#32) reducesTo_S2x4352x512_S2x4352_d2 h_S_)) (broadcastInDim S2x4352x1 ![] bcast_S_S2x4352x1 (constant S_ .f32 0x44000000#32))) (broadcastInDim S2x4352x1 ![] bcast_S_S2x4352x1 (constant S_ .f32 0x358637BD#32)))))) (broadcastInDim S2x4352x512 ![0, 1, 2] bcast_S1x1x512_S2x4352x512_0_1_2 (broadcastInDim S1x1x512 ![2] bcast_S512_S1x1x512_2 g))

theorem nRef_apply (b : Fin 2) (t : Fin 4352) (k : Fin 512) : nRef p g (ix3 b t k) = latents p g b t k := by
  pointwise [nRef]
  rfl

/-- The reference's projection, split into heads. -/
def kvRef (n : FVec Ideal S2x4352x512 .f32) : FVec Ideal S2x4352x16x256 .f32 :=
  shapeCast _ (Host.dotGeneral dot_S2x4352x512_S512x4096_S2x4352x4096_2_0_01_1_n_n none n w) shapeCasts_S2x4352x4096_S2x4352x16x256

theorem kvRef_apply (n : FVec Ideal S2x4352x512 .f32) (b : Fin 2) (t : Fin 4352) (h : Fin 16) (d : Fin 256) :
    kvRef w n (ix4 b t h d) = ∑ k, n (ix3 b t k) * wh w h k d := by
  pointwise [kvRef]
  rfl

/-- The reference's rotated key entries. -/
def eRef : FVec Ideal S2x4352x64 .f32 :=
  addf (mulf (extractStridedSlice S2x4352x64 ![0, 0, 3712] p slices_S2x4352x5120_S2x4352x64_0_0_3712) (broadcastInDim S2x4352x64 ![0, 1, 2] bcast_S1x4352x64_S2x4352x64_0_1_2 (broadcastInDim S1x4352x64 ![1, 2] bcast_S4352x64_S1x4352x64_1_2 cs))) (mulf (extractStridedSlice S2x4352x64 ![0, 0, 3776] p slices_S2x4352x5120_S2x4352x64_0_0_3776) (broadcastInDim S2x4352x64 ![0, 1, 2] bcast_S1x4352x64_S2x4352x64_0_1_2 (broadcastInDim S1x4352x64 ![1, 2] bcast_S4352x64_S1x4352x64_1_2 sn)))

theorem eRef_apply (b : Fin 2) (t : Fin 4352) (d : Fin 64) : eRef p cs sn (ix3 b t d) = rope p cs sn b t d := by
  pointwise [eRef]
  rfl

/-- The reference's keys, from the projection and the rotated entries. -/
def kRef (y : FVec Ideal S2x4352x16x256 .f32) (e : FVec Ideal S2x4352x64 .f32) : FVec Ideal S2x16x4352x192 .bf16 :=
  truncf .bf16 (transpose S2x16x4352x192 [0, 2, 1, 3] (concatenate S2x4352x16x192 3 [⟨S2x4352x16x128, (extractStridedSlice S2x4352x16x128 ![0, 0, 0, 0] y slices_S2x4352x16x256_S2x4352x16x128_0_0_0_0)⟩, ⟨S2x4352x16x64, (broadcastInDim S2x4352x16x64 ![0, 1, 2, 3] bcast_S2x4352x1x64_S2x4352x16x64_0_1_2_3 (broadcastInDim S2x4352x1x64 ![0, 1, 3] bcast_S2x4352x64_S2x4352x1x64_0_1_3 e))⟩] concatenates_S2x4352x16x128_S2x4352x16x64_S2x4352x16x192_d3) transposes_S2x4352x16x192_S2x16x4352x192_0_2_1_3) bitsLt_bf16_f32

theorem kRef_apply (y : FVec Ideal S2x4352x16x256 .f32) (e : FVec Ideal S2x4352x64 .f32) (b : Fin 2) (h : Fin 16) (t : Fin 4352) (d : Fin 192) :
    kRef y e (ix4 b h t d) = if hd : d.val < 128 then y (ix4 b t h ⟨d.val, by omega⟩) else e (ix3 b t ⟨d.val - 128, by omega⟩) := by
  pointwise [kRef]

/-- The reference's values, from the projection. -/
def vRef (y : FVec Ideal S2x4352x16x256 .f32) : FVec Ideal S2x16x4352x256 .bf16 :=
  truncf .bf16 (transpose S2x16x4352x256 [0, 2, 1, 3] (concatenate S2x4352x16x256 3 [⟨S2x4352x16x128, (extractStridedSlice S2x4352x16x128 ![0, 0, 0, 128] y slices_S2x4352x16x256_S2x4352x16x128_0_0_0_128)⟩, ⟨S2x4352x16x128, (broadcastInDim S2x4352x16x128 ![] bcast_S_S2x4352x16x128 (constant S_ .f32 0x3F800000#32))⟩] concatenates_S2x4352x16x128_S2x4352x16x128_S2x4352x16x256_d3) transposes_S2x4352x16x256_S2x16x4352x256_0_2_1_3) bitsLt_bf16_f32

theorem vRef_apply (y : FVec Ideal S2x4352x16x256 .f32) (b : Fin 2) (h : Fin 16) (t : Fin 4352) (d : Fin 256) :
    vRef y (ix4 b h t d) = if hd : d.val < 128 then y (ix4 b t h ⟨128 + d.val, by omega⟩) else 1 := by
  pointwise [vRef]

theorem k_eq : kRef (kvRef w (nRef p g)) (eRef p cs sn) = keys p g w cs sn := by
  funext j
  obtain ⟨b, h, t, d, rfl⟩ : ∃ b h t d, j = ix4 b h t d := ⟨j 0, j 1, j 2, j 3, (ix4_eta j).symm⟩
  rw [kRef_apply]
  simp only [kvRef_apply, nRef_apply, eRef_apply]
  rfl

theorem v_eq : vRef (kvRef w (nRef p g)) = vals p g w := by
  funext j
  obtain ⟨b, h, t, d, rfl⟩ : ∃ b h t d, j = ix4 b h t d := ⟨j 0, j 1, j 2, j 3, (ix4_eta j).symm⟩
  rw [vRef_apply]
  simp only [kvRef_apply, nRef_apply]
  rfl

end Reference

end Cert.KvProj

end
-- ==== Proof.QSpec.lean ====
/- The query projection: what its array holds, and the reference's term. -/
module

public import proofs.«01_k».proof.Proof.Gen.Kernel8Ideal.Value
public import proofs.«01_k».proof.Proof.Gen.Reference8Ideal.Run
public import Idealize.ShloMosaic.Lib.Pipeline.ValueKit
public import Idealize.ShloMosaic.Lib.Claim

@[expose] public section

set_option maxRecDepth 16384

noncomputable section

namespace Cert.QProj

open Idealize.ShloMosaic Idealize.ShloMosaic.Pointwise

/-- A row of latents divided by its root mean square, times the gain, at column `k`. -/
def lat (f g : Fin 512 → EReal) (k : Fin 512) : EReal :=
  f k * Ideal.rsqrt (Ideal.div (∑ l, f l * f l) (Ideal.ofBits .f32 0x44000000#32) + Ideal.ofBits .f32 0x358637BD#32) * g k

/-- The rotation's partner of 64 entries: each half's second quarter negated, then its first. -/
def par (y : Fin 64 → EReal) (d : Fin 64) : EReal :=
  if h0 : d.val < 16 then -y ⟨16 + d.val, by omega⟩
  else if h1 : d.val - 16 < 16 then y ⟨d.val - 16, by omega⟩
  else if h2 : d.val - 16 - 16 < 16 then -y ⟨48 + (d.val - 16 - 16), by omega⟩
  else y ⟨32 + (d.val - 16 - 16 - 16), by omega⟩

/-- A head's weights with the partner columns laid after its 192. -/
def pack (w : Fin 512 → Fin 192 → EReal) (k : Fin 512) (n : Fin 256) : EReal :=
  if h : n.val < 192 then w k ⟨n.val, by omega⟩ else par (fun e => w k ⟨128 + e.val, by omega⟩) ⟨n.val - 192, by omega⟩

/-- A query as the kernel computes it: the partner entries are products with the packed weights' last columns. -/
def qent (n : Fin 512 → EReal) (w : Fin 512 → Fin 256 → EReal) (c s : Fin 64 → EReal) (d : Fin 192) : EReal :=
  (if h : d.val < 128 then ∑ k, n k * w k ⟨d.val, by omega⟩
    else (∑ k, n k * w k ⟨128 + (d.val - 128), by omega⟩) * c ⟨d.val - 128, by omega⟩
      + (∑ k, n k * w k ⟨192 + (d.val - 128), by omega⟩) * s ⟨d.val - 128, by omega⟩) * Ideal.ofBits .f32 0x3DD53B95#32

/-- A query as the reference computes it: from a head's 192 entries `a`, the last 64 of them `z`. -/
def qref (a : Fin 192 → EReal) (z c s : Fin 64 → EReal) (d : Fin 192) : EReal :=
  (if h : d.val < 128 then a ⟨d.val, by omega⟩
    else z ⟨d.val - 128, by omega⟩ * c ⟨d.val - 128, by omega⟩ + par z ⟨d.val - 128, by omega⟩ * s ⟨d.val - 128, by omega⟩)
    * Ideal.ofBits .f32 0x3DD53B95#32

theorem coe_sum {ι : Type*} (s : Finset ι) (f : ι → ℝ) : ((∑ j ∈ s, f j : ℝ) : EReal) = ∑ j ∈ s, (f j : EReal) :=
  map_sum (⟨⟨fun x : ℝ => (x : EReal), rfl⟩, EReal.coe_add⟩ : ℝ →+ EReal) f s

theorem sum_neg_real (n w : Fin 512 → EReal) (hn : ∀ k, ∃ r : ℝ, n k = r) (hw : ∀ k, ∃ r : ℝ, w k = r) :
    ∑ k, n k * -w k = -∑ k, n k * w k := by
  choose a ha using hn
  choose b hb using hw
  simp only [ha, hb, ← EReal.coe_neg, ← EReal.coe_mul, ← coe_sum, mul_neg, Finset.sum_neg_distrib]

theorem par_sum (n : Fin 512 → EReal) (w : Fin 512 → Fin 64 → EReal) (hn : ∀ k, ∃ r : ℝ, n k = r) (hw : ∀ k e, ∃ r : ℝ, w k e = r) (e : Fin 64) :
    ∑ k, n k * par (w k) e = par (fun e => ∑ k, n k * w k e) e := by
  unfold par
  split_ifs
  · exact sum_neg_real _ _ hn fun k => hw k _
  · rfl
  · exact sum_neg_real _ _ hn fun k => hw k _
  · rfl

/-- On reals the two agree: the products with negated weights sum to the negated sum. -/
theorem qent_eq (n : Fin 512 → EReal) (w : Fin 512 → Fin 192 → EReal) (c s : Fin 64 → EReal) (hn : ∀ k, ∃ r : ℝ, n k = r)
    (hw : ∀ k d, ∃ r : ℝ, w k d = r) (d : Fin 192) :
    qent n (pack w) c s d = qref (fun d => ∑ k, n k * w k d) (fun e => ∑ k, n k * w k ⟨128 + e.val, by omega⟩) c s d := by
  have hd := d.isLt
  unfold qent qref
  congr 1
  by_cases h : d.val < 128
  · rw [dif_pos h, dif_pos h]
    refine Finset.sum_congr rfl fun k _ => ?_
    unfold pack
    rw [dif_pos (show d.val < 192 by omega)]
  · rw [dif_neg h, dif_neg h, ← par_sum n (fun k e => w k ⟨128 + e.val, by omega⟩) hn (fun k e => hw k _)]
    congr 2
    · refine Finset.sum_congr rfl fun k _ => ?_
      unfold pack
      rw [dif_pos (show 128 + (d.val - 128) < 192 by omega)]
    · refine Finset.sum_congr rfl fun k _ => ?_
      unfold pack
      rw [dif_neg (show ¬192 + (d.val - 128) < 192 by omega)]
      refine congrArg (fun z => n k * par _ z) (Fin.ext ?_)
      show 192 + (d.val - 128) - 192 = d.val - 128
      omega

theorem width : Ideal.ofBits .f32 0x44000000#32 = ((512 : ℝ) : EReal) := by
  simp [Ideal.ofBits, Ideal.ieee]
  rw [← EReal.coe_mul]
  norm_num

theorem small : Ideal.ofBits .f32 0x358637BD#32 = ((8796093 / 8796093022208 : ℝ) : EReal) := by
  simp [Ideal.ofBits, Ideal.ieee]
  rw [← EReal.coe_mul]
  norm_num

theorem square_nonneg (x : EReal) : 0 ≤ x * x := by
  induction x with
  | bot => rw [EReal.bot_mul_bot]; exact le_top
  | coe x => rw [← EReal.coe_mul]; exact EReal.coe_nonneg.2 (mul_self_nonneg x)
  | top => rw [EReal.top_mul_top]; exact le_top

theorem square_top (x : EReal) (hx : ¬∃ r : ℝ, x = r) : x * x = ⊤ := by
  induction x with
  | bot => exact EReal.bot_mul_bot
  | coe x => exact absurd ⟨x, rfl⟩ hx
  | top => exact EReal.top_mul_top

/-- The normed latents are reals whatever the latents are: a row with an infinite entry is divided by infinity, to zeros. -/
theorem lat_real (f g : Fin 512 → EReal) (hg : ∀ k, ∃ r : ℝ, g k = r) (k : Fin 512) : ∃ r : ℝ, lat f g k = r := by
  by_cases hf : ∀ k, ∃ r : ℝ, f k = r
  · choose a ha using hf
    choose b hb using hg
    have hs : 0 ≤ ∑ l, a l * a l := Finset.sum_nonneg fun l _ => mul_self_nonneg _
    have hp : 0 < (∑ l, a l * a l) * (1 / 512) + 8796093 / 8796093022208 := by positivity
    unfold lat
    simp only [ha, hb, width, small, ← EReal.coe_mul, ← coe_sum]
    rw [Ideal.div_coe (by norm_num), ← EReal.coe_mul, ← EReal.coe_add, Ideal.rsqrt_coe, if_neg hp.not_gt, if_neg hp.ne', ← EReal.coe_mul, ← EReal.coe_mul]
    exact ⟨_, rfl⟩
  · obtain ⟨l, hl⟩ := not_forall.1 hf
    have ht : ∑ l, f l * f l = ⊤ := top_le_iff.1 ((square_top _ hl).symm.le.trans
      (Finset.single_le_sum (f := fun l => f l * f l) (fun i _ => square_nonneg (f i)) (Finset.mem_univ l)))
    unfold lat
    rw [ht, width, small, Ideal.div_coe (by norm_num), EReal.top_mul_coe_of_pos (by norm_num), EReal.top_add_coe, Ideal.rsqrt_top, mul_zero, zero_mul]
    exact ⟨0, rfl⟩

section Spec

open Cert.Kernel8Ideal

variable (p : Vec Ideal S2x4352x5120 .f32) (g : Vec Ideal S512 .f32) (w : Vec Ideal S512x3072 .f32) (cs sn : Vec Ideal S4096x64 .f32)

/-- A token's latents after their norm. -/
def latents (b : Fin 2) (t : Fin 4096) : Fin 512 → EReal := lat (fun k => p (ix3 b ⟨t.val, by omega⟩ ⟨4096 + k.val, by omega⟩)) fun k => g (ix1 k)

/-- A head's weights. -/
def wh (h : Fin 16) (k : Fin 512) (d : Fin 192) : EReal := w (ix2 k ⟨h.val * 192 + d.val, by omega⟩)

/-- The queries. -/
def queries : Vec Ideal S2x16x4096x192 .bf16 := fun i =>
  qref (fun d => ∑ k, latents p g (i 0) (i 2) k * wh w (i 1) k d) (fun e => ∑ k, latents p g (i 0) (i 2) k * wh w (i 1) k ⟨128 + e.val, by omega⟩)
    (fun e => cs (ix2 (i 2) e)) (fun e => sn (ix2 (i 2) e)) (i 3)

end Spec

section Reference

open Cert.Reference8Ideal Cert.Reference8Ideal.Gen

variable (p : FVec Ideal S2x4352x5120 .f32) (g : FVec Ideal S512 .f32) (w : FVec Ideal S512x3072 .f32) (cs sn : FVec Ideal S4096x64 .f32)

/-- The reference's latents after their norm. -/
def nRef : FVec Ideal S2x4096x512 .f32 :=
  mulf (mulf (extractStridedSlice S2x4096x512 ![0, 0, 4096] p slices_S2x4352x5120_S2x4096x512_0_0_4096) (broadcastInDim S2x4096x512 ![0, 1, 2] bcast_S2x4096x1_S2x4096x512_0_1_2 (Host.rsqrt (addf (Host.divf (broadcastInDim S2x4096x1 ![0, 1] bcast_S2x4096_S2x4096x1_0_1 (Host.reduceAdd (mulf (extractStridedSlice S2x4096x512 ![0, 0, 4096] p slices_S2x4352x5120_S2x4096x512_0_0_4096) (extractStridedSlice S2x4096x512 ![0, 0, 4096] p slices_S2x4352x5120_S2x4096x512_0_0_4096)) (constant S_ .f32 0x00000000#32) reducesTo_S2x4096x512_S2x4096_d2 h_S_)) (broadcastInDim S2x4096x1 ![] bcast_S_S2x4096x1 (constant S_ .f32 0x44000000#32))) (broadcastInDim S2x4096x1 ![] bcast_S_S2x4096x1 (constant S_ .f32 0x358637BD#32)))))) (broadcastInDim S2x4096x512 ![0, 1, 2] bcast_S1x1x512_S2x4096x512_0_1_2 (broadcastInDim S1x1x512 ![2] bcast_S512_S1x1x512_2 g))

theorem nRef_apply (b : Fin 2) (t : Fin 4096) (k : Fin 512) : nRef p g (ix3 b t k) = latents p g b t k := by
  pointwise [nRef]
  rfl

/-- The reference's projection, split into heads. -/
def yRef (n : FVec Ideal S2x4096x512 .f32) : FVec Ideal S2x4096x16x192 .f32 :=
  shapeCast _ (Host.dotGeneral dot_S2x4096x512_S512x3072_S2x4096x3072_2_0_01_1_n_n none n w) shapeCasts_S2x4096x3072_S2x4096x16x192

theorem yRef_apply (n : FVec Ideal S2x4096x512 .f32) (b : Fin 2) (t : Fin 4096) (h : Fin 16) (d : Fin 192) :
    yRef w n (ix4 b t h d) = ∑ k, n (ix3 b t k) * wh w h k d := by
  pointwise [yRef]
  rfl

/-- Each head's last 64 entries. -/
def zRef (y : FVec Ideal S2x4096x16x192 .f32) : FVec Ideal S2x4096x16x64 .f32 :=
  extractStridedSlice S2x4096x16x64 ![0, 0, 0, 128] y slices_S2x4096x16x192_S2x4096x16x64_0_0_0_128

theorem zRef_apply (y : FVec Ideal S2x4096x16x192 .f32) (b : Fin 2) (t : Fin 4096) (h : Fin 16) (e : Fin 64) :
    zRef y (ix4 b t h e) = y (ix4 b t h ⟨128 + e.val, by omega⟩) := by
  pointwise [zRef]

/-- The reference's queries, from the projection. -/
def qRef (y : FVec Ideal S2x4096x16x192 .f32) (z : FVec Ideal S2x4096x16x64 .f32) : FVec Ideal S2x16x4096x192 .bf16 :=
  truncf .bf16 (transpose S2x16x4096x192 [0, 2, 1, 3] (mulf (concatenate S2x4096x16x192 3 [⟨S2x4096x16x128, (extractStridedSlice S2x4096x16x128 ![0, 0, 0, 0] y slices_S2x4096x16x192_S2x4096x16x128_0_0_0_0)⟩, ⟨S2x4096x16x64, (addf (mulf z (broadcastInDim S2x4096x16x64 ![0, 1, 2, 3] bcast_S1x4096x1x64_S2x4096x16x64_0_1_2_3 (broadcastInDim S1x4096x1x64 ![1, 2, 3] bcast_S4096x1x64_S1x4096x1x64_1_2_3 (broadcastInDim S4096x1x64 ![0, 2] bcast_S4096x64_S4096x1x64_0_2 cs)))) (mulf ((concatenate S2x4096x16x64 3 [⟨S2x4096x16x16, ((Host.negf (extractStridedSlice S2x4096x16x16 ![0, 0, 0, 16] z slices_S2x4096x16x64_S2x4096x16x16_0_0_0_16)) : (⟨S2x4096x16x16, .f32⟩ : BufTy).Contents (Elt Ideal))⟩, ⟨S2x4096x16x16, ((extractStridedSlice S2x4096x16x16 ![0, 0, 0, 0] z slices_S2x4096x16x64_S2x4096x16x16_0_0_0_0) : (⟨S2x4096x16x16, .f32⟩ : BufTy).Contents (Elt Ideal))⟩, ⟨S2x4096x16x16, ((Host.negf (extractStridedSlice S2x4096x16x16 ![0, 0, 0, 48] z slices_S2x4096x16x64_S2x4096x16x16_0_0_0_48)) : (⟨S2x4096x16x16, .f32⟩ : BufTy).Contents (Elt Ideal))⟩, ⟨S2x4096x16x16, ((extractStridedSlice S2x4096x16x16 ![0, 0, 0, 32] z slices_S2x4096x16x64_S2x4096x16x16_0_0_0_32) : (⟨S2x4096x16x16, .f32⟩ : BufTy).Contents (Elt Ideal))⟩] concatenates_S2x4096x16x16_S2x4096x16x16_S2x4096x16x16_S2x4096x16x16_S2x4096x16x64_d3 : (⟨S2x4096x16x64, .f32⟩ : BufTy).Contents (Elt Ideal))) (broadcastInDim S2x4096x16x64 ![0, 1, 2, 3] bcast_S1x4096x1x64_S2x4096x16x64_0_1_2_3 (broadcastInDim S1x4096x1x64 ![1, 2, 3] bcast_S4096x1x64_S1x4096x1x64_1_2_3 (broadcastInDim S4096x1x64 ![0, 2] bcast_S4096x64_S4096x1x64_0_2 sn)))))⟩] concatenates_S2x4096x16x128_S2x4096x16x64_S2x4096x16x192_d3) (broadcastInDim S2x4096x16x192 ![] bcast_S_S2x4096x16x192 (constant S_ .f32 0x3DD53B95#32))) transposes_S2x4096x16x192_S2x16x4096x192_0_2_1_3) bitsLt_bf16_f32

theorem qRef_apply (y : FVec Ideal S2x4096x16x192 .f32) (z : FVec Ideal S2x4096x16x64 .f32) (b : Fin 2) (h : Fin 16) (t : Fin 4096) (d : Fin 192) :
    qRef cs sn y z (ix4 b h t d)
      = qref (fun d => y (ix4 b t h d)) (fun e => z (ix4 b t h e)) (fun e => cs (ix2 t e)) (fun e => sn (ix2 t e)) d := by
  pointwise [qRef]
  rfl

theorem q_eq : qRef cs sn (yRef w (nRef p g)) (zRef (yRef w (nRef p g))) = queries p g w cs sn := by
  funext j
  obtain ⟨b, h, t, d, rfl⟩ : ∃ b h t d, j = ix4 b h t d := ⟨j 0, j 1, j 2, j 3, (ix4_eta j).symm⟩
  rw [qRef_apply]
  simp only [zRef_apply, yRef_apply, nRef_apply]
  rfl

end Reference

end Cert.QProj

end
-- ==== Proof.QProj.lean ====
/- The query projection: the kernel's array after its run. -/
module

public import proofs.«01_k».proof.Proof.QSpec
public import Idealize.ShloMosaic.Lib.Pipeline.ReadBack

@[expose] public section

set_option maxRecDepth 16384

noncomputable section

namespace Cert.QProj

open Idealize.ShloMosaic Idealize.ShloMosaic.Pointwise
open Cert.Kernel8Ideal Cert.Kernel8Ideal.Gen

section Block

variable (x0 : Vec Ideal S1x1024x512 .f32) (x1 : Vec Ideal S1x512 .f32) (x2 : Vec Ideal S16x512x256 .bf16) (x3 x4 : Vec Ideal S1024x64 .f32)

/-- The block's latents after their norm, at row `r`. -/
def blat (r : Fin 1024) : Fin 512 → EReal := lat (fun k => x0 (ix3 0 r k)) fun k => x1 (ix2 0 k)

/-- The block's queries of head `h` at row `r`, column `d`. -/
def bq (h : Fin 16) (r : Fin 1024) (d : Fin 192) : EReal :=
  qent (blat x0 x1 r) (fun k n => x2 (ix3 h k n)) (fun e => x3 (ix2 r e)) (fun e => x4 (ix2 r e)) d

theorem bq_at (h h' : Fin 16) (r r' : Fin 1024) (d d' : Fin 192) (eh : h.val = h'.val) (er : r.val = r'.val) (ed : d.val = d'.val) :
    bq x0 x1 x2 x3 x4 h r d = bq x0 x1 x2 x3 x4 h' r' d' := by
  obtain rfl := Fin.ext eh
  obtain rfl := Fin.ext er
  obtain rfl := Fin.ext ed
  rfl

theorem lat_apply (r : Fin 1024) (k : Fin 512) : k0_pay3 x0 x1 (ix2 r k) = blat x0 x1 r k := by
  pointwise [k0_pay3]
  rfl

theorem q_apply (n : FVec Ideal S1024x512 .bf16) (c s : Vec Ideal S1024x64 .f32) (u : Vec Ideal S1x512x256 .bf16) (r : Fin 1024) (d : Fin 192) :
    k0_pay2 n c s u (ix4 0 0 r d)
      = qent (fun k => n (ix2 r k)) (fun k n => u (ix3 0 k n)) (fun e => c (ix2 r e)) (fun e => s (ix2 r e)) d := by
  pointwise [k0_pay2]
  rfl

variable (c : Dev nD) (i : grid0.Coords) (arg2 : Memref sig .tc .vmem S1x1024x512 .f32) (harg2 : arg2.IsWhole)
  (arg3 : Memref sig .tc .vmem S1x512 .f32) (harg3 : arg3.IsWhole) (arg4 : Memref sig .tc .vmem S16x512x256 .bf16) (harg4 : arg4.IsWhole)
  (arg5 : Memref sig .tc .vmem S1024x64 .f32) (harg5 : arg5.IsWhole) (arg6 : Memref sig .tc .vmem S1024x64 .f32) (harg6 : arg6.IsWhole)
  (arg7 : Memref sig .tc .vmem S1x16x1024x192 .bf16) (harg7 : arg7.IsWhole)

theorem r_eq (r : Fin 1024) (k : Fin 512) : kernelRun0_A.sl.r c arg2 harg2 arg3 harg3 x0 x1 (ix2 r k) = blat x0 x1 r k := by
  unfold kernelRun0_A.sl.r
  rw [lat_apply]
  unfold blat
  simp (disch := decide) only [View.readAt_eq_ld, Memref.IsWhole.read_unread]
  pointwise []

theorem r1_eq (r : Fin 1024) (e : Fin 64) : kernelRun0_A.sl.r_1 c arg5 harg5 x3 (ix2 r e) = x3 (ix2 r e) := by
  unfold kernelRun0_A.sl.r_1
  simp (disch := decide) only [View.readAt_eq_ld, Memref.IsWhole.read_unread]
  pointwise []

theorem r2_eq (r : Fin 1024) (e : Fin 64) : kernelRun0_A.sl.r_2 c arg6 harg6 x4 (ix2 r e) = x4 (ix2 r e) := by
  unfold kernelRun0_A.sl.r_2
  simp (disch := decide) only [View.readAt_eq_ld, Memref.IsWhole.read_unread]
  pointwise []

theorem piece (h : Fin 16) (u : Vec Ideal S1x512x256 .bf16) (hu : ∀ k n, u (ix3 0 k n) = x2 (ix3 h k n)) (r : Fin 1024) (d : Fin 192) :
    k0_pay2 (kernelRun0_A.sl.r c arg2 harg2 arg3 harg3 x0 x1) (kernelRun0_A.sl.r_1 c arg5 harg5 x3) (kernelRun0_A.sl.r_2 c arg6 harg6 x4) u (ix4 0 0 r d)
      = bq x0 x1 x2 x3 x4 h r d := by
  rw [q_apply]
  simp only [r_eq, r1_eq, r2_eq, hu]
  rfl

theorem w0 (k : Fin 512) (n : Fin 256) :
    (View.readAt (Elt Ideal) arg4.view (Rect.unit (s := S16x512x256) ![0, 0, 0] S1x512x256.size inb_S16x512x256_S1x512x256_0_0_0).toLoadRect (harg4.unread x2) : Vec Ideal S1x512x256 .bf16) (ix3 0 k n)
      = x2 (ix3 0 k n) := by
  simp (disch := decide) only [View.readAt_eq_ld, Memref.IsWhole.read_unread]
  pointwise []

theorem w1 (k : Fin 512) (n : Fin 256) :
    (View.readAt (Elt Ideal) arg4.view (Rect.unit (s := S16x512x256) ![1, 0, 0] S1x512x256.size inb_S16x512x256_S1x512x256_1_0_0).toLoadRect (harg4.unread x2) : Vec Ideal S1x512x256 .bf16) (ix3 0 k n)
      = x2 (ix3 1 k n) := by
  simp (disch := decide) only [View.readAt_eq_ld, Memref.IsWhole.read_unread]
  pointwise []

theorem w2 (k : Fin 512) (n : Fin 256) :
    (View.readAt (Elt Ideal) arg4.view (Rect.unit (s := S16x512x256) ![2, 0, 0] S1x512x256.size inb_S16x512x256_S1x512x256_2_0_0).toLoadRect (harg4.unread x2) : Vec Ideal S1x512x256 .bf16) (ix3 0 k n)
      = x2 (ix3 2 k n) := by
  simp (disch := decide) only [View.readAt_eq_ld, Memref.IsWhole.read_unread]
  pointwise []

theorem w3 (k : Fin 512) (n : Fin 256) :
    (View.readAt (Elt Ideal) arg4.view (Rect.unit (s := S16x512x256) ![3, 0, 0] S1x512x256.size inb_S16x512x256_S1x512x256_3_0_0).toLoadRect (harg4.unread x2) : Vec Ideal S1x512x256 .bf16) (ix3 0 k n)
      = x2 (ix3 3 k n) := by
  simp (disch := decide) only [View.readAt_eq_ld, Memref.IsWhole.read_unread]
  pointwise []

theorem w4 (k : Fin 512) (n : Fin 256) :
    (View.readAt (Elt Ideal) arg4.view (Rect.unit (s := S16x512x256) ![4, 0, 0] S1x512x256.size inb_S16x512x256_S1x512x256_4_0_0).toLoadRect (harg4.unread x2) : Vec Ideal S1x512x256 .bf16) (ix3 0 k n)
      = x2 (ix3 4 k n) := by
  simp (disch := decide) only [View.readAt_eq_ld, Memref.IsWhole.read_unread]
  pointwise []

theorem w5 (k : Fin 512) (n : Fin 256) :
    (View.readAt (Elt Ideal) arg4.view (Rect.unit (s := S16x512x256) ![5, 0, 0] S1x512x256.size inb_S16x512x256_S1x512x256_5_0_0).toLoadRect (harg4.unread x2) : Vec Ideal S1x512x256 .bf16) (ix3 0 k n)
      = x2 (ix3 5 k n) := by
  simp (disch := decide) only [View.readAt_eq_ld, Memref.IsWhole.read_unread]
  pointwise []

theorem w6 (k : Fin 512) (n : Fin 256) :
    (View.readAt (Elt Ideal) arg4.view (Rect.unit (s := S16x512x256) ![6, 0, 0] S1x512x256.size inb_S16x512x256_S1x512x256_6_0_0).toLoadRect (harg4.unread x2) : Vec Ideal S1x512x256 .bf16) (ix3 0 k n)
      = x2 (ix3 6 k n) := by
  simp (disch := decide) only [View.readAt_eq_ld, Memref.IsWhole.read_unread]
  pointwise []

theorem w7 (k : Fin 512) (n : Fin 256) :
    (View.readAt (Elt Ideal) arg4.view (Rect.unit (s := S16x512x256) ![7, 0, 0] S1x512x256.size inb_S16x512x256_S1x512x256_7_0_0).toLoadRect (harg4.unread x2) : Vec Ideal S1x512x256 .bf16) (ix3 0 k n)
      = x2 (ix3 7 k n) := by
  simp (disch := decide) only [View.readAt_eq_ld, Memref.IsWhole.read_unread]
  pointwise []

theorem w8 (k : Fin 512) (n : Fin 256) :
    (View.readAt (Elt Ideal) arg4.view (Rect.unit (s := S16x512x256) ![8, 0, 0] S1x512x256.size inb_S16x512x256_S1x512x256_8_0_0).toLoadRect (harg4.unread x2) : Vec Ideal S1x512x256 .bf16) (ix3 0 k n)
      = x2 (ix3 8 k n) := by
  simp (disch := decide) only [View.readAt_eq_ld, Memref.IsWhole.read_unread]
  pointwise []

theorem w9 (k : Fin 512) (n : Fin 256) :
    (View.readAt (Elt Ideal) arg4.view (Rect.unit (s := S16x512x256) ![9, 0, 0] S1x512x256.size inb_S16x512x256_S1x512x256_9_0_0).toLoadRect (harg4.unread x2) : Vec Ideal S1x512x256 .bf16) (ix3 0 k n)
      = x2 (ix3 9 k n) := by
  simp (disch := decide) only [View.readAt_eq_ld, Memref.IsWhole.read_unread]
  pointwise []

theorem w10 (k : Fin 512) (n : Fin 256) :
    (View.readAt (Elt Ideal) arg4.view (Rect.unit (s := S16x512x256) ![10, 0, 0] S1x512x256.size inb_S16x512x256_S1x512x256_10_0_0).toLoadRect (harg4.unread x2) : Vec Ideal S1x512x256 .bf16) (ix3 0 k n)
      = x2 (ix3 10 k n) := by
  simp (disch := decide) only [View.readAt_eq_ld, Memref.IsWhole.read_unread]
  pointwise []

theorem w11 (k : Fin 512) (n : Fin 256) :
    (View.readAt (Elt Ideal) arg4.view (Rect.unit (s := S16x512x256) ![11, 0, 0] S1x512x256.size inb_S16x512x256_S1x512x256_11_0_0).toLoadRect (harg4.unread x2) : Vec Ideal S1x512x256 .bf16) (ix3 0 k n)
      = x2 (ix3 11 k n) := by
  simp (disch := decide) only [View.readAt_eq_ld, Memref.IsWhole.read_unread]
  pointwise []

theorem w12 (k : Fin 512) (n : Fin 256) :
    (View.readAt (Elt Ideal) arg4.view (Rect.unit (s := S16x512x256) ![12, 0, 0] S1x512x256.size inb_S16x512x256_S1x512x256_12_0_0).toLoadRect (harg4.unread x2) : Vec Ideal S1x512x256 .bf16) (ix3 0 k n)
      = x2 (ix3 12 k n) := by
  simp (disch := decide) only [View.readAt_eq_ld, Memref.IsWhole.read_unread]
  pointwise []

theorem w13 (k : Fin 512) (n : Fin 256) :
    (View.readAt (Elt Ideal) arg4.view (Rect.unit (s := S16x512x256) ![13, 0, 0] S1x512x256.size inb_S16x512x256_S1x512x256_13_0_0).toLoadRect (harg4.unread x2) : Vec Ideal S1x512x256 .bf16) (ix3 0 k n)
      = x2 (ix3 13 k n) := by
  simp (disch := decide) only [View.readAt_eq_ld, Memref.IsWhole.read_unread]
  pointwise []

theorem w14 (k : Fin 512) (n : Fin 256) :
    (View.readAt (Elt Ideal) arg4.view (Rect.unit (s := S16x512x256) ![14, 0, 0] S1x512x256.size inb_S16x512x256_S1x512x256_14_0_0).toLoadRect (harg4.unread x2) : Vec Ideal S1x512x256 .bf16) (ix3 0 k n)
      = x2 (ix3 14 k n) := by
  simp (disch := decide) only [View.readAt_eq_ld, Memref.IsWhole.read_unread]
  pointwise []

theorem w15 (k : Fin 512) (n : Fin 256) :
    (View.readAt (Elt Ideal) arg4.view (Rect.unit (s := S16x512x256) ![15, 0, 0] S1x512x256.size inb_S16x512x256_S1x512x256_15_0_0).toLoadRect (harg4.unread x2) : Vec Ideal S1x512x256 .bf16) (ix3 0 k n)
      = x2 (ix3 15 k n) := by
  simp (disch := decide) only [View.readAt_eq_ld, Memref.IsWhole.read_unread]
  pointwise []

theorem block (h : Fin 16) (r : Fin 1024) (d : Fin 192) :
    out0_A_5 c i arg2 harg2 arg3 harg3 arg4 harg4 arg5 harg5 arg6 harg6 arg7 harg7 x0 x1 x2 x3 x4 (ix4 0 h r d) = bq x0 x1 x2 x3 x4 h r d := by
  have hc := cover0_A_5 c i arg2 harg2 arg3 harg3 arg4 harg4 arg5 harg5 arg6 harg6 arg7 harg7 x0 x1 x2 x3 x4
  unfold out0_A_5
  rw [View.read_writes_junk_apply_eq_canon]
  refine View.canon_apply_of_pieces (Val := Elt Ideal) (fun y => bq x0 x1 x2 x3 x4 (y 1) (y 2) (y 3) : Vec Ideal S1x16x1024x192 .bf16) _ ?_ _ (hc _)
  unfold kernelRun0_A
  dsimp only
  intro p hp
  simp only [List.mem_cons, List.not_mem_nil, or_false] at hp
  rcases hp with rfl | rfl | rfl | rfl | rfl | rfl | rfl | rfl | rfl | rfl | rfl | rfl | rfl | rfl | rfl | rfl
  all_goals
    intro (j : S1x1x1024x192.Idx)
    have j0 : (j 0 : ℕ) < 1 := (j 0).isLt
    have j1 : (j 1 : ℕ) < 1 := (j 1).isLt
    obtain ⟨r, d, rfl⟩ : ∃ (r : Fin 1024) (d : Fin 192), j = ix4 0 0 r d := ⟨j 2, j 3, by
      funext a
      match a with
      | 0 => exact Fin.ext (show (j 0 : ℕ) = 0 by omega)
      | 1 => exact Fin.ext (show (j 1 : ℕ) = 0 by omega)
      | 2 => rfl
      | 3 => rfl⟩
    dsimp only
  · refine (piece x0 x1 x2 x3 x4 c arg2 harg2 arg3 harg3 arg5 harg5 arg6 harg6 15 _ (w15 x2 arg4 harg4) r d).trans (bq_at x0 x1 x2 x3 x4 _ _ _ _ _ _ rfl ?_ ?_)
    · show r.val = 0 + 1 * r.val
      omega
    · show d.val = 0 + 1 * d.val
      omega
  · refine (piece x0 x1 x2 x3 x4 c arg2 harg2 arg3 harg3 arg5 harg5 arg6 harg6 14 _ (w14 x2 arg4 harg4) r d).trans (bq_at x0 x1 x2 x3 x4 _ _ _ _ _ _ rfl ?_ ?_)
    · show r.val = 0 + 1 * r.val
      omega
    · show d.val = 0 + 1 * d.val
      omega
  · refine (piece x0 x1 x2 x3 x4 c arg2 harg2 arg3 harg3 arg5 harg5 arg6 harg6 13 _ (w13 x2 arg4 harg4) r d).trans (bq_at x0 x1 x2 x3 x4 _ _ _ _ _ _ rfl ?_ ?_)
    · show r.val = 0 + 1 * r.val
      omega
    · show d.val = 0 + 1 * d.val
      omega
  · refine (piece x0 x1 x2 x3 x4 c arg2 harg2 arg3 harg3 arg5 harg5 arg6 harg6 12 _ (w12 x2 arg4 harg4) r d).trans (bq_at x0 x1 x2 x3 x4 _ _ _ _ _ _ rfl ?_ ?_)
    · show r.val = 0 + 1 * r.val
      omega
    · show d.val = 0 + 1 * d.val
      omega
  · refine (piece x0 x1 x2 x3 x4 c arg2 harg2 arg3 harg3 arg5 harg5 arg6 harg6 11 _ (w11 x2 arg4 harg4) r d).trans (bq_at x0 x1 x2 x3 x4 _ _ _ _ _ _ rfl ?_ ?_)
    · show r.val = 0 + 1 * r.val
      omega
    · show d.val = 0 + 1 * d.val
      omega
  · refine (piece x0 x1 x2 x3 x4 c arg2 harg2 arg3 harg3 arg5 harg5 arg6 harg6 10 _ (w10 x2 arg4 harg4) r d).trans (bq_at x0 x1 x2 x3 x4 _ _ _ _ _ _ rfl ?_ ?_)
    · show r.val = 0 + 1 * r.val
      omega
    · show d.val = 0 + 1 * d.val
      omega
  · refine (piece x0 x1 x2 x3 x4 c arg2 harg2 arg3 harg3 arg5 harg5 arg6 harg6 9 _ (w9 x2 arg4 harg4) r d).trans (bq_at x0 x1 x2 x3 x4 _ _ _ _ _ _ rfl ?_ ?_)
    · show r.val = 0 + 1 * r.val
      omega
    · show d.val = 0 + 1 * d.val
      omega
  · refine (piece x0 x1 x2 x3 x4 c arg2 harg2 arg3 harg3 arg5 harg5 arg6 harg6 8 _ (w8 x2 arg4 harg4) r d).trans (bq_at x0 x1 x2 x3 x4 _ _ _ _ _ _ rfl ?_ ?_)
    · show r.val = 0 + 1 * r.val
      omega
    · show d.val = 0 + 1 * d.val
      omega
  · refine (piece x0 x1 x2 x3 x4 c arg2 harg2 arg3 harg3 arg5 harg5 arg6 harg6 7 _ (w7 x2 arg4 harg4) r d).trans (bq_at x0 x1 x2 x3 x4 _ _ _ _ _ _ rfl ?_ ?_)
    · show r.val = 0 + 1 * r.val
      omega
    · show d.val = 0 + 1 * d.val
      omega
  · refine (piece x0 x1 x2 x3 x4 c arg2 harg2 arg3 harg3 arg5 harg5 arg6 harg6 6 _ (w6 x2 arg4 harg4) r d).trans (bq_at x0 x1 x2 x3 x4 _ _ _ _ _ _ rfl ?_ ?_)
    · show r.val = 0 + 1 * r.val
      omega
    · show d.val = 0 + 1 * d.val
      omega
  · refine (piece x0 x1 x2 x3 x4 c arg2 harg2 arg3 harg3 arg5 harg5 arg6 harg6 5 _ (w5 x2 arg4 harg4) r d).trans (bq_at x0 x1 x2 x3 x4 _ _ _ _ _ _ rfl ?_ ?_)
    · show r.val = 0 + 1 * r.val
      omega
    · show d.val = 0 + 1 * d.val
      omega
  · refine (piece x0 x1 x2 x3 x4 c arg2 harg2 arg3 harg3 arg5 harg5 arg6 harg6 4 _ (w4 x2 arg4 harg4) r d).trans (bq_at x0 x1 x2 x3 x4 _ _ _ _ _ _ rfl ?_ ?_)
    · show r.val = 0 + 1 * r.val
      omega
    · show d.val = 0 + 1 * d.val
      omega
  · refine (piece x0 x1 x2 x3 x4 c arg2 harg2 arg3 harg3 arg5 harg5 arg6 harg6 3 _ (w3 x2 arg4 harg4) r d).trans (bq_at x0 x1 x2 x3 x4 _ _ _ _ _ _ rfl ?_ ?_)
    · show r.val = 0 + 1 * r.val
      omega
    · show d.val = 0 + 1 * d.val
      omega
  · refine (piece x0 x1 x2 x3 x4 c arg2 harg2 arg3 harg3 arg5 harg5 arg6 harg6 2 _ (w2 x2 arg4 harg4) r d).trans (bq_at x0 x1 x2 x3 x4 _ _ _ _ _ _ rfl ?_ ?_)
    · show r.val = 0 + 1 * r.val
      omega
    · show d.val = 0 + 1 * d.val
      omega
  · refine (piece x0 x1 x2 x3 x4 c arg2 harg2 arg3 harg3 arg5 harg5 arg6 harg6 1 _ (w1 x2 arg4 harg4) r d).trans (bq_at x0 x1 x2 x3 x4 _ _ _ _ _ _ rfl ?_ ?_)
    · show r.val = 0 + 1 * r.val
      omega
    · show d.val = 0 + 1 * d.val
      omega
  · refine (piece x0 x1 x2 x3 x4 c arg2 harg2 arg3 harg3 arg5 harg5 arg6 harg6 0 _ (w0 x2 arg4 harg4) r d).trans (bq_at x0 x1 x2 x3 x4 _ _ _ _ _ _ rfl ?_ ?_)
    · show r.val = 0 + 1 * r.val
      omega
    · show d.val = 0 + 1 * d.val
      omega

end Block

variable (m : (ℓ : Loc nD τ sig) → Buf (Elt Ideal) ℓ) (c : Dev nD)

theorem idx : ∀ t : Fin cfg0.N, win0_0.index t = ![t.val / 4, t.val % 4, 8] ∧ win0_1.index t = ![0, 0] ∧ win0_2.index t = ![0, 0, 0]
    ∧ win0_3.index t = ![t.val % 4, 0] ∧ win0_4.index t = ![t.val % 4, 0] ∧ win0_5.index t = ![t.val / 4, 0, t.val % 4, 0] := by decide +kernel

/-- The arguments of the call. -/
abbrev a0 : Vec Ideal S2x4352x5120 .f32 := m ((c.tc : Thread nD τ).loc main_arg0)
abbrev a1 : Vec Ideal S512 .f32 := m ((c.tc : Thread nD τ).loc main_arg1)
abbrev a2 : Vec Ideal S512x3072 .f32 := m ((c.tc : Thread nD τ).loc main_arg2)
abbrev a3 : Vec Ideal S4096x64 .f32 := m ((c.tc : Thread nD τ).loc main_arg3)
abbrev a4 : Vec Ideal S4096x64 .f32 := m ((c.tc : Thread nD τ).loc main_arg4)

theorem gain_v (k : Fin 512) : V m c main_v12 (ix2 0 k) = a1 m c (ix1 k) := by
  entry_read
  pointwise []

/-- The host's weights by head, and each head's last 64 columns. -/
def heads (w : FVec Ideal S512x3072 .f32) : FVec Ideal S512x16x192 .f32 := shapeCast _ w shapeCasts_S512x3072_S512x16x192
def last (y : FVec Ideal S512x16x192 .f32) : FVec Ideal S512x16x64 .f32 := extractStridedSlice S512x16x64 ![0, 0, 128] y slices_S512x16x192_S512x16x64_0_0_128

/-- The partner of those columns. -/
def partner (z : FVec Ideal S512x16x64 .f32) : FVec Ideal S512x16x64 .f32 :=
  concatenate S512x16x64 2 [⟨S512x16x16, Host.negf (extractStridedSlice S512x16x16 ![0, 0, 16] z slices_S512x16x64_S512x16x16_0_0_16)⟩,
    ⟨S512x16x16, extractStridedSlice S512x16x16 ![0, 0, 0] z slices_S512x16x64_S512x16x16_0_0_0⟩,
    ⟨S512x16x16, Host.negf (extractStridedSlice S512x16x16 ![0, 0, 48] z slices_S512x16x64_S512x16x16_0_0_48)⟩,
    ⟨S512x16x16, extractStridedSlice S512x16x16 ![0, 0, 32] z slices_S512x16x64_S512x16x16_0_0_32⟩]
    concatenates_S512x16x16_S512x16x16_S512x16x16_S512x16x16_S512x16x64_d2

/-- The packed weights. -/
def packed (y : FVec Ideal S512x16x192 .f32) (z : FVec Ideal S512x16x64 .f32) : FVec Ideal S16x512x256 .bf16 :=
  truncf .bf16 (transpose S16x512x256 [1, 0, 2] (concatenate S512x16x256 2 [⟨S512x16x192, y⟩, ⟨S512x16x64, z⟩]
    concatenates_S512x16x192_S512x16x64_S512x16x256_d2) transposes_S512x16x256_S16x512x256_1_0_2) bitsLt_bf16_f32

theorem heads_apply (w : FVec Ideal S512x3072 .f32) (k : Fin 512) (h : Fin 16) (d : Fin 192) : heads w (ix3 k h d) = wh w h k d := by
  pointwise [heads]
  rfl

theorem last_apply (y : FVec Ideal S512x16x192 .f32) (k : Fin 512) (h : Fin 16) (e : Fin 64) :
    last y (ix3 k h e) = y (ix3 k h ⟨128 + e.val, by omega⟩) := by
  pointwise [last]

theorem partner_apply (z : FVec Ideal S512x16x64 .f32) (k : Fin 512) (h : Fin 16) (e : Fin 64) :
    partner z (ix3 k h e) = par (fun e => z (ix3 k h e)) e := by
  pointwise [partner]
  rfl

theorem packed_apply (y : FVec Ideal S512x16x192 .f32) (z : FVec Ideal S512x16x64 .f32) (h : Fin 16) (k : Fin 512) (n : Fin 256) :
    packed y z (ix3 h k n) = if hn : n.val < 192 then y (ix3 k h ⟨n.val, by omega⟩) else z (ix3 k h ⟨n.val - 192, by omega⟩) := by
  pointwise [packed]

theorem w_term : V m c main_v11 = packed (heads (a2 m c)) (partner (last (heads (a2 m c)))) := by
  unfold V hostOps0
  simp only [List.flatten_cons, List.flatten_nil, List.append_nil, List.cons_append, List.nil_append]
  after_results_simp <;> rfl

theorem w_v (h : Fin 16) (k : Fin 512) (n : Fin 256) : V m c main_v11 (ix3 h k n) = pack (wh (a2 m c) h) k n := by
  rw [w_term, packed_apply]
  simp only [partner_apply, last_apply, heads_apply]
  rfl

theorem lt (t : Fin cfg0.N) : t.val < 8 := t.isLt

/-- The batch row and the token a point's block rows stand for. -/
def bat (t : Fin cfg0.N) : Fin 2 := ⟨t.val / 4, by have := lt t; omega⟩
def tok (t : Fin cfg0.N) (r : Fin 1024) : Fin 4096 := ⟨t.val % 4 * 1024 + r.val, by omega⟩

theorem b0 (t : Fin cfg0.N) (r : Fin 1024) (k : Fin 512) :
    X0_0 m c t (ix3 0 r k) = a0 m c (ix3 (bat t) ⟨(tok t r).val, by omega⟩ ⟨4096 + k.val, by omega⟩) := by
  have := lt t
  unfold X0_0 Pipeline.Window.fill
  rw [dif_pos (moved0_0 t _)]
  blk_ext [iblk, V, idx t, bat, tok]

theorem b1 (t : Fin cfg0.N) (k : Fin 512) : iblk m c 1 t (ix2 0 k) = a1 m c (ix1 k) := by
  rw [← gain_v]
  blk_ext [iblk, idx t]

theorem b2 (t : Fin cfg0.N) (h : Fin 16) (k : Fin 512) (n : Fin 256) : iblk m c 2 t (ix3 h k n) = pack (wh (a2 m c) h) k n := by
  rw [← w_v]
  blk_ext [iblk, idx t]

theorem b3 (t : Fin cfg0.N) (r : Fin 1024) (e : Fin 64) : iblk m c 3 t (ix2 r e) = a3 m c (ix2 (tok t r) e) := by
  have := lt t
  blk_ext [iblk, V, idx t, tok]

theorem b4 (t : Fin cfg0.N) (r : Fin 1024) (e : Fin 64) : iblk m c 4 t (ix2 r e) = a4 m c (ix2 (tok t r) e) := by
  have := lt t
  blk_ext [iblk, V, idx t, tok]

theorem blat_eq (t : Fin cfg0.N) (r : Fin 1024) : blat (X0_0 m c t) (iblk m c 1 t) r = latents (a0 m c) (a1 m c) (bat t) (tok t r) := by
  unfold blat latents
  simp only [b0, b1]

/-- The queries' array after the run, where the gain and the weights are reals. -/
theorem arr5 (h1 : ∀ j, ∃ r : ℝ, a1 m c j = (r : EReal)) (h2 : ∀ j, ∃ r : ℝ, a2 m c j = (r : EReal)) :
    (dats m 0 c).arrAt 5 cfg0.N = queries (a0 m c) (a1 m c) (a2 m c) (a3 m c) (a4 m c) := by
  refine (dats m 0 c).arrAt_eq_of_covers 5 _ (by decide +kernel) fun t hf y => ?_
  have y0 : (y 0 : ℕ) < 1 := (y 0).isLt
  have e0 : ((((cfg0.win 5).blk t).view.emb y) 0 : ℕ) = t.val / 4 := by
    blk_simp [idx t]
  have e1 : ((((cfg0.win 5).blk t).view.emb y) 1 : ℕ) = y 1 := by
    blk_simp [idx t]
  have e2 : ((((cfg0.win 5).blk t).view.emb y) 2 : ℕ) = t.val % 4 * 1024 + y 2 := by
    blk_simp [idx t]
  have e3 : ((((cfg0.win 5).blk t).view.emb y) 3 : ℕ) = y 3 := by
    blk_simp [idx t]
  generalize ((cfg0.win 5).blk t).view.emb y = p at e0 e1 e2 e3 ⊢
  blk_simp
  rw [after0_5]
  obtain ⟨h, r, d, rfl⟩ : ∃ (h : Fin 16) (r : Fin 1024) (d : Fin 192), y = ix4 0 h r d := ⟨y 1, y 2, y 3, by
    funext a
    match a with
    | 0 => exact Fin.ext (show (y 0 : ℕ) = 0 by omega)
    | 1 => rfl
    | 2 => rfl
    | 3 => rfl⟩
  obtain rfl : p = ix4 (bat t) h (tok t r) d := by
    funext a
    match a with
    | 0 => exact Fin.ext e0
    | 1 => exact Fin.ext e1
    | 2 => exact Fin.ext e2
    | 3 => exact Fin.ext e3
  unfold outsAt0
  refine (block _ _ _ _ _ _ _ _ _ _ _ _ _ _ _ _ _ _ _ h r d).trans ?_
  unfold bq
  simp only [blat_eq, b2, b3, b4]
  exact qent_eq _ _ _ _ (lat_real _ _ fun k => h1 _) (fun k d => h2 _) d

end Cert.QProj

end
-- ==== Proof.Heads.lean ====
/- The merge kernel's averages over a head: sums over 128 lanes against a matrix that holds 1/64 inside a head, as the mean over the
   head's 64 lanes. -/
module

public import proofs.«01_k».proof.Proof.Gen.Kernel6Ideal.Value
public import Idealize.ShloMosaic.Lib.Pipeline.ValueKit
public import Idealize.ShloMosaic.Lib.Claim

@[expose] public section

set_option maxRecDepth 16384

noncomputable section

namespace Cert.Merge

open Idealize.ShloMosaic Idealize.ShloMosaic.Pointwise

open Cert.Kernel6Ideal Cert.Kernel6Ideal.Gen

/-- The head a lane is in, as the host computes it: the lane's number over 64, rounded down. -/
def lanes : IVec S128 32 :=
  select (andi (cmpi .ne (signi (iotaInDim S128 32 0)) (broadcastInDim S128 ![] bcast_S_S128 (signi (constantI S_ 32 64#32))))
      (cmpi .ne (Host.remsi (iotaInDim S128 32 0) (broadcastInDim S128 ![] bcast_S_S128 (constantI S_ 32 64#32)))
        (broadcastInDim S128 ![] bcast_S_S128 (constantI S_ 32 0#32))))
    (subi (Host.divsi (iotaInDim S128 32 0) (broadcastInDim S128 ![] bcast_S_S128 (constantI S_ 32 64#32)))
      (broadcastInDim S128 ![] bcast_S_S128 (constantI S_ 32 1#32)))
    (Host.divsi (iotaInDim S128 32 0) (broadcastInDim S128 ![] bcast_S_S128 (constantI S_ 32 64#32)))

theorem lanes_apply (i : Fin 128) : lanes (ix1 i) = BitVec.ofNat 32 (i.val / 64) := by
  pointwise [lanes]
  revert i
  decide +kernel

theorem avg_term (m : (ℓ : Loc nD τ sig) → Buf (Elt Ideal) ℓ) (c : Dev nD) : V m c main_v9
    = mulf (uitofp .bf16 (cmpi .eq (broadcastInDim S128x128 ![0, 1] bcast_S128x1_S128x128_0_1 (broadcastInDim S128x1 ![0] bcast_S128_S128x1_0 lanes))
          (broadcastInDim S128x128 ![0, 1] bcast_S1x128_S128x128_0_1 (broadcastInDim S1x128 ![1] bcast_S128_S1x128_1 lanes))))
        (broadcastInDim S128x128 ![] bcast_S_S128x128 (constant S_ FTy.bf16 0x3C80#16) : FVec Ideal S128x128 .bf16) := by
  unfold V hostOps0 hostOps0_1 hostOps0_2
  simp only [List.flatten_cons, List.flatten_nil, List.append_nil, List.cons_append, List.nil_append]
  after_results_simp <;> rfl

theorem sixtyfourth : Ideal.ofBits .bf16 0x3C80#16 = ((1 / 64 : ℝ) : EReal) := by
  simp [Ideal.ofBits, Ideal.ieee]
  rw [← EReal.coe_mul]
  norm_num

theorem sixtyfour : Ideal.ofBits .f32 0x42800000#32 = ((64 : ℝ) : EReal) := by
  simp [Ideal.ofBits, Ideal.ieee]
  rw [← EReal.coe_mul]
  norm_num

/-- The matrix of a head's average. -/
def avg (i j : Fin 128) : EReal := if i.val / 64 = j.val / 64 then ((1 / 64 : ℝ) : EReal) else 0

theorem avg_apply (m : (ℓ : Loc nD τ sig) → Buf (Elt Ideal) ℓ) (c : Dev nD) (i j : Fin 128) : V m c main_v9 (ix2 i j) = avg i j := by
  rw [avg_term]
  pointwise []
  rw [lanes_apply, lanes_apply, sixtyfourth]
  unfold avg
  by_cases h : i.val / 64 = j.val / 64
  · rw [if_pos h, h]
    have : FloatOps.uitofp (F := Ideal) .bf16 (IntOp.cmpi CmpIPredicate.eq (BitVec.ofNat 32 (j.val / 64)) (BitVec.ofNat 32 (j.val / 64))) = (1 : EReal) := by
      simp [IntOp.cmpi, FloatOps.uitofp]
    rw [this, one_mul]
  · rw [if_neg h]
    have hne : BitVec.ofNat 32 (i.val / 64) ≠ BitVec.ofNat 32 (j.val / 64) := fun e => h (by
      have := congrArg BitVec.toNat e
      simp only [BitVec.toNat_ofNat] at this
      omega)
    have : FloatOps.uitofp (F := Ideal) .bf16 (IntOp.cmpi CmpIPredicate.eq (BitVec.ofNat 32 (i.val / 64)) (BitVec.ofNat 32 (j.val / 64))) = (0 : EReal) := by
      simp [IntOp.cmpi, FloatOps.uitofp, hne]
    rw [this, zero_mul]

/-- The mean over the head of lane `c`. -/
def hmean (f : Fin 1024 → EReal) (c : Fin 1024) : EReal :=
  Ideal.div (∑ k : Fin 64, f ⟨c.val / 64 * 64 + k.val, by omega⟩) (Ideal.ofBits .f32 0x42800000#32)

/-- The kernel's sum for lane `c`: over its block of 128 lanes against `A`, what rounding keeps and what it drops added separately. -/
def hsum (A : Fin 128 → Fin 128 → EReal) (f : Fin 1024 → EReal) (c : Fin 1024) : EReal :=
  ∑ k : Fin 128, f ⟨c.val / 128 * 128 + k.val, by omega⟩ * A k ⟨c.val % 128, by omega⟩
  + ∑ k : Fin 128, (f ⟨c.val / 128 * 128 + k.val, by omega⟩ - f ⟨c.val / 128 * 128 + k.val, by omega⟩) * A k ⟨c.val % 128, by omega⟩

theorem hsum_at (A : Fin 128 → Fin 128 → EReal) (f : Fin 1024 → EReal) (c : Fin 1024) (o n : ℕ) (ho : o + 127 < 1024) (hn : n < 128)
    (e1 : c.val / 128 * 128 = o) (e2 : c.val % 128 = n) : ∑ k : Fin 128, f ⟨o + k.val, by omega⟩ * A k ⟨n, hn⟩
      + ∑ k : Fin 128, (f ⟨o + k.val, by omega⟩ - f ⟨o + k.val, by omega⟩) * A k ⟨n, hn⟩ = hsum A f c := by
  subst e1 e2
  rfl

theorem hsum_at0 (A : Fin 128 → Fin 128 → EReal) (f : Fin 1024 → EReal) (c : Fin 1024) (hn : c.val < 128) :
    ∑ k : Fin 128, f ⟨k.val, by omega⟩ * A k ⟨c.val, hn⟩
      + ∑ k : Fin 128, (f ⟨k.val, by omega⟩ - f ⟨k.val, by omega⟩) * A k ⟨c.val, hn⟩ = hsum A f c := by
  rw [← hsum_at A f c 0 c.val (by omega) hn (by omega) (by omega)]
  simp only [Nat.zero_add]

/-- The eight blocks of lanes laid end to end. -/
theorem ladder (A : Fin 128 → Fin 128 → EReal) (f : Fin 1024 → EReal) (d : Fin 1024) :
    (if h0 : d.val < 128 then ∑ x : Fin 128, f ⟨x.val, by omega⟩ * A x ⟨d.val, by omega⟩ + ∑ x : Fin 128, (f ⟨x.val, by omega⟩ - f ⟨x.val, by omega⟩) * A x ⟨d.val, by omega⟩
      else
      if h1 : d.val - 128 < 128 then ∑ x : Fin 128, f ⟨128 + x.val, by omega⟩ * A x ⟨d.val - 128, by omega⟩ + ∑ x : Fin 128, (f ⟨128 + x.val, by omega⟩ - f ⟨128 + x.val, by omega⟩) * A x ⟨d.val - 128, by omega⟩
      else
      if h2 : d.val - 128 - 128 < 128 then ∑ x : Fin 128, f ⟨256 + x.val, by omega⟩ * A x ⟨d.val - 128 - 128, by omega⟩ + ∑ x : Fin 128, (f ⟨256 + x.val, by omega⟩ - f ⟨256 + x.val, by omega⟩) * A x ⟨d.val - 128 - 128, by omega⟩
      else
      if h3 : d.val - 128 - 128 - 128 < 128 then ∑ x : Fin 128, f ⟨384 + x.val, by omega⟩ * A x ⟨d.val - 128 - 128 - 128, by omega⟩ + ∑ x : Fin 128, (f ⟨384 + x.val, by omega⟩ - f ⟨384 + x.val, by omega⟩) * A x ⟨d.val - 128 - 128 - 128, by omega⟩
      else
      if h4 : d.val - 128 - 128 - 128 - 128 < 128 then ∑ x : Fin 128, f ⟨512 + x.val, by omega⟩ * A x ⟨d.val - 128 - 128 - 128 - 128, by omega⟩ + ∑ x : Fin 128, (f ⟨512 + x.val, by omega⟩ - f ⟨512 + x.val, by omega⟩) * A x ⟨d.val - 128 - 128 - 128 - 128, by omega⟩
      else
      if h5 : d.val - 128 - 128 - 128 - 128 - 128 < 128 then ∑ x : Fin 128, f ⟨640 + x.val, by omega⟩ * A x ⟨d.val - 128 - 128 - 128 - 128 - 128, by omega⟩ + ∑ x : Fin 128, (f ⟨640 + x.val, by omega⟩ - f ⟨640 + x.val, by omega⟩) * A x ⟨d.val - 128 - 128 - 128 - 128 - 128, by omega⟩
      else
      if h6 : d.val - 128 - 128 - 128 - 128 - 128 - 128 < 128 then ∑ x : Fin 128, f ⟨768 + x.val, by omega⟩ * A x ⟨d.val - 128 - 128 - 128 - 128 - 128 - 128, by omega⟩ + ∑ x : Fin 128, (f ⟨768 + x.val, by omega⟩ - f ⟨768 + x.val, by omega⟩) * A x ⟨d.val - 128 - 128 - 128 - 128 - 128 - 128, by omega⟩
      else ∑ x : Fin 128, f ⟨896 + x.val, by omega⟩ * A x ⟨d.val - 128 - 128 - 128 - 128 - 128 - 128 - 128, by omega⟩ + ∑ x : Fin 128, (f ⟨896 + x.val, by omega⟩ - f ⟨896 + x.val, by omega⟩) * A x ⟨d.val - 128 - 128 - 128 - 128 - 128 - 128 - 128, by omega⟩)
      = hsum A f d := by
  have hd := d.isLt
  split_ifs with h1 h2 h3 h4 h5 h6 h7
  · exact hsum_at0 A f d h1
  · exact hsum_at A f d 128 (d.val - 128) (by omega) h2 (by omega) (by omega)
  · exact hsum_at A f d 256 (d.val - 128 - 128) (by omega) h3 (by omega) (by omega)
  · exact hsum_at A f d 384 (d.val - 128 - 128 - 128) (by omega) h4 (by omega) (by omega)
  · exact hsum_at A f d 512 (d.val - 128 - 128 - 128 - 128) (by omega) h5 (by omega) (by omega)
  · exact hsum_at A f d 640 (d.val - 128 - 128 - 128 - 128 - 128) (by omega) h6 (by omega) (by omega)
  · exact hsum_at A f d 768 (d.val - 128 - 128 - 128 - 128 - 128 - 128) (by omega) h7 (by omega) (by omega)
  · exact hsum_at A f d 896 (d.val - 128 - 128 - 128 - 128 - 128 - 128 - 128) (by omega) (by omega) (by omega) (by omega)

theorem coe_sum {ι : Type*} (s : Finset ι) (f : ι → ℝ) : ((∑ j ∈ s, f j : ℝ) : EReal) = ∑ j ∈ s, (f j : EReal) :=
  map_sum (⟨⟨fun x : ℝ => (x : EReal), rfl⟩, EReal.coe_add⟩ : ℝ →+ EReal) f s

theorem hmean_real (g : Fin 1024 → ℝ) (c : Fin 1024) :
    hmean (fun d => (g d : EReal)) c = (((∑ k : Fin 64, g ⟨c.val / 64 * 64 + k.val, by omega⟩) * (1 / 64) : ℝ) : EReal) := by
  unfold hmean
  rw [sixtyfour, Ideal.div_coe (by norm_num), ← coe_sum, ← EReal.coe_mul]

theorem block_sum (g : Fin 1024 → ℝ) (c : Fin 1024) :
    ∑ k : Fin 128, g ⟨c.val / 128 * 128 + k.val, by omega⟩ * (if k.val / 64 = c.val % 128 / 64 then (1 / 64 : ℝ) else 0)
      = (∑ k : Fin 64, g ⟨c.val / 64 * 64 + k.val, by omega⟩) * (1 / 64) := by
  rw [Fin.sum_univ_two_halves 64 64 rfl, Finset.sum_mul]
  have a0 : ∀ k : Fin 64, k.val / 64 = 0 := fun k => by omega
  have a1 : ∀ k : Fin 64, (64 + k.val) / 64 = 1 := fun k => by omega
  simp only [a0, a1]
  have h : c.val % 128 / 64 = 0 ∨ c.val % 128 / 64 = 1 := by omega
  rcases h with h | h
  · have e : c.val / 64 * 64 = c.val / 128 * 128 := by omega
    simp only [h, e, if_pos, if_neg (by decide : ¬ (1 = 0)), mul_zero, Finset.sum_const_zero, add_zero]
  · have e : ∀ k, c.val / 64 * 64 + k = c.val / 128 * 128 + (64 + k) := by omega
    simp only [h, e, if_pos, if_neg (by decide : ¬ (0 = 1)), mul_zero, Finset.sum_const_zero, zero_add]

/-- On reals the kernel's sum is the head's mean. -/
theorem hsum_eq (g : Fin 1024 → ℝ) (c : Fin 1024) : hsum avg (fun d => (g d : EReal)) c = hmean (fun d => (g d : EReal)) c := by
  rw [hmean_real, ← block_sum]
  unfold hsum
  have e : ∀ k : Fin 128, avg k ⟨c.val % 128, by omega⟩ = ((if k.val / 64 = c.val % 128 / 64 then (1 / 64 : ℝ) else 0 : ℝ) : EReal) := fun k => by
    unfold avg
    split <;> rfl
  simp only [e, ← EReal.coe_sub, sub_self, EReal.coe_zero, zero_mul, Finset.sum_const_zero, add_zero, ← EReal.coe_mul, ← coe_sum]

/-- A row less its heads' means. -/
def cen (f : Fin 1024 → EReal) (c : Fin 1024) : EReal := f c - hmean f c

/-- A row of the gated, normalized reads. -/
def ctx (f w b g h : Fin 1024 → EReal) (c : Fin 1024) : EReal :=
  (cen f c * Ideal.rsqrt (hmean (fun d => cen f d * cen f d) c + Ideal.ofBits .f32 0x3A27C5AC#32) * w c + b c) * g c + h c

/-- The same with the kernel's sums. -/
def kctx (A : Fin 128 → Fin 128 → EReal) (f w b g h : Fin 1024 → EReal) (c : Fin 1024) : EReal :=
  ((f c - hsum A f c) * Ideal.rsqrt (hsum A (fun d => (f d - hsum A f d) * (f d - hsum A f d)) c + Ideal.ofBits .f32 0x3A27C5AC#32) * w c + b c) * g c + h c

theorem kctx_eq (f w b g h : Fin 1024 → EReal) (hf : ∀ d, ∃ r : ℝ, f d = (r : EReal)) : kctx avg f w b g h = ctx f w b g h := by
  choose r hr using hf
  obtain rfl : f = fun d => (r d : EReal) := funext hr
  funext c
  unfold kctx ctx cen
  simp only [hsum_eq]
  have e : ∀ d, ((r d : EReal) - hmean (fun d => (r d : EReal)) d) * ((r d : EReal) - hmean (fun d => (r d : EReal)) d)
      = (((r d - (∑ k : Fin 64, r ⟨d.val / 64 * 64 + k.val, by omega⟩) * (1 / 64)) * (r d - (∑ k : Fin 64, r ⟨d.val / 64 * 64 + k.val, by omega⟩) * (1 / 64)) : ℝ) : EReal) := fun d => by
    rw [hmean_real, ← EReal.coe_sub, ← EReal.coe_mul]
  simp only [e, hsum_eq]

/-- An entry of the merge: the two gates times the two products. -/
def mix (gt : Fin 4096 → EReal) (z : Fin 1024 → EReal) (o : Fin 2048 → EReal) (wr : Fin 1024 → Fin 2048 → EReal) (wm : Fin 2048 → Fin 2048 → EReal)
    (d : Fin 2048) : EReal :=
  gt ⟨d.val, by omega⟩ * ∑ k, z k * wr k d + gt ⟨2048 + d.val, by omega⟩ * ∑ k, o k * wm k d

section Payload

theorem pay10 (v0 : Vec Ideal S128x128 .bf16) (v2 v4 : Vec Ideal S1x1x512x1024 .f32) (r : Fin 512) (d : Fin 1024) :
    k0_pay10 (k0_pay3 v0) (k0_pay4 v2 v4) (k0_pay5 v0 v2 v4) (k0_pay6 v0 v2 v4) (k0_pay7 v0 v2 v4) (k0_pay8 v0 v2 v4) (k0_pay9 v2 v4) (ix2 r d)
      = k0_pay4 v2 v4 (ix2 r d) - hsum (fun k n => v0 (ix2 k n)) (fun d => k0_pay4 v2 v4 (ix2 r d)) d := by
  pointwise [k0_pay10, k0_pay3, k0_pay5, k0_pay6, k0_pay7, k0_pay8, k0_pay9]
  congr 1
  exact ladder (fun k n => v0 (ix2 k n)) (fun d => k0_pay4 v2 v4 (ix2 r d)) d

theorem pay27 (v1 : FVec Ideal S128x128 .bf16) (v6 : FVec Ideal S512x1024 .f32) (v14 v22 v30 v38 v39 : FVec Ideal S512x128 .f32)
    (v72 : FVec Ideal S512x1024 .f32) (v143 v147 : Vec Ideal S1x1024 .f32) (v151 v155 : Vec Ideal S1x512x1024 .bf16)
    (r : Fin 512) (d : Fin 1024) (z : FVec Ideal S512x1024 .f32) (hz : k0_pay11 v1 v6 v14 v22 v30 v38 v39 = z) :
    k0_pay27 v1 v72 (k0_pay12 v1 v6 v14 v22 v30 v38 v39)
      (k0_pay17 v1 (k0_pay15 v1 v6 v14 v22 v30 v38 v39) (k0_pay16 v1 v6 v14 v22 v30 v38 v39) (constant S512x128 .f32 0x00000000#32))
      (k0_pay18 v1 z) (k0_pay19 v1 z) (k0_pay20 v1 z) (k0_pay21 v1 z) (k0_pay22 v1 z) (k0_pay25 z) (k0_pay26 v1 z)
      (constant S512x128 .f32 0x00000000#32) v143 v147 v151 v155 (ix2 r d)
      = (v72 (ix2 r d) * Ideal.rsqrt (hsum (fun k n => v1 (ix2 k n)) (fun d => z (ix2 r d)) d + Ideal.ofBits .f32 0x3A27C5AC#32)
          * v143 (ix2 0 d) + v147 (ix2 0 d)) * v151 (ix3 0 r d) + v155 (ix3 0 r d) := by
  unfold k0_pay12 k0_pay15 k0_pay16 k0_pay14 k0_pay13
  simp only [hz]
  pointwise [k0_pay27, k0_pay17, k0_pay18, k0_pay19, k0_pay20, k0_pay21, k0_pay22, k0_pay23, k0_pay24, k0_pay25, k0_pay26]
  rw [← ladder (fun k n => v1 (ix2 k n)) (fun d => z (ix2 r d)) d]

end Payload

end Cert.Merge

end
-- ==== Proof.Merge.lean ====
/- The merge kernel: normalized reads and attention, each through its projection, gated and added. Its output block, its array after the
   run, and the reference's equal. -/
module

public import proofs.«01_k».proof.Proof.Heads
public import proofs.«01_k».proof.Proof.Gen.Reference6Ideal.Run
public import Idealize.ShloMosaic.Lib.Pipeline.ReadBack

@[expose] public section

set_option maxRecDepth 16384

noncomputable section

namespace Cert.Merge

open Idealize.ShloMosaic Idealize.ShloMosaic.Pointwise

/-- A token of the sequence among the padded ones. -/
def tk (t : Fin 4096) : Fin 4352 := ⟨t.val, by omega⟩

open Cert.Kernel6Ideal in
/-- The merge: a token's reads of both directions added, normalized in heads of 64 lanes, scaled, shifted and gated, through their
    projection; the attention through its own; each times its gate, and the two added. -/
def merge (y : Vec Ideal S2x2x4352x1024 .f32) (g h : Vec Ideal S2x4352x1024 .bf16) (lw lb : Vec Ideal S1024 .f32) (o : Vec Ideal S2x4096x2048 .bf16)
    (wr : Vec Ideal S1024x2048 .bf16) (wm : Vec Ideal S2048x2048 .bf16) (gt : Vec Ideal S2x4096x4096 .bf16) : Vec Ideal S2x4096x2048 .bf16 := fun i =>
  mix (fun e => gt (ix3 (i 0) (i 1) e))
    (ctx (fun d => y (ix4 (i 0) 0 (tk (i 1)) d) + y (ix4 (i 0) 1 (tk (i 1)) d)) (fun d => lw (ix1 d)) (fun d => lb (ix1 d))
      (fun d => g (ix3 (i 0) (tk (i 1)) d)) fun d => h (ix3 (i 0) (tk (i 1)) d))
    (fun k => o (ix3 (i 0) (i 1) k)) (fun k d => wr (ix2 k d)) (fun k d => wm (ix2 k d)) (i 2)

section Kernel

open Cert.Kernel6Ideal Cert.Kernel6Ideal.Gen

theorem pay11 (v1 : FVec Ideal S128x128 .bf16) (v6 : FVec Ideal S512x1024 .f32) (v14 v22 v30 v38 v39 : FVec Ideal S512x128 .f32) (j : S512x1024.Idx) :
    k0_pay11 v1 v6 v14 v22 v30 v38 v39 j = k0_pay10 v1 v6 v14 v22 v30 v38 v39 j * k0_pay10 v1 v6 v14 v22 v30 v38 v39 j := rfl

theorem pay4 (v2 v4 : Vec Ideal S1x1x512x1024 .f32) (r : Fin 512) (d : Fin 1024) :
    k0_pay4 v2 v4 (ix2 r d) = v2 (ix4 0 0 r d) + v4 (ix4 0 0 r d) := by
  pointwise [k0_pay4]

theorem pay3 (v0 : Vec Ideal S128x128 .bf16) (k n : Fin 128) : k0_pay3 v0 (ix2 k n) = v0 (ix2 k n) := by
  pointwise [k0_pay3]

variable (c : Dev nD) (i : grid0.Coords) (arg2 : Memref sig .tc .vmem S1x1x512x1024 .f32) (harg2 : arg2.IsWhole) (arg3 : Memref sig .tc .vmem S1x1x512x1024 .f32) (harg3 : arg3.IsWhole)
  (arg4 : Memref sig .tc .vmem S1x512x1024 .bf16) (harg4 : arg4.IsWhole) (arg5 : Memref sig .tc .vmem S1x512x1024 .bf16) (harg5 : arg5.IsWhole)
  (arg6 : Memref sig .tc .vmem S1x1024 .f32) (harg6 : arg6.IsWhole) (arg7 : Memref sig .tc .vmem S1x1024 .f32) (harg7 : arg7.IsWhole)
  (arg8 : Memref sig .tc .vmem S128x128 .bf16) (harg8 : arg8.IsWhole) (arg9 : Memref sig .tc .vmem S1x512x2048 .bf16) (harg9 : arg9.IsWhole)
  (arg10 : Memref sig .tc .vmem S1024x2048 .bf16) (harg10 : arg10.IsWhole) (arg11 : Memref sig .tc .vmem S2048x2048 .bf16) (harg11 : arg11.IsWhole)
  (arg12 : Memref sig .tc .vmem S1x512x4096 .bf16) (harg12 : arg12.IsWhole) (arg13 : Memref sig .tc .vmem S1x512x2048 .bf16) (harg13 : arg13.IsWhole)
  (x0 x1 : Vec Ideal S1x1x512x1024 .f32) (x2 x3 : Vec Ideal S1x512x1024 .bf16) (x4 x5 : Vec Ideal S1x1024 .f32) (x6 : Vec Ideal S128x128 .bf16)
  (x7 : Vec Ideal S1x512x2048 .bf16) (x8 : Vec Ideal S1024x2048 .bf16) (x9 : Vec Ideal S2048x2048 .bf16) (x10 : Vec Ideal S1x512x4096 .bf16)

/-- The context row of a block's token. -/
def brow (r : Fin 512) : Fin 1024 → EReal :=
  kctx (fun k n => x6 (ix2 k n)) (fun d => x0 (ix4 0 0 r d) + x1 (ix4 0 0 r d)) (fun d => x4 (ix2 0 d)) (fun d => x5 (ix2 0 d))
    (fun d => x2 (ix3 0 r d)) fun d => x3 (ix3 0 r d)

theorem z_eq (r : Fin 512) (d : Fin 1024) :
    kernelRun0_A.sl.r_20 c arg2 harg2 arg3 harg3 arg4 harg4 arg5 harg5 arg6 harg6 arg7 harg7 arg8 harg8 x0 x1 x2 x3 x4 x5 x6 (ix2 r d)
      = brow x0 x1 x2 x3 x4 x5 x6 r d := by
  unfold kernelRun0_A.sl.r_20 kernelRun0_A.sl.r_19 kernelRun0_A.sl.r_18 kernelRun0_A.sl.r_17 kernelRun0_A.sl.r_16 kernelRun0_A.sl.r_15
    kernelRun0_A.sl.r_14 kernelRun0_A.sl.r_13 kernelRun0_A.sl.r_12 kernelRun0_A.sl.r_11 kernelRun0_A.sl.r_10 kernelRun0_A.sl.r_9
    kernelRun0_A.sl.r_8 kernelRun0_A.sl.r_7 kernelRun0_A.sl.r_6 kernelRun0_A.sl.r_5 kernelRun0_A.sl.r_4 kernelRun0_A.sl.r_3
    kernelRun0_A.sl.r_2 kernelRun0_A.sl.r_1 kernelRun0_A.sl.r kernelRun0_A.sl.cst_27
  simp (disch := decide) only [View.readAt_eq_ld, Memref.IsWhole.read_unread]
  rw [pay27 (hz := rfl)]
  simp only [pay11, pay10, pay4, pay3]
  pointwise []
  rfl

theorem p31 (v1 : FVec Ideal S128x128 .bf16) (v72 : FVec Ideal S512x1024 .f32) (v81 v89 v97 v105 v113 v121 v129 : FVec Ideal S512x128 .f32)
    (v134 : FVec Ideal S512x128 .bf16) (v135 w : FVec Ideal S512x128 .f32) (v143 v147 : Vec Ideal S1x1024 .f32) (v151 v155 : Vec Ideal S1x512x1024 .bf16)
    (o : Vec Ideal S1x512x2048 .bf16) (g h : Vec Ideal S1x512x512 .bf16) (wr : Vec Ideal S1024x512 .bf16) (wm : Vec Ideal S2048x512 .bf16)
    (r d : Fin 512) : k0_pay31 (k0_pay28 o) (k0_pay29 h) (k0_pay30 v1 v72 v81 v89 v97 v105 v113 v121 v129 v134 v135 w v143 v147 v151 v155 g wr) wm (ix3 0 r d)
      = g (ix3 0 r d) * (∑ k : Fin 1024, k0_pay27 v1 v72 v81 v89 v97 v105 v113 v121 v129 v134 v135 w v143 v147 v151 v155 (ix2 r k) * wr (ix2 k d))
        + h (ix3 0 r d) * ∑ k : Fin 2048, o (ix3 0 r k) * wm (ix2 k d) := by
  pointwise [k0_pay31, k0_pay28, k0_pay29, k0_pay30]

theorem p32 (z : FVec Ideal S512x1024 .bf16)
    (o : Vec Ideal S1x512x2048 .bf16) (g h : Vec Ideal S1x512x512 .bf16) (wr : Vec Ideal S1024x512 .bf16) (wm : Vec Ideal S2048x512 .bf16)
    (r d : Fin 512) : k0_pay32 z (k0_pay28 o) g h wr wm (ix3 0 r d)
      = g (ix3 0 r d) * (∑ k : Fin 1024, z (ix2 r k) * wr (ix2 k d)) + h (ix3 0 r d) * ∑ k : Fin 2048, o (ix3 0 r k) * wm (ix2 k d) := by
  pointwise [k0_pay32, k0_pay28]

theorem p1 (z : FVec Ideal S512x1024 .bf16)
    (o : Vec Ideal S1x512x2048 .bf16) (g h : Vec Ideal S1x512x512 .bf16) (wr : Vec Ideal S1024x512 .bf16) (wm : Vec Ideal S2048x512 .bf16)
    (r d : Fin 512) : k0_pay1 z (k0_pay28 o) (k0_pay33 g) (k0_pay34 h) wr wm (ix3 0 r d)
      = g (ix3 0 r d) * (∑ k : Fin 1024, z (ix2 r k) * wr (ix2 k d)) + h (ix3 0 r d) * ∑ k : Fin 2048, o (ix3 0 r k) * wm (ix2 k d) := by
  pointwise [k0_pay1, k0_pay28, k0_pay33, k0_pay34]

theorem p2 (z : FVec Ideal S512x1024 .bf16)
    (o : Vec Ideal S1x512x2048 .bf16) (g h : Vec Ideal S1x512x512 .bf16) (wr : Vec Ideal S1024x512 .bf16) (wm : Vec Ideal S2048x512 .bf16)
    (r d : Fin 512) : k0_pay2 z (k0_pay28 o) g h wr wm (ix3 0 r d)
      = g (ix3 0 r d) * (∑ k : Fin 1024, z (ix2 r k) * wr (ix2 k d)) + h (ix3 0 r d) * ∑ k : Fin 2048, o (ix3 0 r k) * wm (ix2 k d) := by
  pointwise [k0_pay2, k0_pay28]

/-- The entry of an output block. -/
def bmix (r : Fin 512) (d : Fin 2048) : EReal :=
  mix (fun e => x10 (ix3 0 r e)) (brow x0 x1 x2 x3 x4 x5 x6 r) (fun k => x7 (ix3 0 r k)) (fun k d => x8 (ix2 k d)) (fun k d => x9 (ix2 k d)) d

theorem bmix_at (r r' : Fin 512) (d d' : Fin 2048) (e q : Fin 4096) (he : e.val = d.val) (hq : q.val = 2048 + d.val) (hr : r.val = r'.val)
    (hd : d.val = d'.val) : x10 (ix3 0 r e) * (∑ k : Fin 1024, brow x0 x1 x2 x3 x4 x5 x6 r k * x8 (ix2 k d))
      + x10 (ix3 0 r q) * (∑ k : Fin 2048, x7 (ix3 0 r k) * x9 (ix2 k d)) = bmix x0 x1 x2 x3 x4 x5 x6 x7 x8 x9 x10 r' d' := by
  obtain rfl := Fin.ext hr
  obtain rfl := Fin.ext hd
  obtain ⟨e, he'⟩ := e
  obtain ⟨q, hq'⟩ := q
  dsimp only at he hq
  subst he hq
  rfl

theorem block (r : Fin 512) (d : Fin 2048) :
    out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (ix3 0 r d)
      = bmix x0 x1 x2 x3 x4 x5 x6 x7 x8 x9 x10 r d := by
  have hc := cover0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10
  have hz := z_eq c arg2 harg2 arg3 harg3 arg4 harg4 arg5 harg5 arg6 harg6 arg7 harg7 arg8 harg8 x0 x1 x2 x3 x4 x5 x6
  have hz' := hz
  unfold kernelRun0_A.sl.r_20 at hz'
  unfold out0_A_11
  rw [View.read_writes_junk_apply_eq_canon]
  refine View.canon_apply_of_pieces (Val := Elt Ideal) (fun y => bmix x0 x1 x2 x3 x4 x5 x6 x7 x8 x9 x10 (y 1) (y 2) : Vec Ideal S1x512x2048 .bf16) _ ?_ _ (hc _)
  unfold kernelRun0_A
  dsimp only
  intro p hp
  simp only [List.mem_cons, List.not_mem_nil, or_false] at hp
  rcases hp with rfl | rfl | rfl | rfl
  all_goals
    intro (j : S1x512x512.Idx)
    have j0 : (j 0 : ℕ) < 1 := (j 0).isLt
    obtain ⟨r, d, rfl⟩ : ∃ (r : Fin 512) (d : Fin 512), j = ix3 0 r d := ⟨j 1, j 2, by
      funext a
      match a with
      | 0 => exact Fin.ext (show (j 0 : ℕ) = 0 by omega)
      | 1 => rfl
      | 2 => rfl⟩
    dsimp only
  · unfold kernelRun0_A.sl.r_21
    rw [p2]
    simp only [hz]
    simp (disch := decide) only [View.readAt_eq_ld, Memref.IsWhole.read_unread]
    pointwise []
    refine bmix_at x0 x1 x2 x3 x4 x5 x6 x7 x8 x9 x10 r _ _ _ _ _ ?_ ?_ ?_ ?_
    · first | rfl | (dsimp only; omega)
    · dsimp only
      omega
    · show r.val = 0 + 1 * r.val
      omega
    · show 1536 + d.val = 1536 + 1 * d.val
      omega
  · unfold kernelRun0_A.sl.r_21 kernelRun0_A.sl.r_24 kernelRun0_A.sl.r_25
    rw [p1]
    simp only [hz]
    simp (disch := decide) only [View.readAt_eq_ld, Memref.IsWhole.read_unread]
    pointwise []
    refine bmix_at x0 x1 x2 x3 x4 x5 x6 x7 x8 x9 x10 r _ _ _ _ _ ?_ ?_ ?_ ?_
    · first | rfl | (dsimp only; omega)
    · dsimp only
      omega
    · show r.val = 0 + 1 * r.val
      omega
    · show 1024 + d.val = 1024 + 1 * d.val
      omega
  · unfold kernelRun0_A.sl.r_21
    rw [p32]
    simp only [hz]
    simp (disch := decide) only [View.readAt_eq_ld, Memref.IsWhole.read_unread]
    pointwise []
    refine bmix_at x0 x1 x2 x3 x4 x5 x6 x7 x8 x9 x10 r _ _ _ _ _ ?_ ?_ ?_ ?_
    · first | rfl | (dsimp only; omega)
    · dsimp only
      omega
    · show r.val = 0 + 1 * r.val
      omega
    · show 512 + d.val = 512 + 1 * d.val
      omega
  · unfold kernelRun0_A.sl.r_21 kernelRun0_A.sl.r_22 kernelRun0_A.sl.r_23
    rw [p31]
    simp only [hz']
    simp (disch := decide) only [View.readAt_eq_ld, Memref.IsWhole.read_unread]
    pointwise []
    refine bmix_at x0 x1 x2 x3 x4 x5 x6 x7 x8 x9 x10 r _ _ _ _ _ ?_ ?_ ?_ ?_
    · first | rfl | (dsimp only; omega)
    · rfl
    · show r.val = 0 + 1 * r.val
      omega
    · show d.val = 0 + 1 * d.val
      omega

variable (m : (ℓ : Loc nD τ sig) → Buf (Elt Ideal) ℓ)

theorem idx : ∀ t : Fin cfg0.N, win0_0.index t = ![t.val / 8, 0, t.val % 8, 0] ∧ win0_1.index t = ![t.val / 8, 1, t.val % 8, 0]
    ∧ win0_2.index t = ![t.val / 8, t.val % 8, 0] ∧ win0_3.index t = ![t.val / 8, t.val % 8, 0] ∧ win0_4.index t = ![0, 0] ∧ win0_5.index t = ![0, 0]
    ∧ win0_6.index t = ![0, 0] ∧ win0_7.index t = ![t.val / 8, t.val % 8, 0] ∧ win0_8.index t = ![0, 0] ∧ win0_9.index t = ![0, 0]
    ∧ win0_10.index t = ![t.val / 8, t.val % 8, 0] ∧ win0_11.index t = ![t.val / 8, t.val % 8, 0] := by decide +kernel

/-- The arguments of the call. -/
abbrev a0 : Vec Ideal S2x2x4352x1024 .f32 := m ((c.tc : Thread nD τ).loc main_arg0)
abbrev a1 : Vec Ideal S2x4352x1024 .bf16 := m ((c.tc : Thread nD τ).loc main_arg1)
abbrev a2 : Vec Ideal S2x4352x1024 .bf16 := m ((c.tc : Thread nD τ).loc main_arg2)
abbrev a3 : Vec Ideal S1024 .f32 := m ((c.tc : Thread nD τ).loc main_arg3)
abbrev a4 : Vec Ideal S1024 .f32 := m ((c.tc : Thread nD τ).loc main_arg4)
abbrev a5 : Vec Ideal S2x4096x2048 .bf16 := m ((c.tc : Thread nD τ).loc main_arg5)
abbrev a6 : Vec Ideal S1024x2048 .bf16 := m ((c.tc : Thread nD τ).loc main_arg6)
abbrev a7 : Vec Ideal S2048x2048 .bf16 := m ((c.tc : Thread nD τ).loc main_arg7)
abbrev a8 : Vec Ideal S2x4096x4096 .bf16 := m ((c.tc : Thread nD τ).loc main_arg8)

theorem v10_term : V m c main_v10 = (broadcastInDim S1x1024 ![1] bcast_S1024_S1x1024_1 (a3 c m) : FVec Ideal S1x1024 .f32) := by
  unfold V hostOps0 hostOps0_1 hostOps0_2
  simp only [List.flatten_cons, List.flatten_nil, List.append_nil, List.cons_append, List.nil_append]
  after_results_simp <;> rfl

theorem v10 (n : Fin 1024) : V m c main_v10 (ix2 0 n) = a3 c m (ix1 n) := by
  rw [v10_term]
  pointwise []

theorem v11_term : V m c main_v11 = (broadcastInDim S1x1024 ![1] bcast_S1024_S1x1024_1 (a4 c m) : FVec Ideal S1x1024 .f32) := by
  unfold V hostOps0 hostOps0_1 hostOps0_2
  simp only [List.flatten_cons, List.flatten_nil, List.append_nil, List.cons_append, List.nil_append]
  after_results_simp <;> rfl

theorem v11 (n : Fin 1024) : V m c main_v11 (ix2 0 n) = a4 c m (ix1 n) := by
  rw [v11_term]
  pointwise []

theorem lt (t : Fin cfg0.N) : t.val < 16 := t.isLt

/-- The batch row and the token a point's block rows stand for. -/
def bat (t : Fin cfg0.N) : Fin 2 := ⟨t.val / 8, by have := lt t; omega⟩
def tok (t : Fin cfg0.N) (r : Fin 512) : Fin 4096 := ⟨t.val % 8 * 512 + r.val, by omega⟩

theorem b0 (t : Fin cfg0.N) (r : Fin 512) (d : Fin 1024) : X0_0 m c t (ix4 0 0 r d) = a0 c m (ix4 (bat t) 0 (tk (tok t r)) d) := by
  have := lt t
  unfold X0_0 Pipeline.Window.fill
  rw [dif_pos (moved0_0 t _)]
  blk_ext [iblk, V, idx t, bat, tok, tk]

theorem b1 (t : Fin cfg0.N) (r : Fin 512) (d : Fin 1024) : X0_1 m c t (ix4 0 0 r d) = a0 c m (ix4 (bat t) 1 (tk (tok t r)) d) := by
  have := lt t
  unfold X0_1 Pipeline.Window.fill
  rw [dif_pos (moved0_1 t _)]
  blk_ext [iblk, V, idx t, bat, tok, tk]

theorem b2 (t : Fin cfg0.N) (r : Fin 512) (d : Fin 1024) : X0_2 m c t (ix3 0 r d) = a1 c m (ix3 (bat t) (tk (tok t r)) d) := by
  have := lt t
  unfold X0_2 Pipeline.Window.fill
  rw [dif_pos (moved0_2 t _)]
  blk_ext [iblk, V, idx t, bat, tok, tk]

theorem b3 (t : Fin cfg0.N) (r : Fin 512) (d : Fin 1024) : X0_3 m c t (ix3 0 r d) = a2 c m (ix3 (bat t) (tk (tok t r)) d) := by
  have := lt t
  unfold X0_3 Pipeline.Window.fill
  rw [dif_pos (moved0_3 t _)]
  blk_ext [iblk, V, idx t, bat, tok, tk]

theorem b4 (t : Fin cfg0.N) (d : Fin 1024) : iblk m c 4 t (ix2 0 d) = a3 c m (ix1 d) := by
  rw [← v10]
  blk_ext [iblk, idx t]

theorem b5 (t : Fin cfg0.N) (d : Fin 1024) : iblk m c 5 t (ix2 0 d) = a4 c m (ix1 d) := by
  rw [← v11]
  blk_ext [iblk, idx t]

theorem b6 (t : Fin cfg0.N) (k n : Fin 128) : iblk m c 6 t (ix2 k n) = avg k n := by
  rw [← avg_apply m c]
  blk_ext [iblk, idx t]

theorem b7 (t : Fin cfg0.N) (r : Fin 512) (k : Fin 2048) : iblk m c 7 t (ix3 0 r k) = a5 c m (ix3 (bat t) (tok t r) k) := by
  blk_ext [iblk, V, idx t, bat, tok]

theorem b8 (t : Fin cfg0.N) (k : Fin 1024) (d : Fin 2048) : iblk m c 8 t (ix2 k d) = a6 c m (ix2 k d) := by
  blk_ext [iblk, V, idx t]

theorem b9 (t : Fin cfg0.N) (k d : Fin 2048) : iblk m c 9 t (ix2 k d) = a7 c m (ix2 k d) := by
  blk_ext [iblk, V, idx t]

theorem b10 (t : Fin cfg0.N) (r : Fin 512) (e : Fin 4096) : iblk m c 10 t (ix3 0 r e) = a8 c m (ix3 (bat t) (tok t r) e) := by
  blk_ext [iblk, V, idx t, bat, tok]

/-- The merge's array after the run. -/
theorem arr11 (hy : ∀ j, ∃ r : ℝ, a0 c m j = (r : EReal)) : (dats m 0 c).arrAt 11 cfg0.N
    = merge (a0 c m) (a1 c m) (a2 c m) (a3 c m) (a4 c m) (a5 c m) (a6 c m) (a7 c m) (a8 c m) := by
  refine (dats m 0 c).arrAt_eq_of_covers 11 _ (by decide +kernel) fun t hf y => ?_
  have y0 : (y 0 : ℕ) < 1 := (y 0).isLt
  have e0 : ((((cfg0.win 11).blk t).view.emb y) 0 : ℕ) = t.val / 8 := by
    blk_simp [idx t]
  have e1 : ((((cfg0.win 11).blk t).view.emb y) 1 : ℕ) = t.val % 8 * 512 + y 1 := by
    blk_simp [idx t]
  have e2 : ((((cfg0.win 11).blk t).view.emb y) 2 : ℕ) = y 2 := by
    blk_simp [idx t]
  generalize ((cfg0.win 11).blk t).view.emb y = p at e0 e1 e2 ⊢
  blk_simp
  rw [after0_11]
  unfold outsAt0
  obtain ⟨r, d, rfl⟩ : ∃ (r : Fin 512) (d : Fin 2048), y = ix3 0 r d := ⟨y 1, y 2, by
    funext a
    match a with
    | 0 => exact Fin.ext (show (y 0 : ℕ) = 0 by omega)
    | 1 => rfl
    | 2 => rfl⟩
  obtain rfl : p = ix3 (bat t) (tok t r) d := by
    funext a
    match a with
    | 0 => exact Fin.ext e0
    | 1 => exact Fin.ext e1
    | 2 => exact Fin.ext e2
  rw [block]
  unfold bmix brow
  simp only [b0, b1, b2, b3, b4, b5, b6, b7, b8, b9, b10]
  rw [kctx_eq]
  · rfl
  · intro d
    obtain ⟨u, hu⟩ := hy (ix4 (bat t) 0 (tk (tok t r)) d)
    obtain ⟨v, hv⟩ := hy (ix4 (bat t) 1 (tk (tok t r)) d)
    exact ⟨u + v, by rw [hu, hv, EReal.coe_add]⟩

end Kernel

section Reference

open Cert.Reference6Ideal Cert.Reference6Ideal.Gen

/-- The reference's sum of both directions' reads, in heads. -/
def sRef (y : FVec Ideal S2x2x4352x1024 .f32) : FVec Ideal S2x4096x16x64 .f32 :=
  shapeCast S2x4096x16x64 (addf (shapeCast S2x4096x1024 (extractStridedSlice S2x1x4096x1024 ![0, 0, 0, 0] y slices_S2x2x4352x1024_S2x1x4096x1024_0_0_0_0) shapeCasts_S2x1x4096x1024_S2x4096x1024) (shapeCast S2x4096x1024 (extractStridedSlice S2x1x4096x1024 ![0, 1, 0, 0] y slices_S2x2x4352x1024_S2x1x4096x1024_0_1_0_0) shapeCasts_S2x1x4096x1024_S2x4096x1024)) shapeCasts_S2x4096x1024_S2x4096x16x64

theorem sRef_apply (y : FVec Ideal S2x2x4352x1024 .f32) (b : Fin 2) (t : Fin 4096) (h : Fin 16) (k : Fin 64) : sRef y (ix4 b t h k)
    = y (ix4 b 0 (tk t) ⟨h.val * 64 + k.val, by omega⟩) + y (ix4 b 1 (tk t) ⟨h.val * 64 + k.val, by omega⟩) := by
  pointwise [sRef]
  <;> rfl

/-- The reference's mean over a head. -/
def mRef (x : FVec Ideal S2x4096x16x64 .f32) : FVec Ideal S2x4096x16x1 .f32 :=
  Host.divf (broadcastInDim S2x4096x16x1 ![0, 1, 2] bcast_S2x4096x16_S2x4096x16x1_0_1_2 (Host.reduceAdd x (constant S_ .f32 0x00000000#32) reducesTo_S2x4096x16x64_S2x4096x16_d3 h_S_)) (broadcastInDim S2x4096x16x1 ![] bcast_S_S2x4096x16x1 (constant S_ .f32 0x42800000#32))

theorem mRef_apply (x : FVec Ideal S2x4096x16x64 .f32) (b : Fin 2) (t : Fin 4096) (h : Fin 16) : mRef x (ix4 b t h 0)
    = Ideal.div (∑ k : Fin 64, x (ix4 b t h k)) (Ideal.ofBits .f32 0x42800000#32) := by
  pointwise [mRef]

/-- The reference's heads less their means. -/
def cRef (x : FVec Ideal S2x4096x16x64 .f32) : FVec Ideal S2x4096x16x64 .f32 :=
  subf x (broadcastInDim S2x4096x16x64 ![0, 1, 2, 3] bcast_S2x4096x16x1_S2x4096x16x64_0_1_2_3 (mRef x))

theorem cRef_apply (x : FVec Ideal S2x4096x16x64 .f32) (b : Fin 2) (t : Fin 4096) (h : Fin 16) (k : Fin 64) : cRef x (ix4 b t h k)
    = x (ix4 b t h k) - Ideal.div (∑ k : Fin 64, x (ix4 b t h k)) (Ideal.ofBits .f32 0x42800000#32) := by
  rw [← mRef_apply]
  pointwise [cRef]

/-- The reference's norm within heads. -/
def nRef (x : FVec Ideal S2x4096x16x64 .f32) : FVec Ideal S2x4096x1024 .f32 :=
  shapeCast S2x4096x1024 (mulf (cRef x) (broadcastInDim S2x4096x16x64 ![0, 1, 2, 3] bcast_S2x4096x16x1_S2x4096x16x64_0_1_2_3 (Host.rsqrt (addf (mRef (mulf (cRef x) (cRef x))) (broadcastInDim S2x4096x16x1 ![] bcast_S_S2x4096x16x1 (constant S_ .f32 0x3A27C5AC#32)))))) shapeCasts_S2x4096x16x64_S2x4096x1024

theorem nRef_apply (x : FVec Ideal S2x4096x16x64 .f32) (b : Fin 2) (t : Fin 4096) (d : Fin 1024) : nRef x (ix3 b t d)
    = cRef x (ix4 b t ⟨d.val / 64, by omega⟩ ⟨d.val % 64, by omega⟩)
      * Ideal.rsqrt (mRef (mulf (cRef x) (cRef x)) (ix4 b t ⟨d.val / 64, by omega⟩ 0) + Ideal.ofBits .f32 0x3A27C5AC#32) := by
  pointwise [nRef]

/-- A row of both directions' reads added. -/
def srow (y : FVec Ideal S2x2x4352x1024 .f32) (b : Fin 2) (t : Fin 4096) (d : Fin 1024) : EReal := y (ix4 b 0 (tk t) d) + y (ix4 b 1 (tk t) d)

theorem cRef_row (y : FVec Ideal S2x2x4352x1024 .f32) (b : Fin 2) (t : Fin 4096) (h : Fin 16) (k : Fin 64) (d : Fin 1024) (hh : h.val = d.val / 64)
    (hk : k.val = d.val % 64) : cRef (sRef y) (ix4 b t h k) = cen (srow y b t) d := by
  obtain ⟨h, h1⟩ := h
  obtain ⟨k, k1⟩ := k
  dsimp only at hh hk
  subst hh hk
  rw [cRef_apply]
  simp only [sRef_apply]
  have e : (⟨d.val / 64 * 64 + d.val % 64, by omega⟩ : Fin 1024) = d := Fin.ext (by dsimp only; omega)
  rw [e]
  rfl

theorem mRef_row (y : FVec Ideal S2x2x4352x1024 .f32) (b : Fin 2) (t : Fin 4096) (d : Fin 1024) (hd : d.val / 64 < 16) :
    mRef (mulf (cRef (sRef y)) (cRef (sRef y))) (ix4 b t ⟨d.val / 64, hd⟩ 0) = hmean (fun d => cen (srow y b t) d * cen (srow y b t) d) d := by
  rw [mRef_apply]
  unfold hmean
  congr 1
  refine Finset.sum_congr rfl fun k _ => ?_
  have e := cRef_row y b t ⟨d.val / 64, hd⟩ k ⟨d.val / 64 * 64 + k.val, by omega⟩ (by dsimp only; omega) (by dsimp only; omega)
  show cRef (sRef y) (ix4 b t ⟨d.val / 64, hd⟩ k) * cRef (sRef y) (ix4 b t ⟨d.val / 64, hd⟩ k) = _
  rw [e]

theorem nRef_row (y : FVec Ideal S2x2x4352x1024 .f32) (b : Fin 2) (t : Fin 4096) (d : Fin 1024) : nRef (sRef y) (ix3 b t d)
    = cen (srow y b t) d * Ideal.rsqrt (hmean (fun d => cen (srow y b t) d * cen (srow y b t) d) d + Ideal.ofBits .f32 0x3A27C5AC#32) := by
  rw [nRef_apply, mRef_row, cRef_row y b t _ _ d rfl rfl]

variable (y : FVec Ideal S2x2x4352x1024 .f32) (g h : FVec Ideal S2x4352x1024 .bf16) (lw lb : FVec Ideal S1024 .f32) (o : FVec Ideal S2x4096x2048 .bf16)
  (wr : FVec Ideal S1024x2048 .bf16) (wm : FVec Ideal S2048x2048 .bf16) (gt : FVec Ideal S2x4096x4096 .bf16)

/-- The reference's scaling, shift and gate of normalized reads. -/
def zRef (n : FVec Ideal S2x4096x1024 .f32) : FVec Ideal S2x4096x1024 .f32 :=
  addf (mulf (addf (mulf n (broadcastInDim S2x4096x1024 ![0, 1, 2] bcast_S1x1x1024_S2x4096x1024_0_1_2 (broadcastInDim S1x1x1024 ![2] bcast_S1024_S1x1x1024_2 lw))) (broadcastInDim S2x4096x1024 ![0, 1, 2] bcast_S1x1x1024_S2x4096x1024_0_1_2 (broadcastInDim S1x1x1024 ![2] bcast_S1024_S1x1x1024_2 lb))) (extractStridedSlice S2x4096x1024 ![0, 0, 0] (extf .f32 g bitsLt_bf16_f32) slices_S2x4352x1024_S2x4096x1024_0_0_0)) (extractStridedSlice S2x4096x1024 ![0, 0, 0] (extf .f32 h bitsLt_bf16_f32) slices_S2x4352x1024_S2x4096x1024_0_0_0)

theorem zRef_apply (n : FVec Ideal S2x4096x1024 .f32) (b : Fin 2) (t : Fin 4096) (d : Fin 1024) : zRef g h lw lb n (ix3 b t d)
    = (n (ix3 b t d) * lw (ix1 d) + lb (ix1 d)) * g (ix3 b (tk t) d) + h (ix3 b (tk t) d) := by
  pointwise [zRef]
  <;> rfl

/-- The reference's two products, gated and added. -/
def oRef (z : FVec Ideal S2x4096x1024 .f32) : FVec Ideal S2x4096x2048 .bf16 :=
  truncf .bf16 (addf (mulf (extractStridedSlice S2x4096x2048 ![0, 0, 0] (extf .f32 gt bitsLt_bf16_f32) slices_S2x4096x4096_S2x4096x2048_0_0_0) (Host.dotGeneral dot_S2x4096x1024_S1024x2048_S2x4096x2048_2_0_01_1_n_n none z (extf .f32 wr bitsLt_bf16_f32))) (mulf (extractStridedSlice S2x4096x2048 ![0, 0, 2048] (extf .f32 gt bitsLt_bf16_f32) slices_S2x4096x4096_S2x4096x2048_0_0_2048) (Host.dotGeneral dot_S2x4096x2048_S2048x2048_S2x4096x2048_2_0_01_1_n_n none (extf .f32 o bitsLt_bf16_f32) (extf .f32 wm bitsLt_bf16_f32)))) bitsLt_bf16_f32

theorem oRef_apply (z : FVec Ideal S2x4096x1024 .f32) (b : Fin 2) (t : Fin 4096) (d : Fin 2048) : oRef o wr wm gt z (ix3 b t d)
    = mix (fun e => gt (ix3 b t e)) (fun d => z (ix3 b t d)) (fun k => o (ix3 b t k)) (fun k d => wr (ix2 k d)) (fun k d => wm (ix2 k d)) d := by
  pointwise [oRef]
  <;> rfl

theorem merge_eq : oRef o wr wm gt (zRef g h lw lb (nRef (sRef y))) = merge y g h lw lb o wr wm gt := by
  funext j
  obtain ⟨b, t, d, rfl⟩ : ∃ b t d, j = ix3 b t d := ⟨j 0, j 1, j 2, (ix3_eta j).symm⟩
  rw [oRef_apply]
  simp only [zRef_apply, nRef_row]
  rfl

/-- The reference's run ends at these operations. -/
theorem res_eq (m : (ℓ : Loc nD τ sig) → Buf (Elt Ideal) ℓ) (c : Dev nD) : Value.res_main_v46 m c
    = oRef (m ((c.tc : Thread nD τ).loc main_arg5)) (m ((c.tc : Thread nD τ).loc main_arg6)) (m ((c.tc : Thread nD τ).loc main_arg7))
        (m ((c.tc : Thread nD τ).loc main_arg8)) (zRef (m ((c.tc : Thread nD τ).loc main_arg1)) (m ((c.tc : Thread nD τ).loc main_arg2))
          (m ((c.tc : Thread nD τ).loc main_arg3)) (m ((c.tc : Thread nD τ).loc main_arg4)) (nRef (sRef (m ((c.tc : Thread nD τ).loc main_arg0))))) := by
  unfold Value.res_main_v46 oRef zRef nRef cRef mRef sRef
  rfl

end Reference

end Cert.Merge

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel7
public import proofs.«01_k».proof.Proof.Gen.Kernel6.Frame
public import proofs.«01_k».proof.Proof.Gen.Kernel7.Frame
public import proofs.«01_k».proof.Proof.Gen.Kernel6Ideal
public import proofs.«01_k».proof.Proof.Gen.Kernel7Ideal
public import proofs.«01_k».proof.Proof.Gen.Kernel6Ideal.Frame
public import proofs.«01_k».proof.Proof.Gen.Kernel7Ideal.Frame
public import proofs.«01_k».proof.Proof.Gen.Kernel6Ideal.Value
public import proofs.«01_k».proof.Proof.Gen.Kernel7Ideal.Value
public import proofs.«01_k».proof.Proof.Gen.Reference6Ideal.Run
public import proofs.«01_k».proof.Proof.Gen.Reference7Ideal.Run
public import proofs.«01_k».proof.Proof.Ref
public import proofs.«01_k».proof.Proof.Weights
public import proofs.«01_k».proof.Proof.FfnBlocks
public import proofs.«01_k».proof.Proof.FfnRef
public import proofs.«01_k».proof.Proof.Gates
public import proofs.«01_k».proof.Proof.OutProj
public import proofs.«01_k».proof.Proof.InProj
public import proofs.«01_k».proof.Proof.KvProj
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal.Run
public import proofs.«01_k».proof.Proof.QProj
public import proofs.«01_k».proof.Proof.Merge
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.Pointwise Idealize.SL.Sem

/-- The side conditions of the precondition's program. -/
theorem preFacts : Cert.Pre_finite_qk.Facts := ⟨by decide, by decide⟩

/-- A value whose absolute value is below infinity is a real. -/
theorem real_of_lt (x : EReal) (h : max x (-x) < ⊤) : ∃ r : ℝ, x = (r : EReal) := by
  induction x with
  | bot => simp at h
  | top => simp at h
  | coe r => exact ⟨r, rfl⟩

/-- A comparison that says yes. -/
theorem below {x : EReal} (h : BitVec.ofBool (decide (x < ⊤)) = 1#1) : x < ⊤ := by
  by_contra hx
  rw [decide_eq_false hx] at h
  exact absurd h (by decide)

/-- What the precondition says: every query and every key is a real. -/
theorem qk_real (m : (ℓ : Loc Cert.KernelIdeal.nD Cert.KernelIdeal.τ Cert.KernelIdeal.sig) → Buf (Elt Ideal) ℓ)
    (h : Cert.Pre_KernelIdeal_finite_qk (hPre_finite_qk := preFacts) m) (c : Dev Cert.KernelIdeal.nD) :
    (∀ j, ∃ r : ℝ, Cert.Attn.aq m c j = (r : EReal)) ∧ ∀ j, ∃ r : ℝ, Cert.Attn.ak m c j = (r : EReal) := by
  obtain ⟨h0, h1⟩ := h c
  have e : Ideal.ofBits .f32 0x7F800000#32 = ⊤ := by simp [Ideal.ofBits, Ideal.ieee]
  constructor
  all_goals
    intro j
    refine real_of_lt _ ?_
  · have := congrFun h0 j
    unfold Cert.Pre_finite_qk.fn at this
    pointwise [] at this
    rw [e] at this
    exact below this
  · have := congrFun h1 j
    unfold Cert.Pre_finite_qk.fn at this
    pointwise [] at this
    rw [e] at this
    exact below this

/-- The reference's frame: its arguments end unchanged, and it has no counters. -/
theorem frame_ri : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)

/-- The frame of the FFN's reference. -/
theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The side conditions of the merge call's precondition. -/
theorem yFacts : Cert.Pre_finite_y.Facts := ⟨by decide, by decide⟩

/-- What the merge's precondition says: every read is a real. -/
theorem y_real (m : (ℓ : Loc Cert.Kernel6Ideal.nD Cert.Kernel6Ideal.τ Cert.Kernel6Ideal.sig) → Buf (Elt Ideal) ℓ)
    (h : Cert.Pre_Kernel6Ideal_finite_y (hPre_finite_y := yFacts) m) (c : Dev Cert.Kernel6Ideal.nD) :
    ∀ j, ∃ r : ℝ, Cert.Merge.a0 c m j = (r : EReal) := by
  intro j
  have e : Ideal.ofBits .f32 0x7F800000#32 = ⊤ := by simp [Ideal.ofBits, Ideal.ieee]
  refine real_of_lt _ ?_
  have := congrFun (h c) j
  unfold Cert.Pre_finite_y.fn at this
  pointwise [] at this
  rw [e] at this
  exact below this

theorem uqFacts : Cert.Pre_finite_uq.Facts := ⟨by decide, by decide⟩

/-- What the query projection's precondition says: the gain and the weights are reals. -/
theorem uq_real (m : (ℓ : Loc Cert.Kernel8Ideal.nD Cert.Kernel8Ideal.τ Cert.Kernel8Ideal.sig) → Buf (Elt Ideal) ℓ)
    (h : Cert.Pre_Kernel8Ideal_finite_uq (hPre_finite_uq := uqFacts) m) (c : Dev Cert.Kernel8Ideal.nD) :
    (∀ j, ∃ r : ℝ, Cert.QProj.a1 m c j = (r : EReal)) ∧ ∀ j, ∃ r : ℝ, Cert.QProj.a2 m c j = (r : EReal) := by
  obtain ⟨h0, h1⟩ := h c
  have e : Ideal.ofBits .f32 0x7F800000#32 = ⊤ := by simp [Ideal.ofBits, Ideal.ieee]
  constructor
  all_goals
    intro j
    refine real_of_lt _ ?_
  · have := congrFun h0 j
    unfold Cert.Pre_finite_uq.fn at this
    pointwise [] at this
    rw [e] at this
    exact below this
  · have := congrFun h1 j
    unfold Cert.Pre_finite_uq.fn at this
    pointwise [] at this
    rw [e] at this
    exact below this

/-- The frame of the gates' reference. -/
theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The frame of the output projection's reference. -/
theorem frame_ri4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The frame of the input projection's reference. -/
theorem frame_ri5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The frame of the merge's reference. -/
theorem frame_ri6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The frame of the key and value projection's reference. -/
theorem frame_ri7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The frame of the query projection's reference. -/
theorem frame_ri8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

set_option maxHeartbeats 3200000 in
/-- Everything claimed: the frames, the idealizations, and the equation of each of the eight kernels with its reference: attention on finite
    queries and keys, the merge on finite reads, the query projection on finite gain and weights, the others on every input. -/
theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, preFacts, yFacts, uqFacts, by
  refine ⟨fun m ρ _ => Cert.Kernel.Gen.frame m ρ, fun m ρ _ => Cert.KernelIdeal.Gen.frame m ρ, fun m ρ _ => Cert.KernelIdeal.Gen.frame m ρ,
    frame_ri, fun m ρ _ => frame_ri m ρ trivial, fun m ρ _ => Cert.Kernel2.Gen.frame m ρ, fun m ρ _ => Cert.Kernel2Ideal.Gen.frame m ρ, frame_ri2,
    fun m ρ _ => Cert.Kernel3.Gen.frame m ρ, fun m ρ _ => Cert.Kernel3Ideal.Gen.frame m ρ, frame_ri3,
    fun m ρ _ => Cert.Kernel4.Gen.frame m ρ, fun m ρ _ => Cert.Kernel4Ideal.Gen.frame m ρ, frame_ri4,
    fun m ρ _ => Cert.Kernel5.Gen.frame m ρ, fun m ρ _ => Cert.Kernel5Ideal.Gen.frame m ρ, frame_ri5,
    fun m ρ _ => Cert.Kernel6.Gen.frame m ρ, fun m ρ _ => Cert.Kernel6Ideal.Gen.frame m ρ, fun m ρ _ => Cert.Kernel6Ideal.Gen.frame m ρ,
    frame_ri6, fun m ρ _ => frame_ri6 m ρ trivial,
    fun m ρ _ => Cert.Kernel7.Gen.frame m ρ, fun m ρ _ => Cert.Kernel7Ideal.Gen.frame m ρ, frame_ri7,
    fun m ρ _ => Cert.Kernel8.Gen.frame m ρ, fun m ρ _ => Cert.Kernel8Ideal.Gen.frame m ρ, fun m ρ _ => Cert.Kernel8Ideal.Gen.frame m ρ,
    frame_ri8, fun m ρ _ => frame_ri8 m ρ trivial, trivial, ?_, trivial, ?_, trivial, ?_, trivial, ?_, trivial, ?_, trivial, ?_, trivial, ?_, trivial, ?_⟩
  · pair_intro
    · run_from Cert.KernelIdeal.Value.run_blocks m g
    · run_from Cert.ReferenceIdeal.Value.run m' g'
      · obtain ⟨hq, hk⟩ := qk_real m hpre c
        exact (Cert.Attn.ref_eq _ _ _).trans (Cert.Attn.arr9 m c hq hk).symm
      · exact (Cert.Attn.arr10 m c).symm
      · exact (Cert.Attn.arr11 m c).symm
      · exact (Cert.Attn.arr12 m c).symm
      · exact (Cert.Attn.arr13 m c).symm
      · exact (Cert.Attn.arr14 m c).symm
      · exact (Cert.Attn.arr15 m c).symm
  · pair_intro
    · run_from Cert.Kernel2Ideal.Value.run_blocks m g
    · run_from Cert.Reference2Ideal.Value.run m' g'
      unfold Cert.Reference2Ideal.Value.res_main_v61
      refine (Cert.Ffn.ffn_eq _ _ _ _ _ _ _ _ _).trans ?_
      simp only [hagree c]
      exact (Cert.Ffn.arr11 m c).symm
  · pair_intro
    · run_from Cert.Kernel3Ideal.Value.run_blocks m g
    · run_from Cert.Reference3Ideal.Value.run m' g'
      exact (Cert.Gates.gates_eq _ _ _).trans (Cert.Gates.arr3 m c).symm
  · pair_intro
    · run_from Cert.Kernel4Ideal.Value.run_blocks m g
    · run_from Cert.Reference4Ideal.Value.run m' g'
      · exact (Cert.OutProj.out1_eq _ _ _ _ _).trans (Cert.OutProj.arr7 m c).symm
      · unfold Cert.Reference4Ideal.Value.res_main_v45
        refine (Cert.OutProj.out2_eq _ _ _ _ _ _ _).trans ?_
        simp only [hagree c]
        exact (Cert.OutProj.arr8 m c).symm
  · pair_intro
    · run_from Cert.Kernel5Ideal.Value.run_blocks m g
    · run_from Cert.Reference5Ideal.Value.run m' g'
      exact (Cert.InProj.proj_eq _ _).trans (Cert.InProj.arr2 m c).symm
  · pair_intro
    · run_from Cert.Kernel6Ideal.Value.run_blocks m g
    · run_from Cert.Reference6Ideal.Value.run m' g'
      rw [Cert.Merge.res_eq, Cert.Merge.merge_eq]
      simp only [hagree c]
      exact (Cert.Merge.arr11 c m (y_real m hpre c)).symm
  · pair_intro
    · run_from Cert.Kernel7Ideal.Value.run_blocks m g
    · run_from Cert.Reference7Ideal.Value.run m' g'
      · refine (Cert.KvProj.k_eq _ _ _ _ _).trans ?_
        simp only [hagree c]
        exact (Cert.KvProj.arr6 m c).symm
      · exact (Cert.KvProj.v_eq _ _ _).trans (Cert.KvProj.arr7 m c).symm
  · pair_intro
    · run_from Cert.Kernel8Ideal.Value.run_blocks m g
    · run_from Cert.Reference8Ideal.Value.run m' g'
      unfold Cert.Reference8Ideal.Value.res_main_v39
      obtain ⟨h1, h2⟩ := uq_real m hpre c
      refine (Cert.QProj.q_eq _ _ _ _ _).trans ?_
      simp only [hagree c]
      exact (Cert.QProj.arr5 m c h1 h2).symm⟩

end Cert.Proof

end
